-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v37_0)) (v1 : (c : Dev Cert.Kernel3Ideal.nD) → Buf (Elt Ideal) ((c.tc : Thread Cert.Kernel3Ideal.nD Cert.Kernel3Ideal.τ).loc Cert.Kernel3Ideal.main_v37_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v37_0) = v0 c
          ∧ r.2.mem ((c.tc : Thread Cert.Kernel3Ideal.nD Cert.Kernel3Ideal.τ).loc Cert.Kernel3Ideal.main_v37_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
-- ==== Pre_finite.lean ====
abbrev S2x16384x512 : Shape := ⟨3, ![2, 16384, 512]⟩
abbrev S2x16384x1024 : Shape := ⟨3, ![2, 16384, 1024]⟩
abbrev S64 : Shape := ⟨1, ![64]⟩
abbrev S1 : Shape := ⟨1, ![1]⟩
abbrev S128 : Shape := ⟨1, ![128]⟩
abbrev S_ : Shape := ⟨0, ![]⟩

class Facts : Prop where
  bcast_S_S2x16384x512 : S_.BroadcastsInDim S2x16384x512 (![] : Fin 0 → Fin S2x16384x512.rank)
  reducesTo_S2x16384x512_S_d0_1_2 : S2x16384x512.ReducesTo [0, 1, 2] S_
  h_S_ : 0 < S_.numel
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S1 .f32) (main_v33 : IVec S_ 1) : IVec S_ 1 :=
  let main_v34 : FVec F S1 .f32 := Host.absf main_arg10
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg7 : FVec F S64 .f32) (main_arg8 : FVec F S64 .f32) (main_arg9 : FVec F S64 .f32) (main_arg10 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_v33

def fn {F : FTy → Type} [FloatOps F] (main_arg0 : FVec F S2x16384x512 .f32) (main_arg1 : FVec F S2x16384x512 .f32) (main_arg2 : FVec F S2x16384x512 .f32) (main_arg3 : FVec F S2x16384x1024 .f32) (main_arg4 : FVec F S2x16384x1024 .f32) (main_arg5 : FVec F S2x16384x1024 .f32) (main_arg6 : FVec F S64 .f32) (main_arg7 : FVec F S64 .f32) (main_arg8 : FVec F S64 .f32) (main_arg9 : FVec F S64 .f32) (main_arg10 : FVec F S1 .f32) (main_arg11 : FVec F S128 .f32) : IVec S_ 1 :=
  let main_v0 : FVec F S2x16384x512 .f32 := Host.absf main_arg0
  let main_cst : FVec F S_ .f32 := constant S_ .f32 0x7F800000#32
  let main_v1 : FVec F S2x16384x512 .f32 := broadcastInDim S2x16384x512 ![] bcast_S_S2x16384x512 main_cst
  let main_v2 : IVec S2x16384x512 1 := cmpf .olt main_v0 main_v1
  let main_c : IVec S_ 1 := constantI S_ 1 1#1
  let main_v3 : IVec S_ 1 := (fun x v => Host.reduce IntOp.andi x v reducesTo_S2x16384x512_S_d0_1_2 h_S_) main_v2 main_c
  let main_v4 : FVec F S2x16384x512 .f32 := Host.absf main_arg1
  let main_cst_0 : FVec F S_ .f32 := constant S_ .f32 0x7F800000#32
  let main_v5 : FVec F S2x16384x512 .f32 := broadcastInDim S2x16384x512 ![] bcast_S_S2x16384x512 main_cst_0
  let main_v6 : IVec S2x16384x512 1 := cmpf .olt main_v4 main_v5
  let main_c_1 : IVec S_ 1 := constantI S_ 1 1#1
  let main_v7 : IVec S_ 1 := (fun x v => Host.reduce IntOp.andi x v reducesTo_S2x16384x512_S_d0_1_2 h_S_) main_v6 main_c_1
  let main_v8 : IVec S_ 1 := andi main_v3 main_v7
  let main_v9 : FVec F S2x16384x512 .f32 := Host.absf main_arg2
  let main_cst_2 : FVec F S_ .f32 := constant S_ .f32 0x7F800000#32
  let main_v10 : FVec F S2x16384x512 .f32 := broadcastInDim S2x16384x512 ![] bcast_S_S2x16384x512 main_cst_2
  let main_v11 : IVec S2x16384x512 1 := cmpf .olt main_v9 main_v10
  let main_c_3 : IVec S_ 1 := constantI S_ 1 1#1
  let main_v12 : IVec S_ 1 := (fun x v => Host.reduce IntOp.andi x v reducesTo_S2x16384x512_S_d0_1_2 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_v13 main_v16
-- ==== Pre_finite3.lean ====
abbrev S2x16384x1024 : Shape := ⟨3, ![2, 16384, 1024]⟩
abbrev S1024x2048 : Shape := ⟨2, ![1024, 2048]⟩
abbrev S1024x2560 : Shape := ⟨2, ![1024, 2560]⟩
abbrev S_ : Shape := ⟨0, ![]⟩

class Facts : Prop where
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S2x16384x1024 .f32) (main_arg1 : FVec F S1024x2048 .f32) (main_arg2 : FVec F S1024x2560 .f32) : IVec S_ 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_c : IVec S_ 1 := constantI S_ 1 1#1
  let main_v3 : IVec S_ 1 := (fun x v => Host.reduce IntOp.andi x v reducesTo_S2x16384x1024_S_d0_1_2 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Kernel.lean ====
abbrev S2x16384x512 : Shape := ⟨3, ![2, 16384, 512]⟩
abbrev S2x16384x1024 : Shape := ⟨3, ![2, 16384, 1024]⟩
abbrev S64 : Shape := ⟨1, ![64]⟩
abbrev S1 : Shape := ⟨1, ![1]⟩
abbrev S128 : Shape := ⟨1, ![128]⟩
abbrev S_ : Shape := ⟨0, ![]⟩
abbrev S2x16384x2048 : Shape := ⟨3, ![2, 16384, 2048]⟩
abbrev S2x16384x2560 : Shape := ⟨3, ![2, 16384, 2560]⟩
abbrev S8x128 : Shape := ⟨2, ![8, 128]⟩
abbrev S2 : Shape := ⟨1, ![2]⟩
abbrev S1x128 : Shape := ⟨2, ![1, 128]⟩
abbrev S1x1024x128 : Shape := ⟨3, ![1, 1024, 128]⟩
abbrev S1x16384x128 : Shape := ⟨3, ![1, 16384, 128]⟩
abbrev S2048x128 : Shape := ⟨2, ![2048, 128]⟩
abbrev S2048x256 : Shape := ⟨2, ![2048, 256]⟩
abbrev S2048x1024 : Shape := ⟨2, ![2048, 1024]⟩
abbrev S1024x128 : Shape := ⟨2, ![1024, 128]⟩
abbrev S1024x1024 : Shape := ⟨2, ![1024, 1024]⟩
abbrev S1024x256 : Shape := ⟨2, ![1024, 256]⟩
abbrev S1024 : Shape := ⟨1, ![1024]⟩
abbrev S1024x1 : Shape := ⟨2, ![1024, 1]⟩
abbrev S1x1 : Shape := ⟨2, ![1, 1]⟩

abbrev nBuf : Space → Nat
  | .hbm => 54
  | .vmem => 15
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x512, .f32⟩
  | .hbm, ⟨3, _⟩ => ⟨S2x16384x1024, .f32⟩
  | .hbm, ⟨4, _⟩ => ⟨S2x16384x1024, .f32⟩
  | .hbm, ⟨5, _⟩ => ⟨S2x16384x1024, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1, .f32⟩
  | .hbm, ⟨11, _⟩ => ⟨S128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2x16384x512, .f32⟩
  | .hbm, ⟨17, _⟩ => ⟨S2x16384x512, .f32⟩
  | .hbm, ⟨18, _⟩ => ⟨S2x16384x2048, .f32⟩
  | .hbm, ⟨19, _⟩ => ⟨S2x16384x2048, .bf16⟩
  | .hbm, ⟨20, _⟩ => ⟨S2x16384x2560, .f32⟩
  | .hbm, ⟨21, _⟩ => ⟨S2x16384x2560, .bf16⟩
  | .hbm, ⟨22, _⟩ => ⟨S_, .f32⟩
  | .hbm, ⟨23, _⟩ => ⟨S8x128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S8x128, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S8x128, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S8x128, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S8x128, .f32⟩
  | .hbm, ⟨48, _⟩ => ⟨S_, .i32⟩
  | .hbm, ⟨49, _⟩ => ⟨S1, .i32⟩
  | .hbm, ⟨50, _⟩ => ⟨S128, .f32⟩
  | .hbm, ⟨51, _⟩ => ⟨S8x128, .f32⟩
  | .hbm, ⟨52, _⟩ => ⟨S1x128, .f32⟩
  | .hbm, ⟨53, _⟩ => ⟨S2x16384x512, .bf16⟩
  | .local _ .vmem, ⟨0, _⟩ => ⟨S8x128, .f32⟩
  | .local _ .vmem, ⟨1, _⟩ => ⟨S1x128, .f32⟩
  | .local _ .vmem, ⟨2, _⟩ => ⟨S1x1024x128, .bf16⟩
  | .local _ .vmem, ⟨3, _⟩ => ⟨S1x1024x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x16384x128, .bf16⟩
  | .local _ .vmem, ⟨7, _⟩ => ⟨S1x16384x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S2048x128, .bf16⟩
  | .local _ .vmem, ⟨11, _⟩ => ⟨S2048x128, .f32⟩
  | .local _ .vmem, ⟨12, _⟩ => ⟨S2048x256, .f32⟩
  | .local _ .vmem, ⟨13, _⟩ => ⟨S2048x1024, .f32⟩
  | .local _ .vmem, ⟨14, _⟩ => ⟨S2048x1024, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_c_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_v17 : Ref sig .tc := ⟨.hbm, 37, rfl⟩
abbrev main_c_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_7 : Ref sig .tc := ⟨.hbm, 42, rfl⟩
abbrev main_v21 : Ref sig .tc := ⟨.hbm, 43, rfl⟩
abbrev main_c_8 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_9 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 16], ![false, false, false]⟩

def k0_mult1 : BitVec 32 :=
  let c0_i32_17 : BitVec 32 := 0#32
  c0_i32_17
@[reducible] def k0_t1_loop (i : grid0.Coords) : Scf.Loop 32 :=
  let c0_i32_37 : BitVec 32 := 0#32
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_30 : BitVec 32 := 0#32
  let v57 : BitVec 1 := Scalar.cmpi .sgt v41 c0_i32_30
  let v58 : BitVec 32 := Scalar.extui v57
  let c0_i32_31 : BitVec 32 := 0#32
  let v59 : BitVec 1 := Scalar.cmpi .slt v41 c0_i32_31
  let v60 : BitVec 32 := Scalar.extui v59
  let v61 : BitVec 32 := Scalar.subi v58 v60
  let c4_i32 : BitVec 32 := 4#32
  let c0_i32_32 : BitVec 32 := 0#32
  let v62 : BitVec 1 := Scalar.cmpi .sgt c4_i32 c0_i32_32
  let v63 : BitVec 32 := Scalar.extui v62
  let c0_i32_33 : BitVec 32 := 0#32
  let v64 : BitVec 1 := Scalar.cmpi .slt c4_i32 c0_i32_33
  let v65 : BitVec 32 := Scalar.extui v64
  let v66 : BitVec 32 := Scalar.subi v63 v65
  let v67 : BitVec 1 := Scalar.cmpi .ne v61 v66
  let v68 : BitVec 32 := Scalar.remsi v41 c4_i32
  let c0_i32_34 : BitVec 32 := 0#32
  let v69 : BitVec 1 := Scalar.cmpi .ne v68 c0_i32_34
  let v70 : BitVec 1 := Scalar.andi v67 v69
  let v56 : BitVec 32 := Scalar.divsi v41 c4_i32
  let c1_i32_35 : BitVec 32 := 1#32
  let v71 : BitVec 32 := Scalar.subi v56 c1_i32_35
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_39 : BitVec 32 := 1#32
  ⟨c0_i32_37, v77, c1_i32_39⟩
def k0_mult2 (i : grid0.Coords) (k0_t1 : Fin (k0_t1_loop i).trips) : BitVec 32 :=
  let c4_i32_75 : BitVec 32 := 4#32
  let c0_i32_37 : BitVec 32 := 0#32
  let c1_i32_39 : BitVec 32 := 1#32
  let arg14 : BitVec 32 := Scf.iv c0_i32_37 c1_i32_39 k0_t1
  let v160 : BitVec 32 := Scalar.muli c4_i32_75 arg14
  let c0_i32_76 : BitVec 32 := 0#32
  let v161 : BitVec 32 := Scalar.addi v160 c0_i32_76
  let c1_i32_77 : BitVec 32 := 1#32
  let v162 : BitVec 32 := Scalar.addi v161 c1_i32_77
  let c1024_i32_78 : BitVec 32 := 1024#32
  let v163 : BitVec 32 := Scalar.muli v162 c1024_i32_78
  v163
def k0_off1 (i : grid0.Coords) (k0_t1 : Fin (k0_t1_loop i).trips) (c0_i32_76 : BitVec 32) : Fin 3 → Nat :=
  let c0_79 : Index := 0#32
  let c4_i32_75 : BitVec 32 := 4#32
  let c0_i32_37 : BitVec 32 := 0#32
  let c1_i32_39 : BitVec 32 := 1#32
  let arg14 : BitVec 32 := Scf.iv c0_i32_37 c1_i32_39 k0_t1
  let v160 : BitVec 32 := Scalar.muli c4_i32_75 arg14
  let v161 : BitVec 32 := Scalar.addi v160 c0_i32_76
  let c1_i32_77 : BitVec 32 := 1#32
  let v162 : BitVec 32 := Scalar.addi v161 c1_i32_77
  let c1024_i32_78 : BitVec 32 := 1024#32
  let v163 : BitVec 32 := Scalar.muli v162 c1024_i32_78
  let v164 : BitVec 32 := v163
  let v165 : Index := Scalar.indexCast v164
  let c0_80 : Index := 0#32
  ![0, v165.toNat, 0]
def k0_mult3 (i : grid0.Coords) (k0_t1 : Fin (k0_t1_loop i).trips) : BitVec 32 :=
  let c4_i32_91 : BitVec 32 := 4#32
  let c0_i32_37 : BitVec 32 := 0#32
  let c1_i32_39 : BitVec 32 := 1#32
  let arg14 : BitVec 32 := Scf.iv c0_i32_37 c1_i32_39 k0_t1
  let v178 : BitVec 32 := Scalar.muli c4_i32_91 arg14
  let c0_i32_92 : BitVec 32 := 0#32
  let v179 : BitVec 32 := Scalar.addi v178 c0_i32_92
  let c1024_i32_93 : BitVec 32 := 1024#32
  let v180 : BitVec 32 := Scalar.muli v179 c1024_i32_93
  v180
def k0_off2 (i : grid0.Coords) (k0_t1 : Fin (k0_t1_loop i).trips) (c0_i32_92 : BitVec 32) : Fin 3 → Nat :=
  let c0_94 : Index := 0#32
  let c4_i32_91 : BitVec 32 := 4#32
  let c0_i32_37 : BitVec 32 := 0#32
  let c1_i32_39 : BitVec 32 := 1#32
  let arg14 : BitVec 32 := Scf.iv c0_i32_37 c1_i32_39 k0_t1
  let v178 : BitVec 32 := Scalar.muli c4_i32_91 arg14
  let v179 : BitVec 32 := Scalar.addi v178 c0_i32_92
  let c1024_i32_93 : BitVec 32 := 1024#32
  let v180 : BitVec 32 := Scalar.muli v179 c1024_i32_93
  let v181 : BitVec 32 := v180
  let v182 : Index := Scalar.indexCast v181
  let c0_95 : Index := 0#32
  ![0, v182.toNat, 0]
def k0_mult4 (i : grid0.Coords) (k0_t1 : Fin (k0_t1_loop i).trips) : BitVec 32 :=
  let c4_i32_121 : BitVec 32 := 4#32
  let c0_i32_37 : BitVec 32 := 0#32
  let c1_i32_39 : BitVec 32 := 1#32
  let arg14 : BitVec 32 := Scf.iv c0_i32_37 c1_i32_39 k0_t1
  let v233 : BitVec 32 := Scalar.muli c4_i32_121 arg14
  let c1_i32_122 : BitVec 32 := 1#32
  let v234 : BitVec 32 := Scalar.addi v233 c1_i32_122
  let c1_i32_123 : BitVec 32 := 1#32
  let v235 : BitVec 32 := Scalar.addi v234 c1_i32_123
  let c1024_i32_124 : BitVec 32 := 1024#32
  let v236 : BitVec 32 := Scalar.muli v235 c1024_i32_124
  v236
def k0_mult5 (i : grid0.Coords) (k0_t1 : Fin (k0_t1_loop i).trips) : BitVec 32 :=
  let c4_i32_137 : BitVec 32 := 4#32
  let c0_i32_37 : BitVec 32 := 0#32
  let c1_i32_39 : BitVec 32 := 1#32
  let arg14 : BitVec 32 := Scf.iv c0_i32_37 c1_i32_39 k0_t1
  let v251 : BitVec 32 := Scalar.muli c4_i32_137 arg14
  let c1_i32_138 : BitVec 32 := 1#32
  let v252 : BitVec 32 := Scalar.addi v251 c1_i32_138
  let c1024_i32_139 : BitVec 32 := 1024#32
  let v253 : BitVec 32 := Scalar.muli v252 c1024_i32_139
  v253
def k0_mult6 (i : grid0.Coords) (k0_t1 : Fin (k0_t1_loop i).trips) : BitVec 32 :=
  let c4_i32_167 : BitVec 32 := 4#32
  let c0_i32_37 : BitVec 32 := 0#32
  let c1_i32_39 : BitVec 32 := 1#32
  let arg14 : BitVec 32 := Scf.iv c0_i32_37 c1_i32_39 k0_t1
  let v306 : BitVec 32 := Scalar.muli c4_i32_167 arg14
  let c2_i32_168 : BitVec 32 := 2#32
  let v307 : BitVec 32 := Scalar.addi v306 c2_i32_168
  let c1_i32_169 : BitVec 32 := 1#32
  let v308 : BitVec 32 := Scalar.addi v307 c1_i32_169
  let c1024_i32_170 : BitVec 32 := 1024#32
  let v309 : BitVec 32 := Scalar.muli v308 c1024_i32_170
  v309
def k0_mult7 (i : grid0.Coords) (k0_t1 : Fin (k0_t1_loop i).trips) : BitVec 32 :=
  let c4_i32_183 : BitVec 32 := 4#32
  let c0_i32_37 : BitVec 32 := 0#32
  let c1_i32_39 : BitVec 32 := 1#32
  let arg14 : BitVec 32 := Scf.iv c0_i32_37 c1_i32_39 k0_t1
  let v324 : BitVec 32 := Scalar.muli c4_i32_183 arg14
  let c2_i32_184 : BitVec 32 := 2#32
  let v325 : BitVec 32 := Scalar.addi v324 c2_i32_184
  let c1024_i32_185 : BitVec 32 := 1024#32
  let v326 : BitVec 32 := Scalar.muli v325 c1024_i32_185
  v326
def k0_mult8 (i : grid0.Coords) (k0_t1 : Fin (k0_t1_loop i).trips) : BitVec 32 :=
  let c4_i32_213 : BitVec 32 := 4#32
  let c0_i32_37 : BitVec 32 := 0#32
  let c1_i32_39 : BitVec 32 := 1#32
  let arg14 : BitVec 32 := Scf.iv c0_i32_37 c1_i32_39 k0_t1
  let v379 : BitVec 32 := Scalar.muli c4_i32_213 arg14
  let c3_i32_214 : BitVec 32 := 3#32
  let v380 : BitVec 32 := Scalar.addi v379 c3_i32_214
  let c1_i32_215 : BitVec 32 := 1#32
  let v381 : BitVec 32 := Scalar.addi v380 c1_i32_215
  let c1024_i32_216 : BitVec 32 := 1024#32
  let v382 : BitVec 32 := Scalar.muli v381 c1024_i32_216
  v382
def k0_mult9 (i : grid0.Coords) (k0_t1 : Fin (k0_t1_loop i).trips) : BitVec 32 :=
  let c4_i32_229 : BitVec 32 := 4#32
  let c0_i32_37 : BitVec 32 := 0#32
  let c1_i32_39 : BitVec 32 := 1#32
  let arg14 : BitVec 32 := Scf.iv c0_i32_37 c1_i32_39 k0_t1
  let v397 : BitVec 32 := Scalar.muli c4_i32_229 arg14
  let c3_i32_230 : BitVec 32 := 3#32
  let v398 : BitVec 32 := Scalar.addi v397 c3_i32_230
  let c1024_i32_231 : BitVec 32 := 1024#32
  let v399 : BitVec 32 := Scalar.muli v398 c1024_i32_231
  v399
@[reducible] def k0_t2_loop (i : grid0.Coords) : Scf.Loop 32 :=
  let c0_i32_37 : BitVec 32 := 0#32
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_30 : BitVec 32 := 0#32
  let v57 : BitVec 1 := Scalar.cmpi .sgt v41 c0_i32_30
  let v58 : BitVec 32 := Scalar.extui v57
  let c0_i32_31 : BitVec 32 := 0#32
  let v59 : BitVec 1 := Scalar.cmpi .slt v41 c0_i32_31
  let v60 : BitVec 32 := Scalar.extui v59
  let v61 : BitVec 32 := Scalar.subi v58 v60
  let c4_i32 : BitVec 32 := 4#32
  let c0_i32_32 : BitVec 32 := 0#32
  let v62 : BitVec 1 := Scalar.cmpi .sgt c4_i32 c0_i32_32
  let v63 : BitVec 32 := Scalar.extui v62
  let c0_i32_33 : BitVec 32 := 0#32
  let v64 : BitVec 1 := Scalar.cmpi .slt c4_i32 c0_i32_33
  let v65 : BitVec 32 := Scalar.extui v64
  let v66 : BitVec 32 := Scalar.subi v63 v65
  let v67 : BitVec 1 := Scalar.cmpi .ne v61 v66
  let v68 : BitVec 32 := Scalar.remsi v41 c4_i32
  let c0_i32_34 : BitVec 32 := 0#32
  let v69 : BitVec 1 := Scalar.cmpi .ne v68 c0_i32_34
  let v70 : BitVec 1 := Scalar.andi v67 v69
  let v56 : BitVec 32 := Scalar.divsi v41 c4_i32
  let c1_i32_35 : BitVec 32 := 1#32
  let v71 : BitVec 32 := Scalar.subi v56 c1_i32_35
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let v74 : BitVec 32 := Scalar.addi c0_i32_37 v73
  let c1_i32_40 : BitVec 32 := 1#32
  ⟨v77, v74, c1_i32_40⟩
def k0_mult10 (i : grid0.Coords) (k0_t2 : Fin (k0_t2_loop i).trips) : BitVec 32 :=
  let c4_i32_75 : BitVec 32 := 4#32
  let c0_i32_37 : BitVec 32 := 0#32
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_30 : BitVec 32 := 0#32
  let v57 : BitVec 1 := Scalar.cmpi .sgt v41 c0_i32_30
  let v58 : BitVec 32 := Scalar.extui v57
  let c0_i32_31 : BitVec 32 := 0#32
  let v59 : BitVec 1 := Scalar.cmpi .slt v41 c0_i32_31
  let v60 : BitVec 32 := Scalar.extui v59
  let v61 : BitVec 32 := Scalar.subi v58 v60
  let c4_i32 : BitVec 32 := 4#32
  let c0_i32_32 : BitVec 32 := 0#32
  let v62 : BitVec 1 := Scalar.cmpi .sgt c4_i32 c0_i32_32
  let v63 : BitVec 32 := Scalar.extui v62
  let c0_i32_33 : BitVec 32 := 0#32
  let v64 : BitVec 1 := Scalar.cmpi .slt c4_i32 c0_i32_33
  let v65 : BitVec 32 := Scalar.extui v64
  let v66 : BitVec 32 := Scalar.subi v63 v65
  let v67 : BitVec 1 := Scalar.cmpi .ne v61 v66
  let v68 : BitVec 32 := Scalar.remsi v41 c4_i32
  let c0_i32_34 : BitVec 32 := 0#32
  let v69 : BitVec 1 := Scalar.cmpi .ne v68 c0_i32_34
  let v70 : BitVec 1 := Scalar.andi v67 v69
  let v56 : BitVec 32 := Scalar.divsi v41 c4_i32
  let c1_i32_35 : BitVec 32 := 1#32
  let v71 : BitVec 32 := Scalar.subi v56 c1_i32_35
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg14 : BitVec 32 := Scf.iv v77 c1_i32_40 k0_t2
  let v160 : BitVec 32 := Scalar.muli c4_i32_75 arg14
  let c0_i32_76 : BitVec 32 := 0#32
  let v161 : BitVec 32 := Scalar.addi v160 c0_i32_76
  let c1_i32_77 : BitVec 32 := 1#32
  let v162 : BitVec 32 := Scalar.addi v161 c1_i32_77
  let c1024_i32_78 : BitVec 32 := 1024#32
  let v163 : BitVec 32 := Scalar.muli v162 c1024_i32_78
  v163
def k0_off3 (i : grid0.Coords) (k0_t2 : Fin (k0_t2_loop i).trips) (c0_i32_76 : BitVec 32) : Fin 3 → Nat :=
  let c0_79 : Index := 0#32
  let c4_i32_75 : BitVec 32 := 4#32
  let c0_i32_37 : BitVec 32 := 0#32
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_30 : BitVec 32 := 0#32
  let v57 : BitVec 1 := Scalar.cmpi .sgt v41 c0_i32_30
  let v58 : BitVec 32 := Scalar.extui v57
  let c0_i32_31 : BitVec 32 := 0#32
  let v59 : BitVec 1 := Scalar.cmpi .slt v41 c0_i32_31
  let v60 : BitVec 32 := Scalar.extui v59
  let v61 : BitVec 32 := Scalar.subi v58 v60
  let c4_i32 : BitVec 32 := 4#32
  let c0_i32_32 : BitVec 32 := 0#32
  let v62 : BitVec 1 := Scalar.cmpi .sgt c4_i32 c0_i32_32
  let v63 : BitVec 32 := Scalar.extui v62
  let c0_i32_33 : BitVec 32 := 0#32
  let v64 : BitVec 1 := Scalar.cmpi .slt c4_i32 c0_i32_33
  let v65 : BitVec 32 := Scalar.extui v64
  let v66 : BitVec 32 := Scalar.subi v63 v65
  let v67 : BitVec 1 := Scalar.cmpi .ne v61 v66
  let v68 : BitVec 32 := Scalar.remsi v41 c4_i32
  let c0_i32_34 : BitVec 32 := 0#32
  let v69 : BitVec 1 := Scalar.cmpi .ne v68 c0_i32_34
  let v70 : BitVec 1 := Scalar.andi v67 v69
  let v56 : BitVec 32 := Scalar.divsi v41 c4_i32
  let c1_i32_35 : BitVec 32 := 1#32
  let v71 : BitVec 32 := Scalar.subi v56 c1_i32_35
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg14 : BitVec 32 := Scf.iv v77 c1_i32_40 k0_t2
  let v160 : BitVec 32 := Scalar.muli c4_i32_75 arg14
  let v161 : BitVec 32 := Scalar.addi v160 c0_i32_76
  let c1_i32_77 : BitVec 32 := 1#32
  let v162 : BitVec 32 := Scalar.addi v161 c1_i32_77
  let c1024_i32_78 : BitVec 32 := 1024#32
  let v163 : BitVec 32 := Scalar.muli v162 c1024_i32_78
  let v164 : BitVec 32 := v163
  let v165 : Index := Scalar.indexCast v164
  let c0_80 : Index := 0#32
  ![0, v165.toNat, 0]
def k0_mult11 (i : grid0.Coords) (k0_t2 : Fin (k0_t2_loop i).trips) : BitVec 32 :=
  let c4_i32_91 : BitVec 32 := 4#32
  let c0_i32_37 : BitVec 32 := 0#32
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_30 : BitVec 32 := 0#32
  let v57 : BitVec 1 := Scalar.cmpi .sgt v41 c0_i32_30
  let v58 : BitVec 32 := Scalar.extui v57
  let c0_i32_31 : BitVec 32 := 0#32
  let v59 : BitVec 1 := Scalar.cmpi .slt v41 c0_i32_31
  let v60 : BitVec 32 := Scalar.extui v59
  let v61 : BitVec 32 := Scalar.subi v58 v60
  let c4_i32 : BitVec 32 := 4#32
  let c0_i32_32 : BitVec 32 := 0#32
  let v62 : BitVec 1 := Scalar.cmpi .sgt c4_i32 c0_i32_32
  let v63 : BitVec 32 := Scalar.extui v62
  let c0_i32_33 : BitVec 32 := 0#32
  let v64 : BitVec 1 := Scalar.cmpi .slt c4_i32 c0_i32_33
  let v65 : BitVec 32 := Scalar.extui v64
  let v66 : BitVec 32 := Scalar.subi v63 v65
  let v67 : BitVec 1 := Scalar.cmpi .ne v61 v66
  let v68 : BitVec 32 := Scalar.remsi v41 c4_i32
  let c0_i32_34 : BitVec 32 := 0#32
  let v69 : BitVec 1 := Scalar.cmpi .ne v68 c0_i32_34
  let v70 : BitVec 1 := Scalar.andi v67 v69
  let v56 : BitVec 32 := Scalar.divsi v41 c4_i32
  let c1_i32_35 : BitVec 32 := 1#32
  let v71 : BitVec 32 := Scalar.subi v56 c1_i32_35
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg14 : BitVec 32 := Scf.iv v77 c1_i32_40 k0_t2
  let v178 : BitVec 32 := Scalar.muli c4_i32_91 arg14
  let c0_i32_92 : BitVec 32 := 0#32
  let v179 : BitVec 32 := Scalar.addi v178 c0_i32_92
  let c1024_i32_93 : BitVec 32 := 1024#32
  let v180 : BitVec 32 := Scalar.muli v179 c1024_i32_93
  v180
def k0_off4 (i : grid0.Coords) (k0_t2 : Fin (k0_t2_loop i).trips) (c0_i32_92 : BitVec 32) : Fin 3 → Nat :=
  let c0_94 : Index := 0#32
  let c4_i32_91 : BitVec 32 := 4#32
  let c0_i32_37 : BitVec 32 := 0#32
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_30 : BitVec 32 := 0#32
  let v57 : BitVec 1 := Scalar.cmpi .sgt v41 c0_i32_30
  let v58 : BitVec 32 := Scalar.extui v57
  let c0_i32_31 : BitVec 32 := 0#32
  let v59 : BitVec 1 := Scalar.cmpi .slt v41 c0_i32_31
  let v60 : BitVec 32 := Scalar.extui v59
  let v61 : BitVec 32 := Scalar.subi v58 v60
  let c4_i32 : BitVec 32 := 4#32
  let c0_i32_32 : BitVec 32 := 0#32
  let v62 : BitVec 1 := Scalar.cmpi .sgt c4_i32 c0_i32_32
  let v63 : BitVec 32 := Scalar.extui v62
  let c0_i32_33 : BitVec 32 := 0#32
  let v64 : BitVec 1 := Scalar.cmpi .slt c4_i32 c0_i32_33
  let v65 : BitVec 32 := Scalar.extui v64
  let v66 : BitVec 32 := Scalar.subi v63 v65
  let v67 : BitVec 1 := Scalar.cmpi .ne v61 v66
  let v68 : BitVec 32 := Scalar.remsi v41 c4_i32
  let c0_i32_34 : BitVec 32 := 0#32
  let v69 : BitVec 1 := Scalar.cmpi .ne v68 c0_i32_34
  let v70 : BitVec 1 := Scalar.andi v67 v69
  let v56 : BitVec 32 := Scalar.divsi v41 c4_i32
  let c1_i32_35 : BitVec 32 := 1#32
  let v71 : BitVec 32 := Scalar.subi v56 c1_i32_35
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg14 : BitVec 32 := Scf.iv v77 c1_i32_40 k0_t2
  let v178 : BitVec 32 := Scalar.muli c4_i32_91 arg14
  let v179 : BitVec 32 := Scalar.addi v178 c0_i32_92
  let c1024_i32_93 : BitVec 32 := 1024#32
  let v180 : BitVec 32 := Scalar.muli v179 c1024_i32_93
  let v181 : BitVec 32 := v180
  let v182 : Index := Scalar.indexCast v181
  let c0_95 : Index := 0#32
  ![0, v182.toNat, 0]
def k0_mult12 (i : grid0.Coords) (k0_t2 : Fin (k0_t2_loop i).trips) : BitVec 32 :=
  let c4_i32_121 : BitVec 32 := 4#32
  let c0_i32_37 : BitVec 32 := 0#32
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_30 : BitVec 32 := 0#32
  let v57 : BitVec 1 := Scalar.cmpi .sgt v41 c0_i32_30
  let v58 : BitVec 32 := Scalar.extui v57
  let c0_i32_31 : BitVec 32 := 0#32
  let v59 : BitVec 1 := Scalar.cmpi .slt v41 c0_i32_31
  let v60 : BitVec 32 := Scalar.extui v59
  let v61 : BitVec 32 := Scalar.subi v58 v60
  let c4_i32 : BitVec 32 := 4#32
  let c0_i32_32 : BitVec 32 := 0#32
  let v62 : BitVec 1 := Scalar.cmpi .sgt c4_i32 c0_i32_32
  let v63 : BitVec 32 := Scalar.extui v62
  let c0_i32_33 : BitVec 32 := 0#32
  let v64 : BitVec 1 := Scalar.cmpi .slt c4_i32 c0_i32_33
  let v65 : BitVec 32 := Scalar.extui v64
  let v66 : BitVec 32 := Scalar.subi v63 v65
  let v67 : BitVec 1 := Scalar.cmpi .ne v61 v66
  let v68 : BitVec 32 := Scalar.remsi v41 c4_i32
  let c0_i32_34 : BitVec 32 := 0#32
  let v69 : BitVec 1 := Scalar.cmpi .ne v68 c0_i32_34
  let v70 : BitVec 1 := Scalar.andi v67 v69
  let v56 : BitVec 32 := Scalar.divsi v41 c4_i32
  let c1_i32_35 : BitVec 32 := 1#32
  let v71 : BitVec 32 := Scalar.subi v56 c1_i32_35
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg14 : BitVec 32 := Scf.iv v77 c1_i32_40 k0_t2
  let v233 : BitVec 32 := Scalar.muli c4_i32_121 arg14
  let c1_i32_122 : BitVec 32 := 1#32
  let v234 : BitVec 32 := Scalar.addi v233 c1_i32_122
  let c1_i32_123 : BitVec 32 := 1#32
  let v235 : BitVec 32 := Scalar.addi v234 c1_i32_123
  let c1024_i32_124 : BitVec 32 := 1024#32
  let v236 : BitVec 32 := Scalar.muli v235 c1024_i32_124
  v236
def k0_mult13 (i : grid0.Coords) (k0_t2 : Fin (k0_t2_loop i).trips) : BitVec 32 :=
  let c4_i32_137 : BitVec 32 := 4#32
  let c0_i32_37 : BitVec 32 := 0#32
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_30 : BitVec 32 := 0#32
  let v57 : BitVec 1 := Scalar.cmpi .sgt v41 c0_i32_30
  let v58 : BitVec 32 := Scalar.extui v57
  let c0_i32_31 : BitVec 32 := 0#32
  let v59 : BitVec 1 := Scalar.cmpi .slt v41 c0_i32_31
  let v60 : BitVec 32 := Scalar.extui v59
  let v61 : BitVec 32 := Scalar.subi v58 v60
  let c4_i32 : BitVec 32 := 4#32
  let c0_i32_32 : BitVec 32 := 0#32
  let v62 : BitVec 1 := Scalar.cmpi .sgt c4_i32 c0_i32_32
  let v63 : BitVec 32 := Scalar.extui v62
  let c0_i32_33 : BitVec 32 := 0#32
  let v64 : BitVec 1 := Scalar.cmpi .slt c4_i32 c0_i32_33
  let v65 : BitVec 32 := Scalar.extui v64
  let v66 : BitVec 32 := Scalar.subi v63 v65
  let v67 : BitVec 1 := Scalar.cmpi .ne v61 v66
  let v68 : BitVec 32 := Scalar.remsi v41 c4_i32
  let c0_i32_34 : BitVec 32 := 0#32
  let v69 : BitVec 1 := Scalar.cmpi .ne v68 c0_i32_34
  let v70 : BitVec 1 := Scalar.andi v67 v69
  let v56 : BitVec 32 := Scalar.divsi v41 c4_i32
  let c1_i32_35 : BitVec 32 := 1#32
  let v71 : BitVec 32 := Scalar.subi v56 c1_i32_35
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg14 : BitVec 32 := Scf.iv v77 c1_i32_40 k0_t2
  let v251 : BitVec 32 := Scalar.muli c4_i32_137 arg14
  let c1_i32_138 : BitVec 32 := 1#32
  let v252 : BitVec 32 := Scalar.addi v251 c1_i32_138
  let c1024_i32_139 : BitVec 32 := 1024#32
  let v253 : BitVec 32 := Scalar.muli v252 c1024_i32_139
  v253
def k0_mult14 (i : grid0.Coords) (k0_t2 : Fin (k0_t2_loop i).trips) : BitVec 32 :=
  let c4_i32_167 : BitVec 32 := 4#32
  let c0_i32_37 : BitVec 32 := 0#32
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_30 : BitVec 32 := 0#32
  let v57 : BitVec 1 := Scalar.cmpi .sgt v41 c0_i32_30
  let v58 : BitVec 32 := Scalar.extui v57
  let c0_i32_31 : BitVec 32 := 0#32
  let v59 : BitVec 1 := Scalar.cmpi .slt v41 c0_i32_31
  let v60 : BitVec 32 := Scalar.extui v59
  let v61 : BitVec 32 := Scalar.subi v58 v60
  let c4_i32 : BitVec 32 := 4#32
  let c0_i32_32 : BitVec 32 := 0#32
  let v62 : BitVec 1 := Scalar.cmpi .sgt c4_i32 c0_i32_32
  let v63 : BitVec 32 := Scalar.extui v62
  let c0_i32_33 : BitVec 32 := 0#32
  let v64 : BitVec 1 := Scalar.cmpi .slt c4_i32 c0_i32_33
  let v65 : BitVec 32 := Scalar.extui v64
  let v66 : BitVec 32 := Scalar.subi v63 v65
  let v67 : BitVec 1 := Scalar.cmpi .ne v61 v66
  let v68 : BitVec 32 := Scalar.remsi v41 c4_i32
  let c0_i32_34 : BitVec 32 := 0#32
  let v69 : BitVec 1 := Scalar.cmpi .ne v68 c0_i32_34
  let v70 : BitVec 1 := Scalar.andi v67 v69
  let v56 : BitVec 32 := Scalar.divsi v41 c4_i32
  let c1_i32_35 : BitVec 32 := 1#32
  let v71 : BitVec 32 := Scalar.subi v56 c1_i32_35
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg14 : BitVec 32 := Scf.iv v77 c1_i32_40 k0_t2
  let v306 : BitVec 32 := Scalar.muli c4_i32_167 arg14
  let c2_i32_168 : BitVec 32 := 2#32
  let v307 : BitVec 32 := Scalar.addi v306 c2_i32_168
  let c1_i32_169 : BitVec 32 := 1#32
  let v308 : BitVec 32 := Scalar.addi v307 c1_i32_169
  let c1024_i32_170 : BitVec 32 := 1024#32
  let v309 : BitVec 32 := Scalar.muli v308 c1024_i32_170
  v309
def k0_mult15 (i : grid0.Coords) (k0_t2 : Fin (k0_t2_loop i).trips) : BitVec 32 :=
  let c4_i32_183 : BitVec 32 := 4#32
  let c0_i32_37 : BitVec 32 := 0#32
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_30 : BitVec 32 := 0#32
  let v57 : BitVec 1 := Scalar.cmpi .sgt v41 c0_i32_30
  let v58 : BitVec 32 := Scalar.extui v57
  let c0_i32_31 : BitVec 32 := 0#32
  let v59 : BitVec 1 := Scalar.cmpi .slt v41 c0_i32_31
  let v60 : BitVec 32 := Scalar.extui v59
  let v61 : BitVec 32 := Scalar.subi v58 v60
  let c4_i32 : BitVec 32 := 4#32
  let c0_i32_32 : BitVec 32 := 0#32
  let v62 : BitVec 1 := Scalar.cmpi .sgt c4_i32 c0_i32_32
  let v63 : BitVec 32 := Scalar.extui v62
  let c0_i32_33 : BitVec 32 := 0#32
  let v64 : BitVec 1 := Scalar.cmpi .slt c4_i32 c0_i32_33
  let v65 : BitVec 32 := Scalar.extui v64
  let v66 : BitVec 32 := Scalar.subi v63 v65
  let v67 : BitVec 1 := Scalar.cmpi .ne v61 v66
  let v68 : BitVec 32 := Scalar.remsi v41 c4_i32
  let c0_i32_34 : BitVec 32 := 0#32
  let v69 : BitVec 1 := Scalar.cmpi .ne v68 c0_i32_34
  let v70 : BitVec 1 := Scalar.andi v67 v69
  let v56 : BitVec 32 := Scalar.divsi v41 c4_i32
  let c1_i32_35 : BitVec 32 := 1#32
  let v71 : BitVec 32 := Scalar.subi v56 c1_i32_35
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg14 : BitVec 32 := Scf.iv v77 c1_i32_40 k0_t2
  let v324 : BitVec 32 := Scalar.muli c4_i32_183 arg14
  let c2_i32_184 : BitVec 32 := 2#32
  let v325 : BitVec 32 := Scalar.addi v324 c2_i32_184
  let c1024_i32_185 : BitVec 32 := 1024#32
  let v326 : BitVec 32 := Scalar.muli v325 c1024_i32_185
  v326
def k0_mult16 (i : grid0.Coords) (k0_t2 : Fin (k0_t2_loop i).trips) : BitVec 32 :=
  let c4_i32_213 : BitVec 32 := 4#32
  let c0_i32_37 : BitVec 32 := 0#32
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_30 : BitVec 32 := 0#32
  let v57 : BitVec 1 := Scalar.cmpi .sgt v41 c0_i32_30
  let v58 : BitVec 32 := Scalar.extui v57
  let c0_i32_31 : BitVec 32 := 0#32
  let v59 : BitVec 1 := Scalar.cmpi .slt v41 c0_i32_31
  let v60 : BitVec 32 := Scalar.extui v59
  let v61 : BitVec 32 := Scalar.subi v58 v60
  let c4_i32 : BitVec 32 := 4#32
  let c0_i32_32 : BitVec 32 := 0#32
  let v62 : BitVec 1 := Scalar.cmpi .sgt c4_i32 c0_i32_32
  let v63 : BitVec 32 := Scalar.extui v62
  let c0_i32_33 : BitVec 32 := 0#32
  let v64 : BitVec 1 := Scalar.cmpi .slt c4_i32 c0_i32_33
  let v65 : BitVec 32 := Scalar.extui v64
  let v66 : BitVec 32 := Scalar.subi v63 v65
  let v67 : BitVec 1 := Scalar.cmpi .ne v61 v66
  let v68 : BitVec 32 := Scalar.remsi v41 c4_i32
  let c0_i32_34 : BitVec 32 := 0#32
  let v69 : BitVec 1 := Scalar.cmpi .ne v68 c0_i32_34
  let v70 : BitVec 1 := Scalar.andi v67 v69
  let v56 : BitVec 32 := Scalar.divsi v41 c4_i32
  let c1_i32_35 : BitVec 32 := 1#32
  let v71 : BitVec 32 := Scalar.subi v56 c1_i32_35
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg14 : BitVec 32 := Scf.iv v77 c1_i32_40 k0_t2
  let v379 : BitVec 32 := Scalar.muli c4_i32_213 arg14
  let c3_i32_214 : BitVec 32 := 3#32
  let v380 : BitVec 32 := Scalar.addi v379 c3_i32_214
  let c1_i32_215 : BitVec 32 := 1#32
  let v381 : BitVec 32 := Scalar.addi v380 c1_i32_215
  let c1024_i32_216 : BitVec 32 := 1024#32
  let v382 : BitVec 32 := Scalar.muli v381 c1024_i32_216
  v382
def k0_mult17 (i : grid0.Coords) (k0_t2 : Fin (k0_t2_loop i).trips) : BitVec 32 :=
  let c4_i32_229 : BitVec 32 := 4#32
  let c0_i32_37 : BitVec 32 := 0#32
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_30 : BitVec 32 := 0#32
  let v57 : BitVec 1 := Scalar.cmpi .sgt v41 c0_i32_30
  let v58 : BitVec 32 := Scalar.extui v57
  let c0_i32_31 : BitVec 32 := 0#32
  let v59 : BitVec 1 := Scalar.cmpi .slt v41 c0_i32_31
  let v60 : BitVec 32 := Scalar.extui v59
  let v61 : BitVec 32 := Scalar.subi v58 v60
  let c4_i32 : BitVec 32 := 4#32
  let c0_i32_32 : BitVec 32 := 0#32
  let v62 : BitVec 1 := Scalar.cmpi .sgt c4_i32 c0_i32_32
  let v63 : BitVec 32 := Scalar.extui v62
  let c0_i32_33 : BitVec 32 := 0#32
  let v64 : BitVec 1 := Scalar.cmpi .slt c4_i32 c0_i32_33
  let v65 : BitVec 32 := Scalar.extui v64
  let v66 : BitVec 32 := Scalar.subi v63 v65
  let v67 : BitVec 1 := Scalar.cmpi .ne v61 v66
  let v68 : BitVec 32 := Scalar.remsi v41 c4_i32
  let c0_i32_34 : BitVec 32 := 0#32
  let v69 : BitVec 1 := Scalar.cmpi .ne v68 c0_i32_34
  let v70 : BitVec 1 := Scalar.andi v67 v69
  let v56 : BitVec 32 := Scalar.divsi v41 c4_i32
  let c1_i32_35 : BitVec 32 := 1#32
  let v71 : BitVec 32 := Scalar.subi v56 c1_i32_35
  let v72 : BitVec 32 := Scalar.select v70 v71 v56
  let v73 : BitVec 32 := Scalar.subi v72 c0_i32_37
  let c1_i32_38 : BitVec 32 := 1#32
  let v75 : BitVec 32 := Scalar.divsi v73 c1_i32_38
  let v76 : BitVec 32 := Scalar.muli v75 c1_i32_38
  let v77 : BitVec 32 := Scalar.addi c0_i32_37 v76
  let c1_i32_40 : BitVec 32 := 1#32
  let arg14 : BitVec 32 := Scf.iv v77 c1_i32_40 k0_t2
  let v397 : BitVec 32 := Scalar.muli c4_i32_229 arg14
  let c3_i32_230 : BitVec 32 := 3#32
  let v398 : BitVec 32 := Scalar.addi v397 c3_i32_230
  let c1024_i32_231 : BitVec 32 := 1024#32
  let v399 : BitVec 32 := Scalar.muli v398 c1024_i32_231
  v399
def k0_cond1 (i : grid0.Coords) : BitVec 1 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let v96 : BitVec 32 := Scalar.subi v41 v95
  let c0_i32_49 : BitVec 32 := 0#32
  let v97 : BitVec 1 := Scalar.cmpi .eq v96 c0_i32_49
  let v98 : BitVec 32 := Scalar.extui v97
  let c0_i32_50 : BitVec 32 := 0#32
  let v99 : BitVec 1 := Scalar.cmpi .ne v98 c0_i32_50
  v99

def k0_mult18 (i : grid0.Coords) : BitVec 32 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let c0_i32_75 : BitVec 32 := 0#32
  let v160 : BitVec 32 := Scalar.addi v95 c0_i32_75
  let c1024_i32_76 : BitVec 32 := 1024#32
  let v161 : BitVec 32 := Scalar.muli v160 c1024_i32_76
  v161
def k0_off5 (i : grid0.Coords) : Fin 3 → Nat :=
  let c0_77 : Index := 0#32
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let c0_i32_75 : BitVec 32 := 0#32
  let v160 : BitVec 32 := Scalar.addi v95 c0_i32_75
  let c1024_i32_76 : BitVec 32 := 1024#32
  let v161 : BitVec 32 := Scalar.muli v160 c1024_i32_76
  let v162 : BitVec 32 := v161
  let v163 : Index := Scalar.indexCast v162
  let c0_78 : Index := 0#32
  ![0, v163.toNat, 0]
def k0_cond2 (i : grid0.Coords) : BitVec 1 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let v100 : BitVec 32 := Scalar.subi v41 v95
  let c1_i32_51 : BitVec 32 := 1#32
  let v101 : BitVec 1 := Scalar.cmpi .eq v100 c1_i32_51
  let v102 : BitVec 32 := Scalar.extui v101
  let c0_i32_52 : BitVec 32 := 0#32
  let v103 : BitVec 1 := Scalar.cmpi .ne v102 c0_i32_52
  v103

def k0_mult19 (i : grid0.Coords) : BitVec 32 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let c0_i32_75 : BitVec 32 := 0#32
  let v160 : BitVec 32 := Scalar.addi v95 c0_i32_75
  let c1_i32_76 : BitVec 32 := 1#32
  let v161 : BitVec 32 := Scalar.addi v160 c1_i32_76
  let c1024_i32_77 : BitVec 32 := 1024#32
  let v162 : BitVec 32 := Scalar.muli v161 c1024_i32_77
  v162
def k0_off6 (i : grid0.Coords) : Fin 3 → Nat :=
  let c0_78 : Index := 0#32
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let c0_i32_75 : BitVec 32 := 0#32
  let v160 : BitVec 32 := Scalar.addi v95 c0_i32_75
  let c1_i32_76 : BitVec 32 := 1#32
  let v161 : BitVec 32 := Scalar.addi v160 c1_i32_76
  let c1024_i32_77 : BitVec 32 := 1024#32
  let v162 : BitVec 32 := Scalar.muli v161 c1024_i32_77
  let v163 : BitVec 32 := v162
  let v164 : Index := Scalar.indexCast v163
  let c0_79 : Index := 0#32
  ![0, v164.toNat, 0]
def k0_mult20 (i : grid0.Coords) : BitVec 32 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let c0_i32_90 : BitVec 32 := 0#32
  let v177 : BitVec 32 := Scalar.addi v95 c0_i32_90
  let c1024_i32_91 : BitVec 32 := 1024#32
  let v178 : BitVec 32 := Scalar.muli v177 c1024_i32_91
  v178
def k0_off7 (i : grid0.Coords) (c0_i32_90 : BitVec 32) : Fin 3 → Nat :=
  let c0_92 : Index := 0#32
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let v177 : BitVec 32 := Scalar.addi v95 c0_i32_90
  let c1024_i32_91 : BitVec 32 := 1024#32
  let v178 : BitVec 32 := Scalar.muli v177 c1024_i32_91
  let v179 : BitVec 32 := v178
  let v180 : Index := Scalar.indexCast v179
  let c0_93 : Index := 0#32
  ![0, v180.toNat, 0]
def k0_mult21 (i : grid0.Coords) : BitVec 32 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let c1_i32_119 : BitVec 32 := 1#32
  let v231 : BitVec 32 := Scalar.addi v95 c1_i32_119
  let c1024_i32_120 : BitVec 32 := 1024#32
  let v232 : BitVec 32 := Scalar.muli v231 c1024_i32_120
  v232
def k0_cond3 (i : grid0.Coords) : BitVec 1 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let v104 : BitVec 32 := Scalar.subi v41 v95
  let c2_i32 : BitVec 32 := 2#32
  let v105 : BitVec 1 := Scalar.cmpi .eq v104 c2_i32
  let v106 : BitVec 32 := Scalar.extui v105
  let c0_i32_53 : BitVec 32 := 0#32
  let v107 : BitVec 1 := Scalar.cmpi .ne v106 c0_i32_53
  v107

def k0_mult22 (i : grid0.Coords) : BitVec 32 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let c0_i32_75 : BitVec 32 := 0#32
  let v160 : BitVec 32 := Scalar.addi v95 c0_i32_75
  let c1_i32_76 : BitVec 32 := 1#32
  let v161 : BitVec 32 := Scalar.addi v160 c1_i32_76
  let c1024_i32_77 : BitVec 32 := 1024#32
  let v162 : BitVec 32 := Scalar.muli v161 c1024_i32_77
  v162
def k0_off8 (i : grid0.Coords) (c0_i32_75 : BitVec 32) : Fin 3 → Nat :=
  let c0_78 : Index := 0#32
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let v160 : BitVec 32 := Scalar.addi v95 c0_i32_75
  let c1_i32_76 : BitVec 32 := 1#32
  let v161 : BitVec 32 := Scalar.addi v160 c1_i32_76
  let c1024_i32_77 : BitVec 32 := 1024#32
  let v162 : BitVec 32 := Scalar.muli v161 c1024_i32_77
  let v163 : BitVec 32 := v162
  let v164 : Index := Scalar.indexCast v163
  let c0_79 : Index := 0#32
  ![0, v164.toNat, 0]
def k0_mult23 (i : grid0.Coords) : BitVec 32 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let c0_i32_90 : BitVec 32 := 0#32
  let v177 : BitVec 32 := Scalar.addi v95 c0_i32_90
  let c1024_i32_91 : BitVec 32 := 1024#32
  let v178 : BitVec 32 := Scalar.muli v177 c1024_i32_91
  v178
def k0_off9 (i : grid0.Coords) (c0_i32_90 : BitVec 32) : Fin 3 → Nat :=
  let c0_92 : Index := 0#32
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let v177 : BitVec 32 := Scalar.addi v95 c0_i32_90
  let c1024_i32_91 : BitVec 32 := 1024#32
  let v178 : BitVec 32 := Scalar.muli v177 c1024_i32_91
  let v179 : BitVec 32 := v178
  let v180 : Index := Scalar.indexCast v179
  let c0_93 : Index := 0#32
  ![0, v180.toNat, 0]
def k0_mult24 (i : grid0.Coords) : BitVec 32 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let c1_i32_119 : BitVec 32 := 1#32
  let v231 : BitVec 32 := Scalar.addi v95 c1_i32_119
  let c1_i32_120 : BitVec 32 := 1#32
  let v232 : BitVec 32 := Scalar.addi v231 c1_i32_120
  let c1024_i32_121 : BitVec 32 := 1024#32
  let v233 : BitVec 32 := Scalar.muli v232 c1024_i32_121
  v233
def k0_mult25 (i : grid0.Coords) : BitVec 32 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let c1_i32_134 : BitVec 32 := 1#32
  let v248 : BitVec 32 := Scalar.addi v95 c1_i32_134
  let c1024_i32_135 : BitVec 32 := 1024#32
  let v249 : BitVec 32 := Scalar.muli v248 c1024_i32_135
  v249
def k0_mult26 (i : grid0.Coords) : BitVec 32 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let c2_i32_163 : BitVec 32 := 2#32
  let v302 : BitVec 32 := Scalar.addi v95 c2_i32_163
  let c1024_i32_164 : BitVec 32 := 1024#32
  let v303 : BitVec 32 := Scalar.muli v302 c1024_i32_164
  v303
def k0_cond4 (i : grid0.Coords) : BitVec 1 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let v108 : BitVec 32 := Scalar.subi v41 v95
  let c3_i32 : BitVec 32 := 3#32
  let v109 : BitVec 1 := Scalar.cmpi .eq v108 c3_i32
  let v110 : BitVec 32 := Scalar.extui v109
  let c0_i32_54 : BitVec 32 := 0#32
  let v111 : BitVec 1 := Scalar.cmpi .ne v110 c0_i32_54
  v111

def k0_mult27 (i : grid0.Coords) : BitVec 32 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let c0_i32_75 : BitVec 32 := 0#32
  let v160 : BitVec 32 := Scalar.addi v95 c0_i32_75
  let c1_i32_76 : BitVec 32 := 1#32
  let v161 : BitVec 32 := Scalar.addi v160 c1_i32_76
  let c1024_i32_77 : BitVec 32 := 1024#32
  let v162 : BitVec 32 := Scalar.muli v161 c1024_i32_77
  v162
def k0_off10 (i : grid0.Coords) (c0_i32_75 : BitVec 32) : Fin 3 → Nat :=
  let c0_78 : Index := 0#32
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let v160 : BitVec 32 := Scalar.addi v95 c0_i32_75
  let c1_i32_76 : BitVec 32 := 1#32
  let v161 : BitVec 32 := Scalar.addi v160 c1_i32_76
  let c1024_i32_77 : BitVec 32 := 1024#32
  let v162 : BitVec 32 := Scalar.muli v161 c1024_i32_77
  let v163 : BitVec 32 := v162
  let v164 : Index := Scalar.indexCast v163
  let c0_79 : Index := 0#32
  ![0, v164.toNat, 0]
def k0_mult28 (i : grid0.Coords) : BitVec 32 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let c0_i32_90 : BitVec 32 := 0#32
  let v177 : BitVec 32 := Scalar.addi v95 c0_i32_90
  let c1024_i32_91 : BitVec 32 := 1024#32
  let v178 : BitVec 32 := Scalar.muli v177 c1024_i32_91
  v178
def k0_off11 (i : grid0.Coords) (c0_i32_90 : BitVec 32) : Fin 3 → Nat :=
  let c0_92 : Index := 0#32
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let v177 : BitVec 32 := Scalar.addi v95 c0_i32_90
  let c1024_i32_91 : BitVec 32 := 1024#32
  let v178 : BitVec 32 := Scalar.muli v177 c1024_i32_91
  let v179 : BitVec 32 := v178
  let v180 : Index := Scalar.indexCast v179
  let c0_93 : Index := 0#32
  ![0, v180.toNat, 0]
def k0_mult29 (i : grid0.Coords) : BitVec 32 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let c1_i32_119 : BitVec 32 := 1#32
  let v231 : BitVec 32 := Scalar.addi v95 c1_i32_119
  let c1_i32_120 : BitVec 32 := 1#32
  let v232 : BitVec 32 := Scalar.addi v231 c1_i32_120
  let c1024_i32_121 : BitVec 32 := 1024#32
  let v233 : BitVec 32 := Scalar.muli v232 c1024_i32_121
  v233
def k0_mult30 (i : grid0.Coords) : BitVec 32 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let c1_i32_134 : BitVec 32 := 1#32
  let v248 : BitVec 32 := Scalar.addi v95 c1_i32_134
  let c1024_i32_135 : BitVec 32 := 1024#32
  let v249 : BitVec 32 := Scalar.muli v248 c1024_i32_135
  v249
def k0_mult31 (i : grid0.Coords) : BitVec 32 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let c2_i32_163 : BitVec 32 := 2#32
  let v302 : BitVec 32 := Scalar.addi v95 c2_i32_163
  let c1_i32_164 : BitVec 32 := 1#32
  let v303 : BitVec 32 := Scalar.addi v302 c1_i32_164
  let c1024_i32_165 : BitVec 32 := 1024#32
  let v304 : BitVec 32 := Scalar.muli v303 c1024_i32_165
  v304
def k0_mult32 (i : grid0.Coords) : BitVec 32 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let c2_i32_178 : BitVec 32 := 2#32
  let v319 : BitVec 32 := Scalar.addi v95 c2_i32_178
  let c1024_i32_179 : BitVec 32 := 1024#32
  let v320 : BitVec 32 := Scalar.muli v319 c1024_i32_179
  v320
def k0_mult33 (i : grid0.Coords) : BitVec 32 :=
  let arg2 : BitVec 32 := BitVec.ofNat 32 (i 2).val
  let c1024_i32 : BitVec 32 := 1024#32
  let v24 : BitVec 32 := Scalar.muli arg2 c1024_i32
  let c0_i32 : BitVec 32 := 0#32
  let v26 : BitVec 1 := Scalar.cmpi .sgt v24 c0_i32
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c1024_i32_12 : BitVec 32 := 1024#32
  let c0_i32_14 : BitVec 32 := 0#32
  let v31 : BitVec 1 := Scalar.cmpi .sgt c1024_i32_12 c0_i32_14
  let v32 : BitVec 32 := Scalar.extui v31
  let c0_i32_15 : BitVec 32 := 0#32
  let v33 : BitVec 1 := Scalar.cmpi .slt c1024_i32_12 c0_i32_15
  let v34 : BitVec 32 := Scalar.extui v33
  let v35 : BitVec 32 := Scalar.subi v32 v34
  let v36 : BitVec 1 := Scalar.cmpi .ne v30 v35
  let v37 : BitVec 32 := Scalar.remsi v24 c1024_i32_12
  let c0_i32_16 : BitVec 32 := 0#32
  let v38 : BitVec 1 := Scalar.cmpi .ne v37 c0_i32_16
  let v39 : BitVec 1 := Scalar.andi v36 v38
  let v25 : BitVec 32 := Scalar.divsi v24 c1024_i32_12
  let c1_i32 : BitVec 32 := 1#32
  let v40 : BitVec 32 := Scalar.subi v25 c1_i32
  let v41 : BitVec 32 := Scalar.select v39 v40 v25
  let c0_i32_42 : BitVec 32 := 0#32
  let v79 : BitVec 1 := Scalar.cmpi .sgt v41 c0_i32_42
  let v80 : BitVec 32 := Scalar.extui v79
  let c0_i32_43 : BitVec 32 := 0#32
  let v81 : BitVec 1 := Scalar.cmpi .slt v41 c0_i32_43
  let v82 : BitVec 32 := Scalar.extui v81
  let v83 : BitVec 32 := Scalar.subi v80 v82
  let c4_i32_41 : BitVec 32 := 4#32
  let c0_i32_44 : BitVec 32 := 0#32
  let v84 : BitVec 1 := Scalar.cmpi .sgt c4_i32_41 c0_i32_44
  let v85 : BitVec 32 := Scalar.extui v84
  let c0_i32_45 : BitVec 32 := 0#32
  let v86 : BitVec 1 := Scalar.cmpi .slt c4_i32_41 c0_i32_45
  let v87 : BitVec 32 := Scalar.extui v86
  let v88 : BitVec 32 := Scalar.subi v85 v87
  let v89 : BitVec 1 := Scalar.cmpi .ne v83 v88
  let v90 : BitVec 32 := Scalar.remsi v41 c4_i32_41
  let c0_i32_46 : BitVec 32 := 0#32
  let v91 : BitVec 1 := Scalar.cmpi .ne v90 c0_i32_46
  let v92 : BitVec 1 := Scalar.andi v89 v91
  let v78 : BitVec 32 := Scalar.divsi v41 c4_i32_41
  let c1_i32_47 : BitVec 32 := 1#32
  let v93 : BitVec 32 := Scalar.subi v78 c1_i32_47
  let v94 : BitVec 32 := Scalar.select v92 v93 v78
  let c4_i32_48 : BitVec 32 := 4#32
  let v95 : BitVec 32 := Scalar.muli v94 c4_i32_48
  let c3_i32_207 : BitVec 32 := 3#32
  let v373 : BitVec 32 := Scalar.addi v95 c3_i32_207
  let c1024_i32_208 : BitVec 32 := 1024#32
  let v374 : BitVec 32 := Scalar.muli v373 c1024_i32_208
  v374
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x16384x512 : Shape := ⟨3, ![2, 16384, 512]⟩
abbrev S2x16384x1024 : Shape := ⟨3, ![2, 16384, 1024]⟩
abbrev S64 : Shape := ⟨1, ![64]⟩
abbrev S1 : Shape := ⟨1, ![1]⟩
abbrev S128 : Shape := ⟨1, ![128]⟩
abbrev S16384 : Shape := ⟨1, ![16384]⟩
abbrev S2x16384x4x2x64 : Shape := ⟨5, ![2, 16384, 4, 2, 64]⟩
abbrev S2x16384x4x128 : Shape := ⟨4, ![2, 16384, 4, 128]⟩
abbrev S_ : Shape := ⟨0, ![]⟩
abbrev S2x4x2x16384x16384 : Shape := ⟨5, ![2, 4, 2, 16384, 16384]⟩
abbrev S16384x1 : Shape := ⟨2, ![16384, 1]⟩
abbrev S1x16384 : Shape := ⟨2, ![1, 16384]⟩
abbrev S16384x16384 : Shape := ⟨2, ![16384, 16384]⟩
abbrev S2x4x2x16384 : Shape := ⟨4, ![2, 4, 2, 16384]⟩
abbrev S2x4x2x16384x1 : Shape := ⟨5, ![2, 4, 2, 16384, 1]⟩
abbrev S2x4x1x16384x16384 : Shape := ⟨5, ![2, 4, 1, 16384, 16384]⟩
abbrev S2x4x16384x16384 : Shape := ⟨4, ![2, 4, 16384, 16384]⟩
abbrev S1x1x1x1 : Shape := ⟨4, ![1, 1, 1, 1]⟩
abbrev S2x4x128x16384 : Shape := ⟨4, ![2, 4, 128, 16384]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x512, .f32⟩
  | .hbm, ⟨3, _⟩ => ⟨S2x16384x1024, .f32⟩
  | .hbm, ⟨4, _⟩ => ⟨S2x16384x1024, .f32⟩
  | .hbm, ⟨5, _⟩ => ⟨S2x16384x1024, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1, .f32⟩
  | .hbm, ⟨11, _⟩ => ⟨S128, .f32⟩
  | .hbm, ⟨12, _⟩ => ⟨S16384, .i32⟩
  | .hbm, ⟨13, _⟩ => ⟨S2x16384x4x2x64, .f32⟩
  | .hbm, ⟨14, _⟩ => ⟨S2x16384x4x2x64, .f32⟩
  | .hbm, ⟨15, _⟩ => ⟨S2x16384x4x128, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S1, .f32⟩
  | .hbm, ⟨27, _⟩ => ⟨S2x4x2x16384x16384, .f32⟩
  | .hbm, ⟨28, _⟩ => ⟨S_, .f32⟩
  | .hbm, ⟨29, _⟩ => ⟨S2x4x2x16384x16384, .f32⟩
  | .hbm, ⟨30, _⟩ => ⟨S2x4x2x16384x16384, .f32⟩
  | .hbm, ⟨31, _⟩ => ⟨S16384x1, .i32⟩
  | .hbm, ⟨32, _⟩ => ⟨S1x16384, .i32⟩
  | .hbm, ⟨33, _⟩ => ⟨S16384x16384, .i32⟩
  | .hbm, ⟨34, _⟩ => ⟨S16384x16384, .i32⟩
  | .hbm, ⟨35, _⟩ => ⟨S16384x16384, .i1⟩
  | .hbm, ⟨36, _⟩ => ⟨S_, .f32⟩
  | .hbm, ⟨37, _⟩ => ⟨S_, .f32⟩
  | .hbm, ⟨38, _⟩ => ⟨S2x4x2x16384x16384, .i1⟩
  | .hbm, ⟨39, _⟩ => ⟨S2x4x2x16384x16384, .f32⟩
  | .hbm, ⟨40, _⟩ => ⟨S2x4x2x16384x16384, .f32⟩
  | .hbm, ⟨41, _⟩ => ⟨S_, .f32⟩
  | .hbm, ⟨42, _⟩ => ⟨S2x4x2x16384, .f32⟩
  | .hbm, ⟨43, _⟩ => ⟨S_, .f32⟩
  | .hbm, ⟨44, _⟩ => ⟨S2x4x2x16384, .f32⟩
  | .hbm, ⟨45, _⟩ => ⟨S2x4x2x16384, .f32⟩
  | .hbm, ⟨46, _⟩ => ⟨S2x4x2x16384x1, .f32⟩
  | .hbm, ⟨47, _⟩ => ⟨S2x4x2x16384x16384, .f32⟩
  | .hbm, ⟨48, _⟩ => ⟨S2x4x2x16384x16384, .f32⟩
  | .hbm, ⟨49, _⟩ => ⟨S2x4x2x16384x16384, .f32⟩
  | .hbm, ⟨50, _⟩ => ⟨S_, .f32⟩
  | .hbm, ⟨51, _⟩ => ⟨S2x4x2x16384, .f32⟩
  | .hbm, ⟨52, _⟩ => ⟨S2x4x2x16384x1, .f32⟩
  | .hbm, ⟨53, _⟩ => ⟨S2x4x2x16384x16384, .f32⟩
  | .hbm, ⟨54, _⟩ => ⟨S2x4x2x16384x16384, .f32⟩
  | .hbm, ⟨55, _⟩ => ⟨S2x4x1x16384x16384, .f32⟩
  | .hbm, ⟨56, _⟩ => ⟨S2x4x16384x16384, .f32⟩
  | .hbm, ⟨57, _⟩ => ⟨S2x4x1x16384x16384, .f32⟩
  | .hbm, ⟨58, _⟩ => ⟨S2x4x16384x16384, .f32⟩
  | .hbm, ⟨59, _⟩ => ⟨S1x1x1x1, .f32⟩
  | .hbm, ⟨60, _⟩ => ⟨S2x4x16384x16384, .f32⟩
  | .hbm, ⟨61, _⟩ => ⟨S2x4x16384x16384, .f32⟩
  | .hbm, ⟨62, _⟩ => ⟨S2x4x16384x16384, .f32⟩
  | .hbm, ⟨63, _⟩ => ⟨S2x4x128x16384, .f32⟩
  | .hbm, ⟨64, _⟩ => ⟨S2x16384x4x128, .f32⟩
  | .hbm, ⟨65, _⟩ => ⟨S2x16384x4x128, .f32⟩
  | .hbm, ⟨66, _⟩ => ⟨S_, .f32⟩
  | .hbm, ⟨67, _⟩ => ⟨S2x16384x4, .f32⟩
  | .hbm, ⟨68, _⟩ => ⟨S2x16384x4x1, .f32⟩
  | .hbm, ⟨69, _⟩ => ⟨S_, .f32⟩
  | .hbm, ⟨70, _⟩ => ⟨S2x16384x4x1, .f32⟩
  | .hbm, ⟨71, _⟩ => ⟨S2x16384x4x1, .f32⟩
  | .hbm, ⟨72, _⟩ => ⟨S_, .f32⟩
  | .hbm, ⟨73, _⟩ => ⟨S2x16384x4x1, .f32⟩
  | .hbm, ⟨74, _⟩ => ⟨S2x16384x4x1, .f32⟩
  | .hbm, ⟨75, _⟩ => ⟨S2x16384x4x1, .f32⟩
  | .hbm, ⟨76, _⟩ => ⟨S2x16384x4x128, .f32⟩
  | .hbm, ⟨77, _⟩ => ⟨S2x16384x4x128, .f32⟩
  | .hbm, ⟨78, _⟩ => ⟨S1x1x1x128, .f32⟩
  | .hbm, ⟨79, _⟩ => ⟨S2x16384x4x128, .f32⟩
  | .hbm, ⟨80, _⟩ => ⟨S2x16384x4x128, .f32⟩
  | .hbm, ⟨81, _⟩ => ⟨S_, .f32⟩
  | .hbm, ⟨82, _⟩ => ⟨S1, .f32⟩
  | .hbm, ⟨83, _⟩ => ⟨S1, .f32⟩
  | .hbm, ⟨84, _⟩ => ⟨S1x1x1x1, .f32⟩
  | .hbm, ⟨85, _⟩ => ⟨S2x16384x4x128, .f32⟩
  | .hbm, ⟨86, _⟩ => ⟨S2x16384x4x128, .f32⟩
  | .hbm, ⟨87, _⟩ => ⟨S2x16384x512, .f32⟩
  | .hbm, ⟨88, _⟩ => ⟨S2x16384x512, .bf16⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]
-- ==== Kernel2.lean ====
abbrev S32768x1024 : Shape := ⟨2, ![32768, 1024]⟩
abbrev S32768x2560 : Shape := ⟨2, ![32768, 2560]⟩
abbrev S32768x512 : Shape := ⟨2, ![32768, 512]⟩
abbrev S32768x256 : Shape := ⟨2, ![32768, 256]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 12
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S32768x2560, .bf16⟩
  | .hbm, ⟨2, _⟩ => ⟨S32768x512, .bf16⟩
  | .hbm, ⟨3, _⟩ => ⟨S32768x256, .bf16⟩
  | .hbm, ⟨4, _⟩ => ⟨S32768x256, .bf16⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x1024, .bf16⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S32768x1024 : Shape := ⟨2, ![32768, 1024]⟩
abbrev S32768x2560 : Shape := ⟨2, ![32768, 2560]⟩
abbrev S32768x512 : Shape := ⟨2, ![32768, 512]⟩
abbrev S32768x256 : Shape := ⟨2, ![32768, 256]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x2560, .bf16⟩
  | .hbm, ⟨2, _⟩ => ⟨S32768x512, .bf16⟩
  | .hbm, ⟨3, _⟩ => ⟨S32768x256, .bf16⟩
  | .hbm, ⟨4, _⟩ => ⟨S32768x256, .bf16⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S32768x1024, .bf16⟩
  | .hbm, ⟨9, _⟩ => ⟨S32768x1024, .f32⟩
  | .hbm, ⟨10, _⟩ => ⟨S32768x1024, .bf16⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== Kernel3.lean ====
abbrev S2x16384x1024 : Shape := ⟨3, ![2, 16384, 1024]⟩
abbrev S1024x2048 : Shape := ⟨2, ![1024, 2048]⟩
abbrev S1024x2560 : Shape := ⟨2, ![1024, 2560]⟩
abbrev S2048 : Shape := ⟨1, ![2048]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S1x16384x4x32 : Shape := ⟨4, ![1, 16384, 4, 32]⟩
abbrev S16384x128 : Shape := ⟨2, ![16384, 128]⟩
abbrev S2048x1 : Shape := ⟨2, ![2048, 1]⟩
abbrev S1x2048 : Shape := ⟨2, ![1, 2048]⟩
abbrev S32768x1024 : Shape := ⟨2, ![32768, 1024]⟩
abbrev S32768x2048 : Shape := ⟨2, ![32768, 2048]⟩
abbrev S32768x2560 : Shape := ⟨2, ![32768, 2560]⟩
abbrev S512x1024 : Shape := ⟨2, ![512, 1024]⟩
abbrev S512x128 : Shape := ⟨2, ![512, 128]⟩
abbrev S512x2048 : Shape := ⟨2, ![512, 2048]⟩
abbrev S512x2560 : Shape := ⟨2, ![512, 2560]⟩
abbrev S1024x512 : Shape := ⟨2, ![1024, 512]⟩
abbrev S512x512 : Shape := ⟨2, ![512, 512]⟩

abbrev nBuf : Space → Nat
  | .hbm => 50
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S1024x2048, .f32⟩
  | .hbm, ⟨2, _⟩ => ⟨S1024x2560, .f32⟩
  | .hbm, ⟨3, _⟩ => ⟨S2048, .i32⟩
  | .hbm, ⟨4, _⟩ => ⟨S2048, .i1⟩
  | .hbm, ⟨5, _⟩ => ⟨S2048, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S16384, .i32⟩
  | .hbm, ⟨21, _⟩ => ⟨S16384, .f32⟩
  | .hbm, ⟨22, _⟩ => ⟨S16384x1, .f32⟩
  | .hbm, ⟨23, _⟩ => ⟨S1x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S1x16384x1x32, .f32⟩
  | .hbm, ⟨29, _⟩ => ⟨S1x16384x4x32, .f32⟩
  | .hbm, ⟨30, _⟩ => ⟨S16384x128, .f32⟩
  | .hbm, ⟨31, _⟩ => ⟨S16384x32, .f32⟩
  | .hbm, ⟨32, _⟩ => ⟨S1x16384x1x32, .f32⟩
  | .hbm, ⟨33, _⟩ => ⟨S1x16384x4x32, .f32⟩
  | .hbm, ⟨34, _⟩ => ⟨S16384x128, .f32⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S2048, .i32⟩
  | .hbm, ⟨39, _⟩ => ⟨S2048x1, .i32⟩
  | .hbm, ⟨40, _⟩ => ⟨S1024x2048, .f32⟩
  | .hbm, ⟨41, _⟩ => ⟨S1x2048, .f32⟩
  | .hbm, ⟨42, _⟩ => ⟨S1024x2048, .f32⟩
  | .hbm, ⟨43, _⟩ => ⟨S1024x2048, .f32⟩
  | .hbm, ⟨44, _⟩ => ⟨S1024x2048, .bf16⟩
  | .hbm, ⟨45, _⟩ => ⟨S32768x1024, .f32⟩
  | .hbm, ⟨46, _⟩ => ⟨S1024x2048, .bf16⟩
  | .hbm, ⟨47, _⟩ => ⟨S1024x2560, .bf16⟩
  | .hbm, ⟨48, _⟩ => ⟨S32768x2048, .bf16⟩
  | .hbm, ⟨49, _⟩ => ⟨S32768x2560, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1024x2048, .bf16⟩
  | .local _ .vmem, ⟨4, _⟩ => ⟨S1024x2560, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x2048, .bf16⟩
  | .local _ .vmem, ⟨10, _⟩ => ⟨S512x2048, .bf16⟩
  | .local _ .vmem, ⟨11, _⟩ => ⟨S512x2560, .bf16⟩
  | .local _ .vmem, ⟨12, _⟩ => ⟨S512x2560, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37_0 : Ref sig .tc := ⟨.hbm, 48, rfl⟩
abbrev main_v37_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2560 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S2x16384x1024 : Shape := ⟨3, ![2, 16384, 1024]⟩
abbrev S1024x2048 : Shape := ⟨2, ![1024, 2048]⟩
abbrev S1024x2560 : Shape := ⟨2, ![1024, 2560]⟩
abbrev S16384 : Shape := ⟨1, ![16384]⟩
abbrev S2x16384x2048 : Shape := ⟨3, ![2, 16384, 2048]⟩
abbrev S2x16384x32x64 : Shape := ⟨4, ![2, 16384, 32, 64]⟩
abbrev S2x16384x2560 : Shape := ⟨3, ![2, 16384, 2560]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S2x16384x32x32 : Shape := ⟨4, ![2, 16384, 32, 32]⟩
abbrev S1x16384x1x32 : Shape := ⟨4, ![1, 16384, 1, 32]⟩
abbrev S32768x2048 : Shape := ⟨2, ![32768, 2048]⟩
abbrev S32768x2560 : Shape := ⟨2, ![32768, 2560]⟩

abbrev nBuf : Space → Nat
  | .hbm => 52
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024x2048, .f32⟩
  | .hbm, ⟨2, _⟩ => ⟨S1024x2560, .f32⟩
  | .hbm, ⟨3, _⟩ => ⟨S16384, .i32⟩
  | .hbm, ⟨4, _⟩ => ⟨S2x16384x2048, .f32⟩
  | .hbm, ⟨5, _⟩ => ⟨S2x16384x32x64, .f32⟩
  | .hbm, ⟨6, _⟩ => ⟨S2x16384x2560, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S16384, .f32⟩
  | .hbm, ⟨22, _⟩ => ⟨S16384x1, .f32⟩
  | .hbm, ⟨23, _⟩ => ⟨S1x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S16384x1x32, .f32⟩
  | .hbm, ⟨29, _⟩ => ⟨S16384x32, .f32⟩
  | .hbm, ⟨30, _⟩ => ⟨S16384x1x32, .f32⟩
  | .hbm, ⟨31, _⟩ => ⟨S2x16384x32x32, .f32⟩
  | .hbm, ⟨32, _⟩ => ⟨S2x16384x32x32, .f32⟩
  | .hbm, ⟨33, _⟩ => ⟨S1x16384x1x32, .f32⟩
  | .hbm, ⟨34, _⟩ => ⟨S2x16384x32x32, .f32⟩
  | .hbm, ⟨35, _⟩ => ⟨S2x16384x32x32, .f32⟩
  | .hbm, ⟨36, _⟩ => ⟨S1x16384x1x32, .f32⟩
  | .hbm, ⟨37, _⟩ => ⟨S2x16384x32x32, .f32⟩
  | .hbm, ⟨38, _⟩ => ⟨S2x16384x32x32, .f32⟩
  | .hbm, ⟨39, _⟩ => ⟨S2x16384x32x32, .f32⟩
  | .hbm, ⟨40, _⟩ => ⟨S1x16384x1x32, .f32⟩
  | .hbm, ⟨41, _⟩ => ⟨S2x16384x32x32, .f32⟩
  | .hbm, ⟨42, _⟩ => ⟨S2x16384x32x32, .f32⟩
  | .hbm, ⟨43, _⟩ => ⟨S1x16384x1x32, .f32⟩
  | .hbm, ⟨44, _⟩ => ⟨S2x16384x32x32, .f32⟩
  | .hbm, ⟨45, _⟩ => ⟨S2x16384x32x32, .f32⟩
  | .hbm, ⟨46, _⟩ => ⟨S2x16384x32x32, .f32⟩
  | .hbm, ⟨47, _⟩ => ⟨S2x16384x32x64, .f32⟩
  | .hbm, ⟨48, _⟩ => ⟨S32768x2048, .f32⟩
  | .hbm, ⟨49, _⟩ => ⟨S32768x2048, .bf16⟩
  | .hbm, ⟨50, _⟩ => ⟨S32768x2560, .f32⟩
  | .hbm, ⟨51, _⟩ => ⟨S32768x2560, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩

abbrev nD : Nat := 1
abbrev τ : Topo := Topo.v7x

variable {F : FTy → Type} [FloatOps F]
-- ==== Kernel4.lean ====
abbrev S2x16384x2560 : Shape := ⟨3, ![2, 16384, 2560]⟩
abbrev S2x16384x128 : Shape := ⟨3, ![2, 16384, 128]⟩
abbrev S2x16384x256 : Shape := ⟨3, ![2, 16384, 256]⟩
abbrev S1x512x128 : Shape := ⟨3, ![1, 512, 128]⟩
abbrev S1x16384x128 : Shape := ⟨3, ![1, 16384, 128]⟩
abbrev S1024x256 : Shape := ⟨2, ![1024, 256]⟩
abbrev S1024x128 : Shape := ⟨2, ![1024, 128]⟩
abbrev S1024x1024 : Shape := ⟨2, ![1024, 1024]⟩
abbrev S512x128 : Shape := ⟨2, ![512, 128]⟩
abbrev S1x1024x128 : Shape := ⟨3, ![1, 1024, 128]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 17
  | .smem => 0
  | _ => 0

abbrev bufTy : (tb : Table) → Fin (tcTables nBuf tb) → BufTy
  | .hbm, ⟨0, _⟩ => ⟨S2x16384x2560, .bf16⟩
  | .hbm, ⟨1, _⟩ => ⟨S2x16384x128, .bf16⟩
  | .hbm, ⟨2, _⟩ => ⟨S2x16384x128, .bf16⟩
  | .hbm, ⟨3, _⟩ => ⟨S2x16384x256, .bf16⟩
  | .local _ .vmem, ⟨0, _⟩ => ⟨S1x512x128, .bf16⟩
  | .local _ .vmem, ⟨1, _⟩ => ⟨S1x512x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x16384x128, .bf16⟩
  | .local _ .vmem, ⟨9, _⟩ => ⟨S1x16384x128, .bf16⟩
  | .local _ .vmem, ⟨10, _⟩ => ⟨S1x512x128, .bf16⟩
  | .local _ .vmem, ⟨11, _⟩ => ⟨S1x512x128, .bf16⟩
  | .local _ .vmem, ⟨12, _⟩ => ⟨S1024x256, .bf16⟩
  | .local _ .vmem, ⟨13, _⟩ => ⟨S1024x128, .f32⟩
  | .local _ .vmem, ⟨14, _⟩ => ⟨S1024x256, .f32⟩
  | .local _ .vmem, ⟨15, _⟩ => ⟨S1024x1024, .f32⟩
  | .local _ .vmem, ⟨16, _⟩ => ⟨S1024x1024, .f32⟩
  | _, _ => ⟨S2x16384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 32], ![false, false, false]⟩

def k0_mult1 : BitVec 32 :=
  let c0_i32_27 : BitVec 32 := 0#32
  c0_i32_27
@[reducible] def k0_t1_loop (i : grid0.Coords) : Scf.Loop 32 :=
  let c0_i32_49 : BitVec 32 := 0#32
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_42 : BitVec 32 := 0#32
  let v89 : BitVec 1 := Scalar.cmpi .sgt v69 c0_i32_42
  let v90 : BitVec 32 := Scalar.extui v89
  let c0_i32_43 : BitVec 32 := 0#32
  let v91 : BitVec 1 := Scalar.cmpi .slt v69 c0_i32_43
  let v92 : BitVec 32 := Scalar.extui v91
  let v93 : BitVec 32 := Scalar.subi v90 v92
  let c4_i32 : BitVec 32 := 4#32
  let c0_i32_44 : BitVec 32 := 0#32
  let v94 : BitVec 1 := Scalar.cmpi .sgt c4_i32 c0_i32_44
  let v95 : BitVec 32 := Scalar.extui v94
  let c0_i32_45 : BitVec 32 := 0#32
  let v96 : BitVec 1 := Scalar.cmpi .slt c4_i32 c0_i32_45
  let v97 : BitVec 32 := Scalar.extui v96
  let v98 : BitVec 32 := Scalar.subi v95 v97
  let v99 : BitVec 1 := Scalar.cmpi .ne v93 v98
  let v100 : BitVec 32 := Scalar.remsi v69 c4_i32
  let c0_i32_46 : BitVec 32 := 0#32
  let v101 : BitVec 1 := Scalar.cmpi .ne v100 c0_i32_46
  let v102 : BitVec 1 := Scalar.andi v99 v101
  let v88 : BitVec 32 := Scalar.divsi v69 c4_i32
  let c1_i32_47 : BitVec 32 := 1#32
  let v103 : BitVec 32 := Scalar.subi v88 c1_i32_47
  let v104 : BitVec 32 := Scalar.select v102 v103 v88
  let v105 : BitVec 32 := Scalar.subi v104 c0_i32_49
  let c1_i32_50 : BitVec 32 := 1#32
  let v107 : BitVec 32 := Scalar.divsi v105 c1_i32_50
  let v108 : BitVec 32 := Scalar.muli v107 c1_i32_50
  let v109 : BitVec 32 := Scalar.addi c0_i32_49 v108
  let c1_i32_51 : BitVec 32 := 1#32
  ⟨c0_i32_49, v109, c1_i32_51⟩
def k0_mult2 (i : grid0.Coords) (k0_t1 : Fin (k0_t1_loop i).trips) : BitVec 32 :=
  let c4_i32_80 : BitVec 32 := 4#32
  let c0_i32_49 : BitVec 32 := 0#32
  let c1_i32_51 : BitVec 32 := 1#32
  let arg14 : BitVec 32 := Scf.iv c0_i32_49 c1_i32_51 k0_t1
  let v157 : BitVec 32 := Scalar.muli c4_i32_80 arg14
  let c0_i32_81 : BitVec 32 := 0#32
  let v158 : BitVec 32 := Scalar.addi v157 c0_i32_81
  let c1_i32_82 : BitVec 32 := 1#32
  let v159 : BitVec 32 := Scalar.addi v158 c1_i32_82
  let c1024_i32_83 : BitVec 32 := 1024#32
  let v160 : BitVec 32 := Scalar.muli v159 c1024_i32_83
  v160
def k0_off1 (i : grid0.Coords) (k0_t1 : Fin (k0_t1_loop i).trips) (c0_i32_81 : BitVec 32) : Fin 3 → Nat :=
  let c0_84 : Index := 0#32
  let c4_i32_80 : BitVec 32 := 4#32
  let c0_i32_49 : BitVec 32 := 0#32
  let c1_i32_51 : BitVec 32 := 1#32
  let arg14 : BitVec 32 := Scf.iv c0_i32_49 c1_i32_51 k0_t1
  let v157 : BitVec 32 := Scalar.muli c4_i32_80 arg14
  let v158 : BitVec 32 := Scalar.addi v157 c0_i32_81
  let c1_i32_82 : BitVec 32 := 1#32
  let v159 : BitVec 32 := Scalar.addi v158 c1_i32_82
  let c1024_i32_83 : BitVec 32 := 1024#32
  let v160 : BitVec 32 := Scalar.muli v159 c1024_i32_83
  let v161 : BitVec 32 := v160
  let v162 : Index := Scalar.indexCast v161
  let c0_85 : Index := 0#32
  ![0, v162.toNat, 0]
def k0_mult3 (i : grid0.Coords) (k0_t1 : Fin (k0_t1_loop i).trips) : BitVec 32 :=
  let c4_i32_98 : BitVec 32 := 4#32
  let c0_i32_49 : BitVec 32 := 0#32
  let c1_i32_51 : BitVec 32 := 1#32
  let arg14 : BitVec 32 := Scf.iv c0_i32_49 c1_i32_51 k0_t1
  let v179 : BitVec 32 := Scalar.muli c4_i32_98 arg14
  let c0_i32_99 : BitVec 32 := 0#32
  let v180 : BitVec 32 := Scalar.addi v179 c0_i32_99
  let c1024_i32_100 : BitVec 32 := 1024#32
  let v181 : BitVec 32 := Scalar.muli v180 c1024_i32_100
  v181
def k0_off2 (i : grid0.Coords) (k0_t1 : Fin (k0_t1_loop i).trips) (c0_i32_99 : BitVec 32) : Fin 3 → Nat :=
  let c0_101 : Index := 0#32
  let c4_i32_98 : BitVec 32 := 4#32
  let c0_i32_49 : BitVec 32 := 0#32
  let c1_i32_51 : BitVec 32 := 1#32
  let arg14 : BitVec 32 := Scf.iv c0_i32_49 c1_i32_51 k0_t1
  let v179 : BitVec 32 := Scalar.muli c4_i32_98 arg14
  let v180 : BitVec 32 := Scalar.addi v179 c0_i32_99
  let c1024_i32_100 : BitVec 32 := 1024#32
  let v181 : BitVec 32 := Scalar.muli v180 c1024_i32_100
  let v182 : BitVec 32 := v181
  let v183 : Index := Scalar.indexCast v182
  let c0_102 : Index := 0#32
  ![0, v183.toNat, 0]
def k0_mult4 (i : grid0.Coords) (k0_t1 : Fin (k0_t1_loop i).trips) : BitVec 32 :=
  let c4_i32_128 : BitVec 32 := 4#32
  let c0_i32_49 : BitVec 32 := 0#32
  let c1_i32_51 : BitVec 32 := 1#32
  let arg14 : BitVec 32 := Scf.iv c0_i32_49 c1_i32_51 k0_t1
  let v234 : BitVec 32 := Scalar.muli c4_i32_128 arg14
  let c1_i32_129 : BitVec 32 := 1#32
  let v235 : BitVec 32 := Scalar.addi v234 c1_i32_129
  let c1_i32_130 : BitVec 32 := 1#32
  let v236 : BitVec 32 := Scalar.addi v235 c1_i32_130
  let c1024_i32_131 : BitVec 32 := 1024#32
  let v237 : BitVec 32 := Scalar.muli v236 c1024_i32_131
  v237
def k0_mult5 (i : grid0.Coords) (k0_t1 : Fin (k0_t1_loop i).trips) : BitVec 32 :=
  let c4_i32_146 : BitVec 32 := 4#32
  let c0_i32_49 : BitVec 32 := 0#32
  let c1_i32_51 : BitVec 32 := 1#32
  let arg14 : BitVec 32 := Scf.iv c0_i32_49 c1_i32_51 k0_t1
  let v256 : BitVec 32 := Scalar.muli c4_i32_146 arg14
  let c1_i32_147 : BitVec 32 := 1#32
  let v257 : BitVec 32 := Scalar.addi v256 c1_i32_147
  let c1024_i32_148 : BitVec 32 := 1024#32
  let v258 : BitVec 32 := Scalar.muli v257 c1024_i32_148
  v258
def k0_mult6 (i : grid0.Coords) (k0_t1 : Fin (k0_t1_loop i).trips) : BitVec 32 :=
  let c4_i32_176 : BitVec 32 := 4#32
  let c0_i32_49 : BitVec 32 := 0#32
  let c1_i32_51 : BitVec 32 := 1#32
  let arg14 : BitVec 32 := Scf.iv c0_i32_49 c1_i32_51 k0_t1
  let v311 : BitVec 32 := Scalar.muli c4_i32_176 arg14
  let c2_i32_177 : BitVec 32 := 2#32
  let v312 : BitVec 32 := Scalar.addi v311 c2_i32_177
  let c1_i32_178 : BitVec 32 := 1#32
  let v313 : BitVec 32 := Scalar.addi v312 c1_i32_178
  let c1024_i32_179 : BitVec 32 := 1024#32
  let v314 : BitVec 32 := Scalar.muli v313 c1024_i32_179
  v314
def k0_mult7 (i : grid0.Coords) (k0_t1 : Fin (k0_t1_loop i).trips) : BitVec 32 :=
  let c4_i32_194 : BitVec 32 := 4#32
  let c0_i32_49 : BitVec 32 := 0#32
  let c1_i32_51 : BitVec 32 := 1#32
  let arg14 : BitVec 32 := Scf.iv c0_i32_49 c1_i32_51 k0_t1
  let v333 : BitVec 32 := Scalar.muli c4_i32_194 arg14
  let c2_i32_195 : BitVec 32 := 2#32
  let v334 : BitVec 32 := Scalar.addi v333 c2_i32_195
  let c1024_i32_196 : BitVec 32 := 1024#32
  let v335 : BitVec 32 := Scalar.muli v334 c1024_i32_196
  v335
def k0_mult8 (i : grid0.Coords) (k0_t1 : Fin (k0_t1_loop i).trips) : BitVec 32 :=
  let c4_i32_224 : BitVec 32 := 4#32
  let c0_i32_49 : BitVec 32 := 0#32
  let c1_i32_51 : BitVec 32 := 1#32
  let arg14 : BitVec 32 := Scf.iv c0_i32_49 c1_i32_51 k0_t1
  let v388 : BitVec 32 := Scalar.muli c4_i32_224 arg14
  let c3_i32_225 : BitVec 32 := 3#32
  let v389 : BitVec 32 := Scalar.addi v388 c3_i32_225
  let c1_i32_226 : BitVec 32 := 1#32
  let v390 : BitVec 32 := Scalar.addi v389 c1_i32_226
  let c1024_i32_227 : BitVec 32 := 1024#32
  let v391 : BitVec 32 := Scalar.muli v390 c1024_i32_227
  v391
def k0_mult9 (i : grid0.Coords) (k0_t1 : Fin (k0_t1_loop i).trips) : BitVec 32 :=
  let c4_i32_242 : BitVec 32 := 4#32
  let c0_i32_49 : BitVec 32 := 0#32
  let c1_i32_51 : BitVec 32 := 1#32
  let arg14 : BitVec 32 := Scf.iv c0_i32_49 c1_i32_51 k0_t1
  let v410 : BitVec 32 := Scalar.muli c4_i32_242 arg14
  let c3_i32_243 : BitVec 32 := 3#32
  let v411 : BitVec 32 := Scalar.addi v410 c3_i32_243
  let c1024_i32_244 : BitVec 32 := 1024#32
  let v412 : BitVec 32 := Scalar.muli v411 c1024_i32_244
  v412
@[reducible] def k0_t2_loop (i : grid0.Coords) : Scf.Loop 32 :=
  let c0_i32_49 : BitVec 32 := 0#32
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_42 : BitVec 32 := 0#32
  let v89 : BitVec 1 := Scalar.cmpi .sgt v69 c0_i32_42
  let v90 : BitVec 32 := Scalar.extui v89
  let c0_i32_43 : BitVec 32 := 0#32
  let v91 : BitVec 1 := Scalar.cmpi .slt v69 c0_i32_43
  let v92 : BitVec 32 := Scalar.extui v91
  let v93 : BitVec 32 := Scalar.subi v90 v92
  let c4_i32 : BitVec 32 := 4#32
  let c0_i32_44 : BitVec 32 := 0#32
  let v94 : BitVec 1 := Scalar.cmpi .sgt c4_i32 c0_i32_44
  let v95 : BitVec 32 := Scalar.extui v94
  let c0_i32_45 : BitVec 32 := 0#32
  let v96 : BitVec 1 := Scalar.cmpi .slt c4_i32 c0_i32_45
  let v97 : BitVec 32 := Scalar.extui v96
  let v98 : BitVec 32 := Scalar.subi v95 v97
  let v99 : BitVec 1 := Scalar.cmpi .ne v93 v98
  let v100 : BitVec 32 := Scalar.remsi v69 c4_i32
  let c0_i32_46 : BitVec 32 := 0#32
  let v101 : BitVec 1 := Scalar.cmpi .ne v100 c0_i32_46
  let v102 : BitVec 1 := Scalar.andi v99 v101
  let v88 : BitVec 32 := Scalar.divsi v69 c4_i32
  let c1_i32_47 : BitVec 32 := 1#32
  let v103 : BitVec 32 := Scalar.subi v88 c1_i32_47
  let v104 : BitVec 32 := Scalar.select v102 v103 v88
  let v105 : BitVec 32 := Scalar.subi v104 c0_i32_49
  let c1_i32_50 : BitVec 32 := 1#32
  let v107 : BitVec 32 := Scalar.divsi v105 c1_i32_50
  let v108 : BitVec 32 := Scalar.muli v107 c1_i32_50
  let v109 : BitVec 32 := Scalar.addi c0_i32_49 v108
  let v106 : BitVec 32 := Scalar.addi c0_i32_49 v105
  let c1_i32_52 : BitVec 32 := 1#32
  ⟨v109, v106, c1_i32_52⟩
def k0_mult10 (i : grid0.Coords) (k0_t2 : Fin (k0_t2_loop i).trips) : BitVec 32 :=
  let c4_i32_80 : BitVec 32 := 4#32
  let c0_i32_49 : BitVec 32 := 0#32
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_42 : BitVec 32 := 0#32
  let v89 : BitVec 1 := Scalar.cmpi .sgt v69 c0_i32_42
  let v90 : BitVec 32 := Scalar.extui v89
  let c0_i32_43 : BitVec 32 := 0#32
  let v91 : BitVec 1 := Scalar.cmpi .slt v69 c0_i32_43
  let v92 : BitVec 32 := Scalar.extui v91
  let v93 : BitVec 32 := Scalar.subi v90 v92
  let c4_i32 : BitVec 32 := 4#32
  let c0_i32_44 : BitVec 32 := 0#32
  let v94 : BitVec 1 := Scalar.cmpi .sgt c4_i32 c0_i32_44
  let v95 : BitVec 32 := Scalar.extui v94
  let c0_i32_45 : BitVec 32 := 0#32
  let v96 : BitVec 1 := Scalar.cmpi .slt c4_i32 c0_i32_45
  let v97 : BitVec 32 := Scalar.extui v96
  let v98 : BitVec 32 := Scalar.subi v95 v97
  let v99 : BitVec 1 := Scalar.cmpi .ne v93 v98
  let v100 : BitVec 32 := Scalar.remsi v69 c4_i32
  let c0_i32_46 : BitVec 32 := 0#32
  let v101 : BitVec 1 := Scalar.cmpi .ne v100 c0_i32_46
  let v102 : BitVec 1 := Scalar.andi v99 v101
  let v88 : BitVec 32 := Scalar.divsi v69 c4_i32
  let c1_i32_47 : BitVec 32 := 1#32
  let v103 : BitVec 32 := Scalar.subi v88 c1_i32_47
  let v104 : BitVec 32 := Scalar.select v102 v103 v88
  let v105 : BitVec 32 := Scalar.subi v104 c0_i32_49
  let c1_i32_50 : BitVec 32 := 1#32
  let v107 : BitVec 32 := Scalar.divsi v105 c1_i32_50
  let v108 : BitVec 32 := Scalar.muli v107 c1_i32_50
  let v109 : BitVec 32 := Scalar.addi c0_i32_49 v108
  let c1_i32_52 : BitVec 32 := 1#32
  let arg14 : BitVec 32 := Scf.iv v109 c1_i32_52 k0_t2
  let v157 : BitVec 32 := Scalar.muli c4_i32_80 arg14
  let c0_i32_81 : BitVec 32 := 0#32
  let v158 : BitVec 32 := Scalar.addi v157 c0_i32_81
  let c1_i32_82 : BitVec 32 := 1#32
  let v159 : BitVec 32 := Scalar.addi v158 c1_i32_82
  let c1024_i32_83 : BitVec 32 := 1024#32
  let v160 : BitVec 32 := Scalar.muli v159 c1024_i32_83
  v160
def k0_off3 (i : grid0.Coords) (k0_t2 : Fin (k0_t2_loop i).trips) (c0_i32_81 : BitVec 32) : Fin 3 → Nat :=
  let c0_84 : Index := 0#32
  let c4_i32_80 : BitVec 32 := 4#32
  let c0_i32_49 : BitVec 32 := 0#32
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_42 : BitVec 32 := 0#32
  let v89 : BitVec 1 := Scalar.cmpi .sgt v69 c0_i32_42
  let v90 : BitVec 32 := Scalar.extui v89
  let c0_i32_43 : BitVec 32 := 0#32
  let v91 : BitVec 1 := Scalar.cmpi .slt v69 c0_i32_43
  let v92 : BitVec 32 := Scalar.extui v91
  let v93 : BitVec 32 := Scalar.subi v90 v92
  let c4_i32 : BitVec 32 := 4#32
  let c0_i32_44 : BitVec 32 := 0#32
  let v94 : BitVec 1 := Scalar.cmpi .sgt c4_i32 c0_i32_44
  let v95 : BitVec 32 := Scalar.extui v94
  let c0_i32_45 : BitVec 32 := 0#32
  let v96 : BitVec 1 := Scalar.cmpi .slt c4_i32 c0_i32_45
  let v97 : BitVec 32 := Scalar.extui v96
  let v98 : BitVec 32 := Scalar.subi v95 v97
  let v99 : BitVec 1 := Scalar.cmpi .ne v93 v98
  let v100 : BitVec 32 := Scalar.remsi v69 c4_i32
  let c0_i32_46 : BitVec 32 := 0#32
  let v101 : BitVec 1 := Scalar.cmpi .ne v100 c0_i32_46
  let v102 : BitVec 1 := Scalar.andi v99 v101
  let v88 : BitVec 32 := Scalar.divsi v69 c4_i32
  let c1_i32_47 : BitVec 32 := 1#32
  let v103 : BitVec 32 := Scalar.subi v88 c1_i32_47
  let v104 : BitVec 32 := Scalar.select v102 v103 v88
  let v105 : BitVec 32 := Scalar.subi v104 c0_i32_49
  let c1_i32_50 : BitVec 32 := 1#32
  let v107 : BitVec 32 := Scalar.divsi v105 c1_i32_50
  let v108 : BitVec 32 := Scalar.muli v107 c1_i32_50
  let v109 : BitVec 32 := Scalar.addi c0_i32_49 v108
  let c1_i32_52 : BitVec 32 := 1#32
  let arg14 : BitVec 32 := Scf.iv v109 c1_i32_52 k0_t2
  let v157 : BitVec 32 := Scalar.muli c4_i32_80 arg14
  let v158 : BitVec 32 := Scalar.addi v157 c0_i32_81
  let c1_i32_82 : BitVec 32 := 1#32
  let v159 : BitVec 32 := Scalar.addi v158 c1_i32_82
  let c1024_i32_83 : BitVec 32 := 1024#32
  let v160 : BitVec 32 := Scalar.muli v159 c1024_i32_83
  let v161 : BitVec 32 := v160
  let v162 : Index := Scalar.indexCast v161
  let c0_85 : Index := 0#32
  ![0, v162.toNat, 0]
def k0_mult11 (i : grid0.Coords) (k0_t2 : Fin (k0_t2_loop i).trips) : BitVec 32 :=
  let c4_i32_98 : BitVec 32 := 4#32
  let c0_i32_49 : BitVec 32 := 0#32
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_42 : BitVec 32 := 0#32
  let v89 : BitVec 1 := Scalar.cmpi .sgt v69 c0_i32_42
  let v90 : BitVec 32 := Scalar.extui v89
  let c0_i32_43 : BitVec 32 := 0#32
  let v91 : BitVec 1 := Scalar.cmpi .slt v69 c0_i32_43
  let v92 : BitVec 32 := Scalar.extui v91
  let v93 : BitVec 32 := Scalar.subi v90 v92
  let c4_i32 : BitVec 32 := 4#32
  let c0_i32_44 : BitVec 32 := 0#32
  let v94 : BitVec 1 := Scalar.cmpi .sgt c4_i32 c0_i32_44
  let v95 : BitVec 32 := Scalar.extui v94
  let c0_i32_45 : BitVec 32 := 0#32
  let v96 : BitVec 1 := Scalar.cmpi .slt c4_i32 c0_i32_45
  let v97 : BitVec 32 := Scalar.extui v96
  let v98 : BitVec 32 := Scalar.subi v95 v97
  let v99 : BitVec 1 := Scalar.cmpi .ne v93 v98
  let v100 : BitVec 32 := Scalar.remsi v69 c4_i32
  let c0_i32_46 : BitVec 32 := 0#32
  let v101 : BitVec 1 := Scalar.cmpi .ne v100 c0_i32_46
  let v102 : BitVec 1 := Scalar.andi v99 v101
  let v88 : BitVec 32 := Scalar.divsi v69 c4_i32
  let c1_i32_47 : BitVec 32 := 1#32
  let v103 : BitVec 32 := Scalar.subi v88 c1_i32_47
  let v104 : BitVec 32 := Scalar.select v102 v103 v88
  let v105 : BitVec 32 := Scalar.subi v104 c0_i32_49
  let c1_i32_50 : BitVec 32 := 1#32
  let v107 : BitVec 32 := Scalar.divsi v105 c1_i32_50
  let v108 : BitVec 32 := Scalar.muli v107 c1_i32_50
  let v109 : BitVec 32 := Scalar.addi c0_i32_49 v108
  let c1_i32_52 : BitVec 32 := 1#32
  let arg14 : BitVec 32 := Scf.iv v109 c1_i32_52 k0_t2
  let v179 : BitVec 32 := Scalar.muli c4_i32_98 arg14
  let c0_i32_99 : BitVec 32 := 0#32
  let v180 : BitVec 32 := Scalar.addi v179 c0_i32_99
  let c1024_i32_100 : BitVec 32 := 1024#32
  let v181 : BitVec 32 := Scalar.muli v180 c1024_i32_100
  v181
def k0_off4 (i : grid0.Coords) (k0_t2 : Fin (k0_t2_loop i).trips) (c0_i32_99 : BitVec 32) : Fin 3 → Nat :=
  let c0_101 : Index := 0#32
  let c4_i32_98 : BitVec 32 := 4#32
  let c0_i32_49 : BitVec 32 := 0#32
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_42 : BitVec 32 := 0#32
  let v89 : BitVec 1 := Scalar.cmpi .sgt v69 c0_i32_42
  let v90 : BitVec 32 := Scalar.extui v89
  let c0_i32_43 : BitVec 32 := 0#32
  let v91 : BitVec 1 := Scalar.cmpi .slt v69 c0_i32_43
  let v92 : BitVec 32 := Scalar.extui v91
  let v93 : BitVec 32 := Scalar.subi v90 v92
  let c4_i32 : BitVec 32 := 4#32
  let c0_i32_44 : BitVec 32 := 0#32
  let v94 : BitVec 1 := Scalar.cmpi .sgt c4_i32 c0_i32_44
  let v95 : BitVec 32 := Scalar.extui v94
  let c0_i32_45 : BitVec 32 := 0#32
  let v96 : BitVec 1 := Scalar.cmpi .slt c4_i32 c0_i32_45
  let v97 : BitVec 32 := Scalar.extui v96
  let v98 : BitVec 32 := Scalar.subi v95 v97
  let v99 : BitVec 1 := Scalar.cmpi .ne v93 v98
  let v100 : BitVec 32 := Scalar.remsi v69 c4_i32
  let c0_i32_46 : BitVec 32 := 0#32
  let v101 : BitVec 1 := Scalar.cmpi .ne v100 c0_i32_46
  let v102 : BitVec 1 := Scalar.andi v99 v101
  let v88 : BitVec 32 := Scalar.divsi v69 c4_i32
  let c1_i32_47 : BitVec 32 := 1#32
  let v103 : BitVec 32 := Scalar.subi v88 c1_i32_47
  let v104 : BitVec 32 := Scalar.select v102 v103 v88
  let v105 : BitVec 32 := Scalar.subi v104 c0_i32_49
  let c1_i32_50 : BitVec 32 := 1#32
  let v107 : BitVec 32 := Scalar.divsi v105 c1_i32_50
  let v108 : BitVec 32 := Scalar.muli v107 c1_i32_50
  let v109 : BitVec 32 := Scalar.addi c0_i32_49 v108
  let c1_i32_52 : BitVec 32 := 1#32
  let arg14 : BitVec 32 := Scf.iv v109 c1_i32_52 k0_t2
  let v179 : BitVec 32 := Scalar.muli c4_i32_98 arg14
  let v180 : BitVec 32 := Scalar.addi v179 c0_i32_99
  let c1024_i32_100 : BitVec 32 := 1024#32
  let v181 : BitVec 32 := Scalar.muli v180 c1024_i32_100
  let v182 : BitVec 32 := v181
  let v183 : Index := Scalar.indexCast v182
  let c0_102 : Index := 0#32
  ![0, v183.toNat, 0]
def k0_mult12 (i : grid0.Coords) (k0_t2 : Fin (k0_t2_loop i).trips) : BitVec 32 :=
  let c4_i32_128 : BitVec 32 := 4#32
  let c0_i32_49 : BitVec 32 := 0#32
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_42 : BitVec 32 := 0#32
  let v89 : BitVec 1 := Scalar.cmpi .sgt v69 c0_i32_42
  let v90 : BitVec 32 := Scalar.extui v89
  let c0_i32_43 : BitVec 32 := 0#32
  let v91 : BitVec 1 := Scalar.cmpi .slt v69 c0_i32_43
  let v92 : BitVec 32 := Scalar.extui v91
  let v93 : BitVec 32 := Scalar.subi v90 v92
  let c4_i32 : BitVec 32 := 4#32
  let c0_i32_44 : BitVec 32 := 0#32
  let v94 : BitVec 1 := Scalar.cmpi .sgt c4_i32 c0_i32_44
  let v95 : BitVec 32 := Scalar.extui v94
  let c0_i32_45 : BitVec 32 := 0#32
  let v96 : BitVec 1 := Scalar.cmpi .slt c4_i32 c0_i32_45
  let v97 : BitVec 32 := Scalar.extui v96
  let v98 : BitVec 32 := Scalar.subi v95 v97
  let v99 : BitVec 1 := Scalar.cmpi .ne v93 v98
  let v100 : BitVec 32 := Scalar.remsi v69 c4_i32
  let c0_i32_46 : BitVec 32 := 0#32
  let v101 : BitVec 1 := Scalar.cmpi .ne v100 c0_i32_46
  let v102 : BitVec 1 := Scalar.andi v99 v101
  let v88 : BitVec 32 := Scalar.divsi v69 c4_i32
  let c1_i32_47 : BitVec 32 := 1#32
  let v103 : BitVec 32 := Scalar.subi v88 c1_i32_47
  let v104 : BitVec 32 := Scalar.select v102 v103 v88
  let v105 : BitVec 32 := Scalar.subi v104 c0_i32_49
  let c1_i32_50 : BitVec 32 := 1#32
  let v107 : BitVec 32 := Scalar.divsi v105 c1_i32_50
  let v108 : BitVec 32 := Scalar.muli v107 c1_i32_50
  let v109 : BitVec 32 := Scalar.addi c0_i32_49 v108
  let c1_i32_52 : BitVec 32 := 1#32
  let arg14 : BitVec 32 := Scf.iv v109 c1_i32_52 k0_t2
  let v234 : BitVec 32 := Scalar.muli c4_i32_128 arg14
  let c1_i32_129 : BitVec 32 := 1#32
  let v235 : BitVec 32 := Scalar.addi v234 c1_i32_129
  let c1_i32_130 : BitVec 32 := 1#32
  let v236 : BitVec 32 := Scalar.addi v235 c1_i32_130
  let c1024_i32_131 : BitVec 32 := 1024#32
  let v237 : BitVec 32 := Scalar.muli v236 c1024_i32_131
  v237
def k0_mult13 (i : grid0.Coords) (k0_t2 : Fin (k0_t2_loop i).trips) : BitVec 32 :=
  let c4_i32_146 : BitVec 32 := 4#32
  let c0_i32_49 : BitVec 32 := 0#32
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_42 : BitVec 32 := 0#32
  let v89 : BitVec 1 := Scalar.cmpi .sgt v69 c0_i32_42
  let v90 : BitVec 32 := Scalar.extui v89
  let c0_i32_43 : BitVec 32 := 0#32
  let v91 : BitVec 1 := Scalar.cmpi .slt v69 c0_i32_43
  let v92 : BitVec 32 := Scalar.extui v91
  let v93 : BitVec 32 := Scalar.subi v90 v92
  let c4_i32 : BitVec 32 := 4#32
  let c0_i32_44 : BitVec 32 := 0#32
  let v94 : BitVec 1 := Scalar.cmpi .sgt c4_i32 c0_i32_44
  let v95 : BitVec 32 := Scalar.extui v94
  let c0_i32_45 : BitVec 32 := 0#32
  let v96 : BitVec 1 := Scalar.cmpi .slt c4_i32 c0_i32_45
  let v97 : BitVec 32 := Scalar.extui v96
  let v98 : BitVec 32 := Scalar.subi v95 v97
  let v99 : BitVec 1 := Scalar.cmpi .ne v93 v98
  let v100 : BitVec 32 := Scalar.remsi v69 c4_i32
  let c0_i32_46 : BitVec 32 := 0#32
  let v101 : BitVec 1 := Scalar.cmpi .ne v100 c0_i32_46
  let v102 : BitVec 1 := Scalar.andi v99 v101
  let v88 : BitVec 32 := Scalar.divsi v69 c4_i32
  let c1_i32_47 : BitVec 32 := 1#32
  let v103 : BitVec 32 := Scalar.subi v88 c1_i32_47
  let v104 : BitVec 32 := Scalar.select v102 v103 v88
  let v105 : BitVec 32 := Scalar.subi v104 c0_i32_49
  let c1_i32_50 : BitVec 32 := 1#32
  let v107 : BitVec 32 := Scalar.divsi v105 c1_i32_50
  let v108 : BitVec 32 := Scalar.muli v107 c1_i32_50
  let v109 : BitVec 32 := Scalar.addi c0_i32_49 v108
  let c1_i32_52 : BitVec 32 := 1#32
  let arg14 : BitVec 32 := Scf.iv v109 c1_i32_52 k0_t2
  let v256 : BitVec 32 := Scalar.muli c4_i32_146 arg14
  let c1_i32_147 : BitVec 32 := 1#32
  let v257 : BitVec 32 := Scalar.addi v256 c1_i32_147
  let c1024_i32_148 : BitVec 32 := 1024#32
  let v258 : BitVec 32 := Scalar.muli v257 c1024_i32_148
  v258
def k0_mult14 (i : grid0.Coords) (k0_t2 : Fin (k0_t2_loop i).trips) : BitVec 32 :=
  let c4_i32_176 : BitVec 32 := 4#32
  let c0_i32_49 : BitVec 32 := 0#32
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_42 : BitVec 32 := 0#32
  let v89 : BitVec 1 := Scalar.cmpi .sgt v69 c0_i32_42
  let v90 : BitVec 32 := Scalar.extui v89
  let c0_i32_43 : BitVec 32 := 0#32
  let v91 : BitVec 1 := Scalar.cmpi .slt v69 c0_i32_43
  let v92 : BitVec 32 := Scalar.extui v91
  let v93 : BitVec 32 := Scalar.subi v90 v92
  let c4_i32 : BitVec 32 := 4#32
  let c0_i32_44 : BitVec 32 := 0#32
  let v94 : BitVec 1 := Scalar.cmpi .sgt c4_i32 c0_i32_44
  let v95 : BitVec 32 := Scalar.extui v94
  let c0_i32_45 : BitVec 32 := 0#32
  let v96 : BitVec 1 := Scalar.cmpi .slt c4_i32 c0_i32_45
  let v97 : BitVec 32 := Scalar.extui v96
  let v98 : BitVec 32 := Scalar.subi v95 v97
  let v99 : BitVec 1 := Scalar.cmpi .ne v93 v98
  let v100 : BitVec 32 := Scalar.remsi v69 c4_i32
  let c0_i32_46 : BitVec 32 := 0#32
  let v101 : BitVec 1 := Scalar.cmpi .ne v100 c0_i32_46
  let v102 : BitVec 1 := Scalar.andi v99 v101
  let v88 : BitVec 32 := Scalar.divsi v69 c4_i32
  let c1_i32_47 : BitVec 32 := 1#32
  let v103 : BitVec 32 := Scalar.subi v88 c1_i32_47
  let v104 : BitVec 32 := Scalar.select v102 v103 v88
  let v105 : BitVec 32 := Scalar.subi v104 c0_i32_49
  let c1_i32_50 : BitVec 32 := 1#32
  let v107 : BitVec 32 := Scalar.divsi v105 c1_i32_50
  let v108 : BitVec 32 := Scalar.muli v107 c1_i32_50
  let v109 : BitVec 32 := Scalar.addi c0_i32_49 v108
  let c1_i32_52 : BitVec 32 := 1#32
  let arg14 : BitVec 32 := Scf.iv v109 c1_i32_52 k0_t2
  let v311 : BitVec 32 := Scalar.muli c4_i32_176 arg14
  let c2_i32_177 : BitVec 32 := 2#32
  let v312 : BitVec 32 := Scalar.addi v311 c2_i32_177
  let c1_i32_178 : BitVec 32 := 1#32
  let v313 : BitVec 32 := Scalar.addi v312 c1_i32_178
  let c1024_i32_179 : BitVec 32 := 1024#32
  let v314 : BitVec 32 := Scalar.muli v313 c1024_i32_179
  v314
def k0_mult15 (i : grid0.Coords) (k0_t2 : Fin (k0_t2_loop i).trips) : BitVec 32 :=
  let c4_i32_194 : BitVec 32 := 4#32
  let c0_i32_49 : BitVec 32 := 0#32
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_42 : BitVec 32 := 0#32
  let v89 : BitVec 1 := Scalar.cmpi .sgt v69 c0_i32_42
  let v90 : BitVec 32 := Scalar.extui v89
  let c0_i32_43 : BitVec 32 := 0#32
  let v91 : BitVec 1 := Scalar.cmpi .slt v69 c0_i32_43
  let v92 : BitVec 32 := Scalar.extui v91
  let v93 : BitVec 32 := Scalar.subi v90 v92
  let c4_i32 : BitVec 32 := 4#32
  let c0_i32_44 : BitVec 32 := 0#32
  let v94 : BitVec 1 := Scalar.cmpi .sgt c4_i32 c0_i32_44
  let v95 : BitVec 32 := Scalar.extui v94
  let c0_i32_45 : BitVec 32 := 0#32
  let v96 : BitVec 1 := Scalar.cmpi .slt c4_i32 c0_i32_45
  let v97 : BitVec 32 := Scalar.extui v96
  let v98 : BitVec 32 := Scalar.subi v95 v97
  let v99 : BitVec 1 := Scalar.cmpi .ne v93 v98
  let v100 : BitVec 32 := Scalar.remsi v69 c4_i32
  let c0_i32_46 : BitVec 32 := 0#32
  let v101 : BitVec 1 := Scalar.cmpi .ne v100 c0_i32_46
  let v102 : BitVec 1 := Scalar.andi v99 v101
  let v88 : BitVec 32 := Scalar.divsi v69 c4_i32
  let c1_i32_47 : BitVec 32 := 1#32
  let v103 : BitVec 32 := Scalar.subi v88 c1_i32_47
  let v104 : BitVec 32 := Scalar.select v102 v103 v88
  let v105 : BitVec 32 := Scalar.subi v104 c0_i32_49
  let c1_i32_50 : BitVec 32 := 1#32
  let v107 : BitVec 32 := Scalar.divsi v105 c1_i32_50
  let v108 : BitVec 32 := Scalar.muli v107 c1_i32_50
  let v109 : BitVec 32 := Scalar.addi c0_i32_49 v108
  let c1_i32_52 : BitVec 32 := 1#32
  let arg14 : BitVec 32 := Scf.iv v109 c1_i32_52 k0_t2
  let v333 : BitVec 32 := Scalar.muli c4_i32_194 arg14
  let c2_i32_195 : BitVec 32 := 2#32
  let v334 : BitVec 32 := Scalar.addi v333 c2_i32_195
  let c1024_i32_196 : BitVec 32 := 1024#32
  let v335 : BitVec 32 := Scalar.muli v334 c1024_i32_196
  v335
def k0_mult16 (i : grid0.Coords) (k0_t2 : Fin (k0_t2_loop i).trips) : BitVec 32 :=
  let c4_i32_224 : BitVec 32 := 4#32
  let c0_i32_49 : BitVec 32 := 0#32
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_42 : BitVec 32 := 0#32
  let v89 : BitVec 1 := Scalar.cmpi .sgt v69 c0_i32_42
  let v90 : BitVec 32 := Scalar.extui v89
  let c0_i32_43 : BitVec 32 := 0#32
  let v91 : BitVec 1 := Scalar.cmpi .slt v69 c0_i32_43
  let v92 : BitVec 32 := Scalar.extui v91
  let v93 : BitVec 32 := Scalar.subi v90 v92
  let c4_i32 : BitVec 32 := 4#32
  let c0_i32_44 : BitVec 32 := 0#32
  let v94 : BitVec 1 := Scalar.cmpi .sgt c4_i32 c0_i32_44
  let v95 : BitVec 32 := Scalar.extui v94
  let c0_i32_45 : BitVec 32 := 0#32
  let v96 : BitVec 1 := Scalar.cmpi .slt c4_i32 c0_i32_45
  let v97 : BitVec 32 := Scalar.extui v96
  let v98 : BitVec 32 := Scalar.subi v95 v97
  let v99 : BitVec 1 := Scalar.cmpi .ne v93 v98
  let v100 : BitVec 32 := Scalar.remsi v69 c4_i32
  let c0_i32_46 : BitVec 32 := 0#32
  let v101 : BitVec 1 := Scalar.cmpi .ne v100 c0_i32_46
  let v102 : BitVec 1 := Scalar.andi v99 v101
  let v88 : BitVec 32 := Scalar.divsi v69 c4_i32
  let c1_i32_47 : BitVec 32 := 1#32
  let v103 : BitVec 32 := Scalar.subi v88 c1_i32_47
  let v104 : BitVec 32 := Scalar.select v102 v103 v88
  let v105 : BitVec 32 := Scalar.subi v104 c0_i32_49
  let c1_i32_50 : BitVec 32 := 1#32
  let v107 : BitVec 32 := Scalar.divsi v105 c1_i32_50
  let v108 : BitVec 32 := Scalar.muli v107 c1_i32_50
  let v109 : BitVec 32 := Scalar.addi c0_i32_49 v108
  let c1_i32_52 : BitVec 32 := 1#32
  let arg14 : BitVec 32 := Scf.iv v109 c1_i32_52 k0_t2
  let v388 : BitVec 32 := Scalar.muli c4_i32_224 arg14
  let c3_i32_225 : BitVec 32 := 3#32
  let v389 : BitVec 32 := Scalar.addi v388 c3_i32_225
  let c1_i32_226 : BitVec 32 := 1#32
  let v390 : BitVec 32 := Scalar.addi v389 c1_i32_226
  let c1024_i32_227 : BitVec 32 := 1024#32
  let v391 : BitVec 32 := Scalar.muli v390 c1024_i32_227
  v391
def k0_mult17 (i : grid0.Coords) (k0_t2 : Fin (k0_t2_loop i).trips) : BitVec 32 :=
  let c4_i32_242 : BitVec 32 := 4#32
  let c0_i32_49 : BitVec 32 := 0#32
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_42 : BitVec 32 := 0#32
  let v89 : BitVec 1 := Scalar.cmpi .sgt v69 c0_i32_42
  let v90 : BitVec 32 := Scalar.extui v89
  let c0_i32_43 : BitVec 32 := 0#32
  let v91 : BitVec 1 := Scalar.cmpi .slt v69 c0_i32_43
  let v92 : BitVec 32 := Scalar.extui v91
  let v93 : BitVec 32 := Scalar.subi v90 v92
  let c4_i32 : BitVec 32 := 4#32
  let c0_i32_44 : BitVec 32 := 0#32
  let v94 : BitVec 1 := Scalar.cmpi .sgt c4_i32 c0_i32_44
  let v95 : BitVec 32 := Scalar.extui v94
  let c0_i32_45 : BitVec 32 := 0#32
  let v96 : BitVec 1 := Scalar.cmpi .slt c4_i32 c0_i32_45
  let v97 : BitVec 32 := Scalar.extui v96
  let v98 : BitVec 32 := Scalar.subi v95 v97
  let v99 : BitVec 1 := Scalar.cmpi .ne v93 v98
  let v100 : BitVec 32 := Scalar.remsi v69 c4_i32
  let c0_i32_46 : BitVec 32 := 0#32
  let v101 : BitVec 1 := Scalar.cmpi .ne v100 c0_i32_46
  let v102 : BitVec 1 := Scalar.andi v99 v101
  let v88 : BitVec 32 := Scalar.divsi v69 c4_i32
  let c1_i32_47 : BitVec 32 := 1#32
  let v103 : BitVec 32 := Scalar.subi v88 c1_i32_47
  let v104 : BitVec 32 := Scalar.select v102 v103 v88
  let v105 : BitVec 32 := Scalar.subi v104 c0_i32_49
  let c1_i32_50 : BitVec 32 := 1#32
  let v107 : BitVec 32 := Scalar.divsi v105 c1_i32_50
  let v108 : BitVec 32 := Scalar.muli v107 c1_i32_50
  let v109 : BitVec 32 := Scalar.addi c0_i32_49 v108
  let c1_i32_52 : BitVec 32 := 1#32
  let arg14 : BitVec 32 := Scf.iv v109 c1_i32_52 k0_t2
  let v410 : BitVec 32 := Scalar.muli c4_i32_242 arg14
  let c3_i32_243 : BitVec 32 := 3#32
  let v411 : BitVec 32 := Scalar.addi v410 c3_i32_243
  let c1024_i32_244 : BitVec 32 := 1024#32
  let v412 : BitVec 32 := Scalar.muli v411 c1024_i32_244
  v412
def k0_cond1 (i : grid0.Coords) : BitVec 1 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let v128 : BitVec 32 := Scalar.subi v69 v127
  let c0_i32_61 : BitVec 32 := 0#32
  let v129 : BitVec 1 := Scalar.cmpi .eq v128 c0_i32_61
  let v130 : BitVec 32 := Scalar.extui v129
  let c0_i32_62 : BitVec 32 := 0#32
  let v131 : BitVec 1 := Scalar.cmpi .ne v130 c0_i32_62
  v131

def k0_mult18 (i : grid0.Coords) : BitVec 32 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let c0_i32_80 : BitVec 32 := 0#32
  let v157 : BitVec 32 := Scalar.addi v127 c0_i32_80
  let c1024_i32_81 : BitVec 32 := 1024#32
  let v158 : BitVec 32 := Scalar.muli v157 c1024_i32_81
  v158
def k0_off5 (i : grid0.Coords) : Fin 3 → Nat :=
  let c0_82 : Index := 0#32
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let c0_i32_80 : BitVec 32 := 0#32
  let v157 : BitVec 32 := Scalar.addi v127 c0_i32_80
  let c1024_i32_81 : BitVec 32 := 1024#32
  let v158 : BitVec 32 := Scalar.muli v157 c1024_i32_81
  let v159 : BitVec 32 := v158
  let v160 : Index := Scalar.indexCast v159
  let c0_83 : Index := 0#32
  ![0, v160.toNat, 0]
def k0_cond2 (i : grid0.Coords) : BitVec 1 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let v132 : BitVec 32 := Scalar.subi v69 v127
  let c1_i32_63 : BitVec 32 := 1#32
  let v133 : BitVec 1 := Scalar.cmpi .eq v132 c1_i32_63
  let v134 : BitVec 32 := Scalar.extui v133
  let c0_i32_64 : BitVec 32 := 0#32
  let v135 : BitVec 1 := Scalar.cmpi .ne v134 c0_i32_64
  v135

def k0_mult19 (i : grid0.Coords) : BitVec 32 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let c0_i32_80 : BitVec 32 := 0#32
  let v157 : BitVec 32 := Scalar.addi v127 c0_i32_80
  let c1_i32_81 : BitVec 32 := 1#32
  let v158 : BitVec 32 := Scalar.addi v157 c1_i32_81
  let c1024_i32_82 : BitVec 32 := 1024#32
  let v159 : BitVec 32 := Scalar.muli v158 c1024_i32_82
  v159
def k0_off6 (i : grid0.Coords) : Fin 3 → Nat :=
  let c0_83 : Index := 0#32
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let c0_i32_80 : BitVec 32 := 0#32
  let v157 : BitVec 32 := Scalar.addi v127 c0_i32_80
  let c1_i32_81 : BitVec 32 := 1#32
  let v158 : BitVec 32 := Scalar.addi v157 c1_i32_81
  let c1024_i32_82 : BitVec 32 := 1024#32
  let v159 : BitVec 32 := Scalar.muli v158 c1024_i32_82
  let v160 : BitVec 32 := v159
  let v161 : Index := Scalar.indexCast v160
  let c0_84 : Index := 0#32
  ![0, v161.toNat, 0]
def k0_mult20 (i : grid0.Coords) : BitVec 32 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let c0_i32_97 : BitVec 32 := 0#32
  let v178 : BitVec 32 := Scalar.addi v127 c0_i32_97
  let c1024_i32_98 : BitVec 32 := 1024#32
  let v179 : BitVec 32 := Scalar.muli v178 c1024_i32_98
  v179
def k0_off7 (i : grid0.Coords) (c0_i32_97 : BitVec 32) : Fin 3 → Nat :=
  let c0_99 : Index := 0#32
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let v178 : BitVec 32 := Scalar.addi v127 c0_i32_97
  let c1024_i32_98 : BitVec 32 := 1024#32
  let v179 : BitVec 32 := Scalar.muli v178 c1024_i32_98
  let v180 : BitVec 32 := v179
  let v181 : Index := Scalar.indexCast v180
  let c0_100 : Index := 0#32
  ![0, v181.toNat, 0]
def k0_mult21 (i : grid0.Coords) : BitVec 32 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let c1_i32_126 : BitVec 32 := 1#32
  let v232 : BitVec 32 := Scalar.addi v127 c1_i32_126
  let c1024_i32_127 : BitVec 32 := 1024#32
  let v233 : BitVec 32 := Scalar.muli v232 c1024_i32_127
  v233
def k0_cond3 (i : grid0.Coords) : BitVec 1 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let v136 : BitVec 32 := Scalar.subi v69 v127
  let c2_i32_65 : BitVec 32 := 2#32
  let v137 : BitVec 1 := Scalar.cmpi .eq v136 c2_i32_65
  let v138 : BitVec 32 := Scalar.extui v137
  let c0_i32_66 : BitVec 32 := 0#32
  let v139 : BitVec 1 := Scalar.cmpi .ne v138 c0_i32_66
  v139

def k0_mult22 (i : grid0.Coords) : BitVec 32 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let c0_i32_80 : BitVec 32 := 0#32
  let v157 : BitVec 32 := Scalar.addi v127 c0_i32_80
  let c1_i32_81 : BitVec 32 := 1#32
  let v158 : BitVec 32 := Scalar.addi v157 c1_i32_81
  let c1024_i32_82 : BitVec 32 := 1024#32
  let v159 : BitVec 32 := Scalar.muli v158 c1024_i32_82
  v159
def k0_off8 (i : grid0.Coords) (c0_i32_80 : BitVec 32) : Fin 3 → Nat :=
  let c0_83 : Index := 0#32
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let v157 : BitVec 32 := Scalar.addi v127 c0_i32_80
  let c1_i32_81 : BitVec 32 := 1#32
  let v158 : BitVec 32 := Scalar.addi v157 c1_i32_81
  let c1024_i32_82 : BitVec 32 := 1024#32
  let v159 : BitVec 32 := Scalar.muli v158 c1024_i32_82
  let v160 : BitVec 32 := v159
  let v161 : Index := Scalar.indexCast v160
  let c0_84 : Index := 0#32
  ![0, v161.toNat, 0]
def k0_mult23 (i : grid0.Coords) : BitVec 32 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let c0_i32_97 : BitVec 32 := 0#32
  let v178 : BitVec 32 := Scalar.addi v127 c0_i32_97
  let c1024_i32_98 : BitVec 32 := 1024#32
  let v179 : BitVec 32 := Scalar.muli v178 c1024_i32_98
  v179
def k0_off9 (i : grid0.Coords) (c0_i32_97 : BitVec 32) : Fin 3 → Nat :=
  let c0_99 : Index := 0#32
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let v178 : BitVec 32 := Scalar.addi v127 c0_i32_97
  let c1024_i32_98 : BitVec 32 := 1024#32
  let v179 : BitVec 32 := Scalar.muli v178 c1024_i32_98
  let v180 : BitVec 32 := v179
  let v181 : Index := Scalar.indexCast v180
  let c0_100 : Index := 0#32
  ![0, v181.toNat, 0]
def k0_mult24 (i : grid0.Coords) : BitVec 32 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let c1_i32_126 : BitVec 32 := 1#32
  let v232 : BitVec 32 := Scalar.addi v127 c1_i32_126
  let c1_i32_127 : BitVec 32 := 1#32
  let v233 : BitVec 32 := Scalar.addi v232 c1_i32_127
  let c1024_i32_128 : BitVec 32 := 1024#32
  let v234 : BitVec 32 := Scalar.muli v233 c1024_i32_128
  v234
def k0_mult25 (i : grid0.Coords) : BitVec 32 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let c1_i32_143 : BitVec 32 := 1#32
  let v253 : BitVec 32 := Scalar.addi v127 c1_i32_143
  let c1024_i32_144 : BitVec 32 := 1024#32
  let v254 : BitVec 32 := Scalar.muli v253 c1024_i32_144
  v254
def k0_mult26 (i : grid0.Coords) : BitVec 32 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let c2_i32_172 : BitVec 32 := 2#32
  let v307 : BitVec 32 := Scalar.addi v127 c2_i32_172
  let c1024_i32_173 : BitVec 32 := 1024#32
  let v308 : BitVec 32 := Scalar.muli v307 c1024_i32_173
  v308
def k0_cond4 (i : grid0.Coords) : BitVec 1 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let v140 : BitVec 32 := Scalar.subi v69 v127
  let c3_i32 : BitVec 32 := 3#32
  let v141 : BitVec 1 := Scalar.cmpi .eq v140 c3_i32
  let v142 : BitVec 32 := Scalar.extui v141
  let c0_i32_67 : BitVec 32 := 0#32
  let v143 : BitVec 1 := Scalar.cmpi .ne v142 c0_i32_67
  v143

def k0_mult27 (i : grid0.Coords) : BitVec 32 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let c0_i32_80 : BitVec 32 := 0#32
  let v157 : BitVec 32 := Scalar.addi v127 c0_i32_80
  let c1_i32_81 : BitVec 32 := 1#32
  let v158 : BitVec 32 := Scalar.addi v157 c1_i32_81
  let c1024_i32_82 : BitVec 32 := 1024#32
  let v159 : BitVec 32 := Scalar.muli v158 c1024_i32_82
  v159
def k0_off10 (i : grid0.Coords) (c0_i32_80 : BitVec 32) : Fin 3 → Nat :=
  let c0_83 : Index := 0#32
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let v157 : BitVec 32 := Scalar.addi v127 c0_i32_80
  let c1_i32_81 : BitVec 32 := 1#32
  let v158 : BitVec 32 := Scalar.addi v157 c1_i32_81
  let c1024_i32_82 : BitVec 32 := 1024#32
  let v159 : BitVec 32 := Scalar.muli v158 c1024_i32_82
  let v160 : BitVec 32 := v159
  let v161 : Index := Scalar.indexCast v160
  let c0_84 : Index := 0#32
  ![0, v161.toNat, 0]
def k0_mult28 (i : grid0.Coords) : BitVec 32 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let c0_i32_97 : BitVec 32 := 0#32
  let v178 : BitVec 32 := Scalar.addi v127 c0_i32_97
  let c1024_i32_98 : BitVec 32 := 1024#32
  let v179 : BitVec 32 := Scalar.muli v178 c1024_i32_98
  v179
def k0_off11 (i : grid0.Coords) (c0_i32_97 : BitVec 32) : Fin 3 → Nat :=
  let c0_99 : Index := 0#32
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let v178 : BitVec 32 := Scalar.addi v127 c0_i32_97
  let c1024_i32_98 : BitVec 32 := 1024#32
  let v179 : BitVec 32 := Scalar.muli v178 c1024_i32_98
  let v180 : BitVec 32 := v179
  let v181 : Index := Scalar.indexCast v180
  let c0_100 : Index := 0#32
  ![0, v181.toNat, 0]
def k0_mult29 (i : grid0.Coords) : BitVec 32 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let c1_i32_126 : BitVec 32 := 1#32
  let v232 : BitVec 32 := Scalar.addi v127 c1_i32_126
  let c1_i32_127 : BitVec 32 := 1#32
  let v233 : BitVec 32 := Scalar.addi v232 c1_i32_127
  let c1024_i32_128 : BitVec 32 := 1024#32
  let v234 : BitVec 32 := Scalar.muli v233 c1024_i32_128
  v234
def k0_mult30 (i : grid0.Coords) : BitVec 32 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let c1_i32_143 : BitVec 32 := 1#32
  let v253 : BitVec 32 := Scalar.addi v127 c1_i32_143
  let c1024_i32_144 : BitVec 32 := 1024#32
  let v254 : BitVec 32 := Scalar.muli v253 c1024_i32_144
  v254
def k0_mult31 (i : grid0.Coords) : BitVec 32 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let c2_i32_172 : BitVec 32 := 2#32
  let v307 : BitVec 32 := Scalar.addi v127 c2_i32_172
  let c1_i32_173 : BitVec 32 := 1#32
  let v308 : BitVec 32 := Scalar.addi v307 c1_i32_173
  let c1024_i32_174 : BitVec 32 := 1024#32
  let v309 : BitVec 32 := Scalar.muli v308 c1024_i32_174
  v309
def k0_mult32 (i : grid0.Coords) : BitVec 32 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let c2_i32_189 : BitVec 32 := 2#32
  let v328 : BitVec 32 := Scalar.addi v127 c2_i32_189
  let c1024_i32_190 : BitVec 32 := 1024#32
  let v329 : BitVec 32 := Scalar.muli v328 c1024_i32_190
  v329
def k0_mult33 (i : grid0.Coords) : BitVec 32 :=
  let arg2 : BitVec 32 := BitVec.ofNat 32 (i 2).val
  let c512_i32 : BitVec 32 := 512#32
  let v52 : BitVec 32 := Scalar.muli arg2 c512_i32
  let c0_i32_21 : BitVec 32 := 0#32
  let v54 : BitVec 1 := Scalar.cmpi .sgt v52 c0_i32_21
  let v55 : BitVec 32 := Scalar.extui v54
  let c0_i32_22 : BitVec 32 := 0#32
  let v56 : BitVec 1 := Scalar.cmpi .slt v52 c0_i32_22
  let v57 : BitVec 32 := Scalar.extui v56
  let v58 : BitVec 32 := Scalar.subi v55 v57
  let c1024_i32 : BitVec 32 := 1024#32
  let c0_i32_23 : BitVec 32 := 0#32
  let v59 : BitVec 1 := Scalar.cmpi .sgt c1024_i32 c0_i32_23
  let v60 : BitVec 32 := Scalar.extui v59
  let c0_i32_24 : BitVec 32 := 0#32
  let v61 : BitVec 1 := Scalar.cmpi .slt c1024_i32 c0_i32_24
  let v62 : BitVec 32 := Scalar.extui v61
  let v63 : BitVec 32 := Scalar.subi v60 v62
  let v64 : BitVec 1 := Scalar.cmpi .ne v58 v63
  let v65 : BitVec 32 := Scalar.remsi v52 c1024_i32
  let c0_i32_25 : BitVec 32 := 0#32
  let v66 : BitVec 1 := Scalar.cmpi .ne v65 c0_i32_25
  let v67 : BitVec 1 := Scalar.andi v64 v66
  let v53 : BitVec 32 := Scalar.divsi v52 c1024_i32
  let c1_i32_26 : BitVec 32 := 1#32
  let v68 : BitVec 32 := Scalar.subi v53 c1_i32_26
  let v69 : BitVec 32 := Scalar.select v67 v68 v53
  let c0_i32_54 : BitVec 32 := 0#32
  let v111 : BitVec 1 := Scalar.cmpi .sgt v69 c0_i32_54
  let v112 : BitVec 32 := Scalar.extui v111
  let c0_i32_55 : BitVec 32 := 0#32
  let v113 : BitVec 1 := Scalar.cmpi .slt v69 c0_i32_55
  let v114 : BitVec 32 := Scalar.extui v113
  let v115 : BitVec 32 := Scalar.subi v112 v114
  let c4_i32_53 : BitVec 32 := 4#32
  let c0_i32_56 : BitVec 32 := 0#32
  let v116 : BitVec 1 := Scalar.cmpi .sgt c4_i32_53 c0_i32_56
  let v117 : BitVec 32 := Scalar.extui v116
  let c0_i32_57 : BitVec 32 := 0#32
  let v118 : BitVec 1 := Scalar.cmpi .slt c4_i32_53 c0_i32_57
  let v119 : BitVec 32 := Scalar.extui v118
  let v120 : BitVec 32 := Scalar.subi v117 v119
  let v121 : BitVec 1 := Scalar.cmpi .ne v115 v120
  let v122 : BitVec 32 := Scalar.remsi v69 c4_i32_53
  let c0_i32_58 : BitVec 32 := 0#32
  let v123 : BitVec 1 := Scalar.cmpi .ne v122 c0_i32_58
  let v124 : BitVec 1 := Scalar.andi v121 v123
  let v110 : BitVec 32 := Scalar.divsi v69 c4_i32_53
  let c1_i32_59 : BitVec 32 := 1#32
  let v125 : BitVec 32 := Scalar.subi v110 c1_i32_59
  let v126 : BitVec 32 := Scalar.select v124 v125 v110
  let c4_i32_60 : BitVec 32 := 4#32
  let v127 : BitVec 32 := Scalar.muli v126 c4_i32_60
  let c3_i32_218 : BitVec 32 := 3#32
  let v382 : BitVec 32 := Scalar.addi v127 c3_i32_218
  let c1024_i32_219 : BitVec 32 := 1024#32
  let v383 : BitVec 32 := Scalar.muli v382 c1024_i32_219
  v383
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi c14_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Proof.RunTy.lean ====
/- One run of the kernel's body over the pieces it writes into its output block. The second score buffer is written
   inside the key loop only, so the pieces are given as a function of what the scratch buffers held before. -/
module

public import proofs.«01_k».proof.Proof.Gen.KernelIdeal.Frame.Runs

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A run of the body on whole buffers: the pieces it writes into the output block, as a function of the scratch
    buffers' contents on entry, with the triple: the inputs are handed back unchanged, the scratch at some contents. -/
abbrev RunTy (c : Dev nD) (i : grid0.Coords) (arg3 : Memref sig .tc .vmem S8x128 .f32) (harg3 : arg3.IsWhole) (arg4 : Memref sig .tc .vmem S1x128 .f32) (harg4 : arg4.IsWhole) (arg5 : Memref sig .tc .vmem S1x1024x128 .bf16) (harg5 : arg5.IsWhole) (arg6 : Memref sig .tc .vmem S1x16384x128 .bf16) (harg6 : arg6.IsWhole) (arg7 : Memref sig .tc .vmem S1x16384x128 .bf16) (harg7 : arg7.IsWhole) (arg8 : Memref sig .tc .vmem S1x1024x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x256 .f32) (harg11 : arg11.IsWhole) (arg12 : Memref sig .tc .vmem S2048x1024 .f32) (harg12 : arg12.IsWhole) (arg13 : Memref sig .tc .vmem S2048x1024 .f32) (harg13 : arg13.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : Type :=
  { L : BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S1x1024x128 .bf16) //
    ∀ (E : Set ℕ) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty),
      (iprop(((arg3.view.loc (c : Thread nD τ)) ↦[arg3.view.set]{fullShare} X3) ∗ ((arg4.view.loc (c : Thread nD τ)) ↦[arg4.view.set]{fullShare} X4) ∗ ((arg5.view.loc (c : Thread nD τ)) ↦[arg5.view.set]{fullShare} X5) ∗ ((arg6.view.loc (c : Thread nD τ)) ↦[arg6.view.set]{fullShare} X6) ∗ ((arg7.view.loc (c : Thread nD τ)) ↦[arg7.view.set]{fullShare} X7) ∗ ((arg8.view.loc (c : Thread nD τ)) ↦[arg8.view.set]{fullShare} f8) ∗ ((arg9.view.loc (c : Thread nD τ)) ↦[arg9.view.set]{fullShare} f9) ∗ ((arg10.view.loc (c : Thread nD τ)) ↦[arg10.view.set]{fullShare} f10) ∗ ((arg11.view.loc (c : Thread nD τ)) ↦[arg11.view.set]{fullShare} f11) ∗ ((arg12.view.loc (c : Thread nD τ)) ↦[arg12.view.set]{fullShare} f12) ∗ ((arg13.view.loc (c : Thread nD τ)) ↦[arg13.view.set]{fullShare} f13)) : sProp 𝕄)
      ⊢ wp frame (wpE (defs₀ (F := F)) Variants.none (c : Thread nD τ) none) E (cc0_diff_attention i arg3 harg3 arg4 harg4 arg5 harg5 arg6 harg6 arg7 harg7 arg8 harg8 arg9 harg9 arg10 harg10 arg11 harg11 arg12 harg12 arg13 harg13)
          (fun _ => iprop(((arg3.view.loc (c : Thread nD τ)) ↦[arg3.view.set]{fullShare} X3) ∗ ((arg4.view.loc (c : Thread nD τ)) ↦[arg4.view.set]{fullShare} X4) ∗ ((arg5.view.loc (c : Thread nD τ)) ↦[arg5.view.set]{fullShare} X5) ∗ ((arg6.view.loc (c : Thread nD τ)) ↦[arg6.view.set]{fullShare} X6) ∗ ((arg7.view.loc (c : Thread nD τ)) ↦[arg7.view.set]{fullShare} X7) ∗ ((arg8.view.loc (c : Thread nD τ)) ↦[arg8.view.set]{fullShare} (arg8.view.writes (Elt F) f8 (L f9 f10 f11 f12 f13))) ∗ (∃ f, ((arg9.view.loc (c : Thread nD τ)) ↦[arg9.view.set]{fullShare} f)) ∗ (∃ f, ((arg10.view.loc (c : Thread nD τ)) ↦[arg10.view.set]{fullShare} f)) ∗ (∃ f, ((arg11.view.loc (c : Thread nD τ)) ↦[arg11.view.set]{fullShare} f)) ∗ (∃ f, ((arg12.view.loc (c : Thread nD τ)) ↦[arg12.view.set]{fullShare} f)) ∗ (∃ f, ((arg13.view.loc (c : Thread nD τ)) ↦[arg13.view.set]{fullShare} f)))) }

end Cert.Body

end
-- ==== Proof.RunA.lean ====
/- One run of the kernel's body over the pieces it writes into its output block. The second score buffer is written
   inside the key loop only, so the pieces are given as a function of what the scratch buffers held before. -/
module

public import proofs.«01_k».proof.Proof.RunTy

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The run when no key chunk is left over after the whole trips. -/
def runA (c : Dev nD) (i : grid0.Coords) (arg3 : Memref sig .tc .vmem S8x128 .f32) (harg3 : arg3.IsWhole) (arg4 : Memref sig .tc .vmem S1x128 .f32) (harg4 : arg4.IsWhole) (arg5 : Memref sig .tc .vmem S1x1024x128 .bf16) (harg5 : arg5.IsWhole) (arg6 : Memref sig .tc .vmem S1x16384x128 .bf16) (harg6 : arg6.IsWhole) (arg7 : Memref sig .tc .vmem S1x16384x128 .bf16) (harg7 : arg7.IsWhole) (arg8 : Memref sig .tc .vmem S1x1024x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x256 .f32) (harg11 : arg11.IsWhole) (arg12 : Memref sig .tc .vmem S2048x1024 .f32) (harg12 : arg12.IsWhole) (arg13 : Memref sig .tc .vmem S2048x1024 .f32) (harg13 : arg13.IsWhole) (hc0 : cond0_0 i) (hc1 : ¬cond0_1 i) (hc2 : ¬cond0_2 i) (hc3 : ¬cond0_3 i) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    RunTy c i arg3 harg3 arg4 harg4 arg5 harg5 arg6 harg6 arg7 harg7 arg8 harg8 arg9 harg9 arg10 harg10 arg11 harg11 arg12 harg12 arg13 harg13 X3 X4 X5 X6 X7 := by
  refine ⟨?_, fun E f8 f9 f10 f11 f12 f13 => ?run⟩
  case run =>
    simp only [cc0_diff_attention_eq_skeleton]; unfold cc0_diff_attention_skel
    simp only [k0_part34_eq_skeleton, k0_part35_eq_skeleton, k0_part36_eq_skeleton, k0_part17_eq_skeleton, k0_part37_eq_skeleton]
    iintro ⟨H0, H1, H2, H3, H4, H5, HS0, HS1, HS2, HS3, HS4⟩
    sl_exec (disch := first | sl_exact hc0 | sl_exact hc1 | sl_exact hc2 | sl_exact hc3)
    sl_step
    sl_close

end Cert.Body

end
-- ==== Proof.RunB.lean ====
/- One run of the kernel's body over the pieces it writes into its output block. The second score buffer is written
   inside the key loop only, so the pieces are given as a function of what the scratch buffers held before. -/
module

public import proofs.«01_k».proof.Proof.RunTy

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The run when one key chunk is left over. -/
def runB (c : Dev nD) (i : grid0.Coords) (arg3 : Memref sig .tc .vmem S8x128 .f32) (harg3 : arg3.IsWhole) (arg4 : Memref sig .tc .vmem S1x128 .f32) (harg4 : arg4.IsWhole) (arg5 : Memref sig .tc .vmem S1x1024x128 .bf16) (harg5 : arg5.IsWhole) (arg6 : Memref sig .tc .vmem S1x16384x128 .bf16) (harg6 : arg6.IsWhole) (arg7 : Memref sig .tc .vmem S1x16384x128 .bf16) (harg7 : arg7.IsWhole) (arg8 : Memref sig .tc .vmem S1x1024x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x256 .f32) (harg11 : arg11.IsWhole) (arg12 : Memref sig .tc .vmem S2048x1024 .f32) (harg12 : arg12.IsWhole) (arg13 : Memref sig .tc .vmem S2048x1024 .f32) (harg13 : arg13.IsWhole) (hc0 : ¬cond0_0 i) (hc1 : cond0_1 i) (hc2 : ¬cond0_2 i) (hc3 : ¬cond0_3 i) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    RunTy c i arg3 harg3 arg4 harg4 arg5 harg5 arg6 harg6 arg7 harg7 arg8 harg8 arg9 harg9 arg10 harg10 arg11 harg11 arg12 harg12 arg13 harg13 X3 X4 X5 X6 X7 := by
  refine ⟨?_, fun E f8 f9 f10 f11 f12 f13 => ?run⟩
  case run =>
    simp only [cc0_diff_attention_eq_skeleton]; unfold cc0_diff_attention_skel
    simp only [k0_part34_eq_skeleton, k0_part35_eq_skeleton, k0_part36_eq_skeleton, k0_part18_eq_skeleton, k0_part19_eq_skeleton, k0_part20_eq_skeleton, k0_part37_eq_skeleton]
    iintro ⟨H0, H1, H2, H3, H4, H5, HS0, HS1, HS2, HS3, HS4⟩
    sl_exec (disch := first | sl_exact hc0 | sl_exact hc1 | sl_exact hc2 | sl_exact hc3)
    sl_step
    sl_close

end Cert.Body

end
-- ==== Proof.RunC.lean ====
/- One run of the kernel's body over the pieces it writes into its output block. The second score buffer is written
   inside the key loop only, so the pieces are given as a function of what the scratch buffers held before. -/
module

public import proofs.«01_k».proof.Proof.RunTy

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The run when two key chunks are left over. -/
def runC (c : Dev nD) (i : grid0.Coords) (arg3 : Memref sig .tc .vmem S8x128 .f32) (harg3 : arg3.IsWhole) (arg4 : Memref sig .tc .vmem S1x128 .f32) (harg4 : arg4.IsWhole) (arg5 : Memref sig .tc .vmem S1x1024x128 .bf16) (harg5 : arg5.IsWhole) (arg6 : Memref sig .tc .vmem S1x16384x128 .bf16) (harg6 : arg6.IsWhole) (arg7 : Memref sig .tc .vmem S1x16384x128 .bf16) (harg7 : arg7.IsWhole) (arg8 : Memref sig .tc .vmem S1x1024x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x256 .f32) (harg11 : arg11.IsWhole) (arg12 : Memref sig .tc .vmem S2048x1024 .f32) (harg12 : arg12.IsWhole) (arg13 : Memref sig .tc .vmem S2048x1024 .f32) (harg13 : arg13.IsWhole) (hc0 : ¬cond0_0 i) (hc1 : ¬cond0_1 i) (hc2 : cond0_2 i) (hc3 : ¬cond0_3 i) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    RunTy c i arg3 harg3 arg4 harg4 arg5 harg5 arg6 harg6 arg7 harg7 arg8 harg8 arg9 harg9 arg10 harg10 arg11 harg11 arg12 harg12 arg13 harg13 X3 X4 X5 X6 X7 := by
  refine ⟨?_, fun E f8 f9 f10 f11 f12 f13 => ?run⟩
  case run =>
    simp only [cc0_diff_attention_eq_skeleton]; unfold cc0_diff_attention_skel
    simp only [k0_part34_eq_skeleton, k0_part35_eq_skeleton, k0_part36_eq_skeleton, k0_part37_eq_skeleton, k0_part21_eq_skeleton, k0_part22_eq_skeleton, k0_part23_eq_skeleton, k0_part24_eq_skeleton, k0_part25_eq_skeleton]
    iintro ⟨H0, H1, H2, H3, H4, H5, HS0, HS1, HS2, HS3, HS4⟩
    sl_exec (disch := first | sl_exact hc0 | sl_exact hc1 | sl_exact hc2 | sl_exact hc3)
    sl_step
    sl_close

end Cert.Body

end
-- ==== Proof.RunD.lean ====
/- One run of the kernel's body over the pieces it writes into its output block. The second score buffer is written
   inside the key loop only, so the pieces are given as a function of what the scratch buffers held before. -/
module

public import proofs.«01_k».proof.Proof.RunTy

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The run when three key chunks are left over. -/
def runD (c : Dev nD) (i : grid0.Coords) (arg3 : Memref sig .tc .vmem S8x128 .f32) (harg3 : arg3.IsWhole) (arg4 : Memref sig .tc .vmem S1x128 .f32) (harg4 : arg4.IsWhole) (arg5 : Memref sig .tc .vmem S1x1024x128 .bf16) (harg5 : arg5.IsWhole) (arg6 : Memref sig .tc .vmem S1x16384x128 .bf16) (harg6 : arg6.IsWhole) (arg7 : Memref sig .tc .vmem S1x16384x128 .bf16) (harg7 : arg7.IsWhole) (arg8 : Memref sig .tc .vmem S1x1024x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x256 .f32) (harg11 : arg11.IsWhole) (arg12 : Memref sig .tc .vmem S2048x1024 .f32) (harg12 : arg12.IsWhole) (arg13 : Memref sig .tc .vmem S2048x1024 .f32) (harg13 : arg13.IsWhole) (hc0 : ¬cond0_0 i) (hc1 : ¬cond0_1 i) (hc2 : ¬cond0_2 i) (hc3 : cond0_3 i) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    RunTy c i arg3 harg3 arg4 harg4 arg5 harg5 arg6 harg6 arg7 harg7 arg8 harg8 arg9 harg9 arg10 harg10 arg11 harg11 arg12 harg12 arg13 harg13 X3 X4 X5 X6 X7 := by
  refine ⟨?_, fun E f8 f9 f10 f11 f12 f13 => ?run⟩
  case run =>
    simp only [cc0_diff_attention_eq_skeleton]; unfold cc0_diff_attention_skel
    simp only [k0_part34_eq_skeleton, k0_part35_eq_skeleton, k0_part36_eq_skeleton, k0_part37_eq_skeleton, k0_part33_eq_skeleton, k0_part26_eq_skeleton, k0_part27_eq_skeleton, k0_part28_eq_skeleton, k0_part29_eq_skeleton, k0_part30_eq_skeleton, k0_part31_eq_skeleton, k0_part32_eq_skeleton]
    iintro ⟨H0, H1, H2, H3, H4, H5, HS0, HS1, HS2, HS3, HS4⟩
    sl_exec (disch := first | sl_exact hc0 | sl_exact hc1 | sl_exact hc2 | sl_exact hc3)
    sl_step
    sl_close

end Cert.Body

end
-- ==== Proof.Launched.lean ====
/- The launch of the kernel: from the body's runs to what every terminating execution leaves. Two readings of the same
   run: one that states nothing of the output, at any float values, and one that states a given block at every grid point. -/
module

public import proofs.«01_k».proof.Proof.RunA
public import proofs.«01_k».proof.Proof.RunB
public import proofs.«01_k».proof.Proof.RunC
public import proofs.«01_k».proof.Proof.RunD
public import Idealize.ShloMosaic.Lib.Claim

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at grid point `t`, on the point's staging buffers and input blocks: the case is the number of key
    chunks left over after whole trips of four. -/
def runAt (c : Dev nD) (t : Fin cfg0.N) :
    RunTy c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _)
      ((hs0_0 t).unread (iblk m c 0 t)) ((hs0_1 t).unread (iblk m c 1 t)) ((hs0_2 t).unread (iblk m c 2 t)) ((hs0_3 t).unread (iblk m c 3 t)) ((hs0_4 t).unread (iblk m c 4 t)) :=
  if h : t.val % 4 = 0 then runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h) (fun h' => by have := (hcond0_1 t).mp h'; omega) (fun h' => by have := (hcond0_2 t).mp h'; omega) (fun h' => by have := (hcond0_3 t).mp h'; omega) ((hs0_0 t).unread (iblk m c 0 t)) ((hs0_1 t).unread (iblk m c 1 t)) ((hs0_2 t).unread (iblk m c 2 t)) ((hs0_3 t).unread (iblk m c 3 t)) ((hs0_4 t).unread (iblk m c 4 t))
  else if h : t.val % 4 = 1 then runB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h' => by have := (hcond0_0 t).mp h'; omega) ((hcond0_1 t).mpr h) (fun h' => by have := (hcond0_2 t).mp h'; omega) (fun h' => by have := (hcond0_3 t).mp h'; omega) ((hs0_0 t).unread (iblk m c 0 t)) ((hs0_1 t).unread (iblk m c 1 t)) ((hs0_2 t).unread (iblk m c 2 t)) ((hs0_3 t).unread (iblk m c 3 t)) ((hs0_4 t).unread (iblk m c 4 t))
  else if h : t.val % 4 = 2 then runC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h' => by have := (hcond0_0 t).mp h'; omega) (fun h' => by have := (hcond0_1 t).mp h'; omega) ((hcond0_2 t).mpr h) (fun h' => by have := (hcond0_3 t).mp h'; omega) ((hs0_0 t).unread (iblk m c 0 t)) ((hs0_1 t).unread (iblk m c 1 t)) ((hs0_2 t).unread (iblk m c 2 t)) ((hs0_3 t).unread (iblk m c 3 t)) ((hs0_4 t).unread (iblk m c 4 t))
  else
    have h : t.val % 4 = 3 := by omega
    runD c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h' => by have := (hcond0_0 t).mp h'; omega) (fun h' => by have := (hcond0_1 t).mp h'; omega) (fun h' => by have := (hcond0_2 t).mp h'; omega) ((hcond0_3 t).mpr h) ((hs0_0 t).unread (iblk m c 0 t)) ((hs0_1 t).unread (iblk m c 1 t)) ((hs0_2 t).unread (iblk m c 2 t)) ((hs0_3 t).unread (iblk m c 3 t)) ((hs0_4 t).unread (iblk m c 4 t))

/-- The proof data of the pipeline on core `c`: the arrays as the region finds them, each input buffer at its block after
    the body, and the output buffer at `B c t`. -/
def dats (B : Dev nD → Fin cfg0.N → Vec F S1x1024x128 .bf16) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => B c t
  Φ _ := Pipeline.ΦA spec0 c
  q w := Pipeline.shareOf spec0 w
  owed _ := 0

/-- The proof data's arrays are the region-entry contents. -/
theorem A_eq (B : Dev nD → Fin cfg0.N → Vec F S1x1024x128 .bf16) (c : Dev nD) (w : Fin cfg0.W) : (dats m B 0 c).A w = V m c (Pipeline.arrRef spec0 w) := by
  dsimp only [dats]

/-- What the body leaves in the first window's buffer. -/
theorem after_0 (B : Dev nD → Fin cfg0.N → Vec F S1x1024x128 .bf16) (c : Dev nD) (t : Fin cfg0.N) : (dats m B 0 c).after 0 t = iblk m c 0 t := by dsimp only [dats]
/-- What the body leaves in window 1's buffer. -/
theorem after_1 (B : Dev nD → Fin cfg0.N → Vec F S1x1024x128 .bf16) (c : Dev nD) (t : Fin cfg0.N) : (dats m B 0 c).after 1 t = iblk m c 1 t := by dsimp only [dats]
/-- What the body leaves in window 2's buffer. -/
theorem after_2 (B : Dev nD → Fin cfg0.N → Vec F S1x1024x128 .bf16) (c : Dev nD) (t : Fin cfg0.N) : (dats m B 0 c).after 2 t = iblk m c 2 t := by dsimp only [dats]
/-- What the body leaves in window 3's buffer. -/
theorem after_3 (B : Dev nD → Fin cfg0.N → Vec F S1x1024x128 .bf16) (c : Dev nD) (t : Fin cfg0.N) : (dats m B 0 c).after 3 t = iblk m c 3 t := by dsimp only [dats]
/-- What the body leaves in window 4's buffer. -/
theorem after_4 (B : Dev nD → Fin cfg0.N → Vec F S1x1024x128 .bf16) (c : Dev nD) (t : Fin cfg0.N) : (dats m B 0 c).after 4 t = iblk m c 4 t := by dsimp only [dats]

/-- The first window's staging buffer holds its block at every point. -/
theorem before_0 (B : Dev nD → Fin cfg0.N → Vec F S1x1024x128 .bf16) (c : Dev nD) (t : Fin cfg0.N) (d) : (dats m B 0 c).before 0 t d = iblk m c 0 t :=
  before0_0_of m (dats m B 0 c) (A_eq m B c 0) (after_0 m B c) t d
/-- What the body leaves in the output's buffer. -/
theorem after_5 (B : Dev nD → Fin cfg0.N → Vec F S1x1024x128 .bf16) (c : Dev nD) (t : Fin cfg0.N) : (dats m B 0 c).after 5 t = B c t := by dsimp only [dats]
/-- Window 1's staging buffer holds its block at every point. -/
theorem before_1 (B : Dev nD → Fin cfg0.N → Vec F S1x1024x128 .bf16) (c : Dev nD) (t : Fin cfg0.N) (d) : (dats m B 0 c).before 1 t d = iblk m c 1 t :=
  before0_1_of m (dats m B 0 c) (A_eq m B c 1) (after_1 m B c) t d
/-- Window 2's staging buffer holds its block at every point. -/
theorem before_2 (B : Dev nD → Fin cfg0.N → Vec F S1x1024x128 .bf16) (c : Dev nD) (t : Fin cfg0.N) (d) : (dats m B 0 c).before 2 t d = iblk m c 2 t :=
  before0_2_of m (dats m B 0 c) (A_eq m B c 2) (after_2 m B c) t d
/-- Window 3's staging buffer holds its block at every point. -/
theorem before_3 (B : Dev nD → Fin cfg0.N → Vec F S1x1024x128 .bf16) (c : Dev nD) (t : Fin cfg0.N) (d) : (dats m B 0 c).before 3 t d = iblk m c 3 t :=
  before0_3_of m (dats m B 0 c) (A_eq m B c 3) (after_3 m B c) t d
/-- Window 4's staging buffer holds its block at every point. -/
theorem before_4 (B : Dev nD → Fin cfg0.N → Vec F S1x1024x128 .bf16) (c : Dev nD) (t : Fin cfg0.N) (d) : (dats m B 0 c).before 4 t d = iblk m c 4 t :=
  before0_4_of m (dats m B 0 c) (A_eq m B c 4) (after_4 m B c) t d

/-- What the body is called with at point `t`. -/
def bodyPre (B : Dev nD → Fin cfg0.N → Vec F S1x1024x128 .bf16) (c : Dev nD) (t : Fin cfg0.N) : sProp 𝕄 :=
  iprop((dats m B 0 c).Φ t.castSucc ∗ (dats m B 0 c).owesAt () t.castSucc
    ∗ (∃ d, owns (c : Thread nD τ) (ms0_0 t) fullShare ((dats m B 0 c).before 0 t d))
    ∗ (∃ d, owns (c : Thread nD τ) (ms0_1 t) fullShare ((dats m B 0 c).before 1 t d))
    ∗ (∃ d, owns (c : Thread nD τ) (ms0_2 t) fullShare ((dats m B 0 c).before 2 t d))
    ∗ (∃ d, owns (c : Thread nD τ) (ms0_3 t) fullShare ((dats m B 0 c).before 3 t d))
    ∗ (∃ d, owns (c : Thread nD τ) (ms0_4 t) fullShare ((dats m B 0 c).before 4 t d))
    ∗ (∃ d, owns (c : Thread nD τ) (ms0_5 t) fullShare ((dats m B 0 c).before 5 t d)))

/-- What the body returns at point `t`. -/
def bodyPost (B : Dev nD → Fin cfg0.N → Vec F S1x1024x128 .bf16) (c : Dev nD) (t : Fin cfg0.N) : sProp 𝕄 :=
  iprop((dats m B 0 c).Φ t.succ ∗ (dats m B 0 c).owesAt () t.succ
    ∗ owns (c : Thread nD τ) (ms0_0 t) fullShare ((dats m B 0 c).after 0 t)
    ∗ owns (c : Thread nD τ) (ms0_1 t) fullShare ((dats m B 0 c).after 1 t)
    ∗ owns (c : Thread nD τ) (ms0_2 t) fullShare ((dats m B 0 c).after 2 t)
    ∗ owns (c : Thread nD τ) (ms0_3 t) fullShare ((dats m B 0 c).after 3 t)
    ∗ owns (c : Thread nD τ) (ms0_4 t) fullShare ((dats m B 0 c).after 4 t)
    ∗ owns (c : Thread nD τ) (ms0_5 t) fullShare ((dats m B 0 c).after 5 t))

set_option maxHeartbeats 3200000 in
/-- The body's triple at any point, given that its pieces read back as `B c t` whatever the buffers held. -/
theorem sound_body (B : Dev nD → Fin cfg0.N → Vec F S1x1024x128 .bf16) (hB : ∀ (c : Dev nD) (t : Fin cfg0.N) (f8 : BufTy.Contents (Elt F) (ms0_5 t).view.ty) (f9 : BufTy.Contents (Elt F) (scM0_0).view.ty) (f10 : BufTy.Contents (Elt F) (scM0_1).view.ty) (f11 : BufTy.Contents (Elt F) (scM0_2).view.ty) (f12 : BufTy.Contents (Elt F) (scM0_3).view.ty) (f13 : BufTy.Contents (Elt F) (scM0_4).view.ty),
      (ms0_5 t).view.read (Elt F) ((ms0_5 t).view.writes (Elt F) f8 ((runAt m c t).1 f9 f10 f11 f12 f13)) = B c t) (c : Dev nD) (t : Fin cfg0.N) :
    bodyPre m B c t ⊢ wp frame (wpE (defs₀ (F := F)) Variants.none c none) Set.univ (bodyAt0 t) (fun _ => bodyPost m B c t) := by
  unfold bodyPre bodyPost bodyAt0
  simp only [before_0, before_1, before_2, before_3, before_4]
  rw [show (dats m B 0 c).Φ t.succ = (dats m B 0 c).Φ t.castSucc from rfl,
    show (dats m B 0 c).owesAt () t.succ = (dats m B 0 c).owesAt () t.castSucc from rfl,
    after_0, after_1, after_2, after_3, after_4, after_5]
  rw [show (dats m B 0 c).Φ t.castSucc = Pipeline.ΦA spec0 c from rfl, PhiA0_eq]
  unfold owns
  iintro ⟨⟨⟨⟨%d9, %f9, -, HS0⟩, ⟨%d10, %f10, -, HS1⟩, ⟨%d11, %f11, -, HS2⟩, ⟨%d12, %f12, -, HS3⟩, ⟨%d13, %f13, -, HS4⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  obtain rfl := (hs0_0 t).eq_unread hf0; obtain rfl := (hs0_1 t).eq_unread hf1; obtain rfl := (hs0_2 t).eq_unread hf2
  obtain rfl := (hs0_3 t).eq_unread hf3; obtain rfl := (hs0_4 t).eq_unread hf4
  ihave W := ((runAt m c t).2 Set.univ f5 f9 f10 f11 f12 f13) $$ [H0 H1 H2 H3 H4 H5 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iexact HS4
  iapply (wp_wand_r)
  isplitl [W]; · iexact W
  iintro %u ⟨H0, H1, H2, H3, H4, H5, ⟨%e0, HS0⟩, ⟨%e1, HS1⟩, ⟨%e2, HS2⟩, ⟨%e3, HS3⟩, ⟨%e4, HS4⟩⟩
  isplitl [HS0 HS1 HS2 HS3 HS4 Hg]
  · isplitl [HS0 HS1 HS2 HS3 HS4]
    · isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      iexists _, _; isplitr; swap; · iexact HS4
      ipureintro; rfl
    iexact Hg
  isplitl [Ho]; · iexact Ho
  isplitl [H0]
  · iexists _; isplitr; swap; · iexact H0
    ipureintro; exact (hs0_0 t).read_unread _
  isplitl [H1]
  · iexists _; isplitr; swap; · iexact H1
    ipureintro; exact (hs0_1 t).read_unread _
  isplitl [H2]
  · iexists _; isplitr; swap; · iexact H2
    ipureintro; exact (hs0_2 t).read_unread _
  isplitl [H3]
  · iexists _; isplitr; swap; · iexact H3
    ipureintro; exact (hs0_3 t).read_unread _
  isplitl [H4]
  · iexists _; isplitr; swap; · iexact H4
    ipureintro; exact (hs0_4 t).read_unread _
  iexists _; isplitr; swap; · iexact H5
  ipureintro; exact hB c t _ _ _ _ _ _

/-- What the body is called with at point `t`, the output buffer at anything. -/
def bodyPre_loose (B : Dev nD → Fin cfg0.N → Vec F S1x1024x128 .bf16) (c : Dev nD) (t : Fin cfg0.N) : sProp 𝕄 :=
  iprop((dats m B 0 c).Φ t.castSucc ∗ (dats m B 0 c).owesAt () t.castSucc
    ∗ (∃ d, owns (c : Thread nD τ) (ms0_0 t) fullShare ((dats m B 0 c).before 0 t d))
    ∗ (∃ d, owns (c : Thread nD τ) (ms0_1 t) fullShare ((dats m B 0 c).before 1 t d))
    ∗ (∃ d, owns (c : Thread nD τ) (ms0_2 t) fullShare ((dats m B 0 c).before 2 t d))
    ∗ (∃ d, owns (c : Thread nD τ) (ms0_3 t) fullShare ((dats m B 0 c).before 3 t d))
    ∗ (∃ d, owns (c : Thread nD τ) (ms0_4 t) fullShare ((dats m B 0 c).before 4 t d))
    ∗ (∃ d, owns (c : Thread nD τ) (ms0_5 t) fullShare d))

/-- What the body returns at point `t`, the output buffer at anything. -/
def bodyPost_loose (B : Dev nD → Fin cfg0.N → Vec F S1x1024x128 .bf16) (c : Dev nD) (t : Fin cfg0.N) : sProp 𝕄 :=
  iprop((dats m B 0 c).Φ t.succ ∗ (dats m B 0 c).owesAt () t.succ
    ∗ owns (c : Thread nD τ) (ms0_0 t) fullShare ((dats m B 0 c).after 0 t)
    ∗ owns (c : Thread nD τ) (ms0_1 t) fullShare ((dats m B 0 c).after 1 t)
    ∗ owns (c : Thread nD τ) (ms0_2 t) fullShare ((dats m B 0 c).after 2 t)
    ∗ owns (c : Thread nD τ) (ms0_3 t) fullShare ((dats m B 0 c).after 3 t)
    ∗ owns (c : Thread nD τ) (ms0_4 t) fullShare ((dats m B 0 c).after 4 t)
    ∗ (∃ d, owns (c : Thread nD τ) (ms0_5 t) fullShare d))

set_option maxHeartbeats 3200000 in
/-- The body's triple at any point, nothing stated of the output. -/
theorem sound_body_loose (B : Dev nD → Fin cfg0.N → Vec F S1x1024x128 .bf16) (c : Dev nD) (t : Fin cfg0.N) :
    bodyPre_loose m B c t ⊢ wp frame (wpE (defs₀ (F := F)) Variants.none c none) Set.univ (bodyAt0 t) (fun _ => bodyPost_loose m B c t) := by
  unfold bodyPre_loose bodyPost_loose bodyAt0
  simp only [before_0, before_1, before_2, before_3, before_4]
  rw [show (dats m B 0 c).Φ t.succ = (dats m B 0 c).Φ t.castSucc from rfl,
    show (dats m B 0 c).owesAt () t.succ = (dats m B 0 c).owesAt () t.castSucc from rfl,
    after_0, after_1, after_2, after_3, after_4]
  rw [show (dats m B 0 c).Φ t.castSucc = Pipeline.ΦA spec0 c from rfl, PhiA0_eq]
  unfold owns
  iintro ⟨⟨⟨⟨%d9, %f9, -, HS0⟩, ⟨%d10, %f10, -, HS1⟩, ⟨%d11, %f11, -, HS2⟩, ⟨%d12, %f12, -, HS3⟩, ⟨%d13, %f13, -, HS4⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  obtain rfl := (hs0_0 t).eq_unread hf0; obtain rfl := (hs0_1 t).eq_unread hf1; obtain rfl := (hs0_2 t).eq_unread hf2
  obtain rfl := (hs0_3 t).eq_unread hf3; obtain rfl := (hs0_4 t).eq_unread hf4
  ihave W := ((runAt m c t).2 Set.univ f5 f9 f10 f11 f12 f13) $$ [H0 H1 H2 H3 H4 H5 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iexact HS4
  iapply (wp_wand_r)
  isplitl [W]; · iexact W
  iintro %u ⟨H0, H1, H2, H3, H4, H5, ⟨%e0, HS0⟩, ⟨%e1, HS1⟩, ⟨%e2, HS2⟩, ⟨%e3, HS3⟩, ⟨%e4, HS4⟩⟩
  isplitl [HS0 HS1 HS2 HS3 HS4 Hg]
  · isplitl [HS0 HS1 HS2 HS3 HS4]
    · isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      iexists _, _; isplitr; swap; · iexact HS4
      ipureintro; rfl
    iexact Hg
  isplitl [Ho]; · iexact Ho
  isplitl [H0]
  · iexists _; isplitr; swap; · iexact H0
    ipureintro; exact (hs0_0 t).read_unread _
  isplitl [H1]
  · iexists _; isplitr; swap; · iexact H1
    ipureintro; exact (hs0_1 t).read_unread _
  isplitl [H2]
  · iexists _; isplitr; swap; · iexact H2
    ipureintro; exact (hs0_2 t).read_unread _
  isplitl [H3]
  · iexists _; isplitr; swap; · iexact H3
    ipureintro; exact (hs0_3 t).read_unread _
  isplitl [H4]
  · iexists _; isplitr; swap; · iexact H4
    ipureintro; exact (hs0_4 t).read_unread _
  iexists _, _; isplitr; swap; · iexact H5
  ipureintro; rfl

/-- The outputs the frame states nothing of: the output window. -/
def forgets : Fin 6 → Bool := fun w => w.val == 5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation with the output forgotten. -/
theorem obligation_loose (B : Dev nD → Fin cfg0.N → Vec F S1x1024x128 .bf16) (c : Dev nD) :
    BodyObligation (dats (F := F) m B 0 c) (defs₀ (F := F)) Variants.none () Set.univ forgets := fun t => by
  rw [bigSep_W0, bigSep_W0, defs₀_row]
  exact triple_restated (sound_body_loose m B c t) rfl .rfl fun _ => .rfl

/-- The body's obligation with the output at `B`. -/
theorem obligation (B : Dev nD → Fin cfg0.N → Vec F S1x1024x128 .bf16) (hB : ∀ (c : Dev nD) (t : Fin cfg0.N) (f8 : BufTy.Contents (Elt F) (ms0_5 t).view.ty) (f9 : BufTy.Contents (Elt F) (scM0_0).view.ty) (f10 : BufTy.Contents (Elt F) (scM0_1).view.ty) (f11 : BufTy.Contents (Elt F) (scM0_2).view.ty) (f12 : BufTy.Contents (Elt F) (scM0_3).view.ty) (f13 : BufTy.Contents (Elt F) (scM0_4).view.ty),
      (ms0_5 t).view.read (Elt F) ((ms0_5 t).view.writes (Elt F) f8 ((runAt m c t).1 f9 f10 f11 f12 f13)) = B c t) (c : Dev nD) :
    BodyObligation (dats (F := F) m B 0 c) (defs₀ (F := F)) Variants.none () Set.univ := fun t => by
  rw [bigSep_W0, bigSep_W0, defs₀_row]
  exact triple_restated (sound_body m B hB c t) rfl .rfl fun _ => .rfl

/-- A stand-in for the output's blocks, where nothing is stated of them. -/
def anyBlock : Dev nD → Fin cfg0.N → Vec F S1x1024x128 .bf16 := fun _ t => Pipeline.Dat.unnamed (cfg := cfg0) 5 t

set_option backward.isDefEq.respectTransparency.types false in
/-- The launch, nothing stated of the output. -/
theorem launch_loose : θ_run defs (onTc (τ := τ) (main (F := F))) (s₀ m ρ) (fun r => (Pipeline.RDat.FramePost (cfgs 0) (fun c => (dats m anyBlock 0 c).toRForget forgets) (V m)) r ∧ r.2.sem = fun _ => 0) :=
  Pipeline.θ_run_frame_forget_shared (Q' := _) cfgs (dats m anyBlock) (0 : Fin 1) launch₀0 defs₀ Variants.none forgets m ρ main
    (hbody := fun c => (obligation_loose m anyBlock c).loose) (hq := fun _ _ _ => rfl)
    (howed := fun _ _ => rfl) (V := V m) (hmain := hmain m Variants.none) (hA := A_eq m anyBlock) (hΦ := fun _ _ => rfl)

/-- The frame: every weakly fair execution terminates, the arguments end unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c), ((h.1 c).2 main_arg7 (Pipeline.mem_restRefs_of main_arg7 (by decide) (by decide))).trans (V_main_arg7 m c), ((h.1 c).2 main_arg8 (Pipeline.mem_restRefs_of main_arg8 (by decide) (by decide))).trans (V_main_arg8 m c), ((h.1 c).2 main_arg9 (Pipeline.mem_restRefs_of main_arg9 (by decide) (by decide))).trans (V_main_arg9 m c), ((h.1 c).2 main_arg10 (Pipeline.mem_restRefs_of main_arg10 (by decide) (by decide))).trans (V_main_arg10 m c), ((h.1 c).2 main_arg11 (Pipeline.mem_restRefs_of main_arg11 (by decide) (by decide))).trans (V_main_arg11 m c)⟩, h.2⟩) (launch_loose m ρ)

set_option backward.isDefEq.respectTransparency.types false in
/-- The launch, the output at what the blocks `B` make of it. -/
theorem launch (B : Dev nD → Fin cfg0.N → Vec F S1x1024x128 .bf16) (hB : ∀ (c : Dev nD) (t : Fin cfg0.N) (f8 : BufTy.Contents (Elt F) (ms0_5 t).view.ty) (f9 : BufTy.Contents (Elt F) (scM0_0).view.ty) (f10 : BufTy.Contents (Elt F) (scM0_1).view.ty) (f11 : BufTy.Contents (Elt F) (scM0_2).view.ty) (f12 : BufTy.Contents (Elt F) (scM0_3).view.ty) (f13 : BufTy.Contents (Elt F) (scM0_4).view.ty),
      (ms0_5 t).view.read (Elt F) ((ms0_5 t).view.writes (Elt F) f8 ((runAt m c t).1 f9 f10 f11 f12 f13)) = B c t) :
    θ_run defs (onTc (τ := τ) (main (F := F))) (s₀ m ρ) (fun r => (Pipeline.FramePost cfgs (dats m B) 0 (V m)) r ∧ r.2.sem = fun _ => 0) :=
  Pipeline.θ_run_frame_shared (Q' := _) cfgs (dats m B) (0 : Fin 1) launch₀0 defs₀ Variants.none m ρ main
    (hbody := fun c => (obligation m B hB c).loose) (hq := fun _ _ _ => rfl)
    (howed := fun _ _ => rfl) (V := V m) (hmain := hmain m Variants.none) (hA := A_eq m B) (hΦ := fun _ _ => rfl)

/-- The run with the output array named: what the blocks `B` make of it; the arguments are as launched. -/
theorem run_value (B : Dev nD → Fin cfg0.N → Vec F S1x1024x128 .bf16) (hB : ∀ (c : Dev nD) (t : Fin cfg0.N) (f8 : BufTy.Contents (Elt F) (ms0_5 t).view.ty) (f9 : BufTy.Contents (Elt F) (scM0_0).view.ty) (f10 : BufTy.Contents (Elt F) (scM0_1).view.ty) (f11 : BufTy.Contents (Elt F) (scM0_2).view.ty) (f12 : BufTy.Contents (Elt F) (scM0_3).view.ty) (f13 : BufTy.Contents (Elt F) (scM0_4).view.ty),
      (ms0_5 t).view.read (Elt F) ((ms0_5 t).view.writes (Elt F) f8 ((runAt m c t).1 f9 f10 f11 f12 f13)) = B c t) :
    θ_run defs (onTc (τ := τ) (main (F := F))) ⟨m, fun _ => 0, ρ⟩ fun r => ∀ c : Dev nD,
      r.2.mem ((c.tc : Thread nD τ).loc main_v29) = (dats m B 0 c).arrAt 5 cfg0.N ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h.1 c).1 5,
    ((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c), ((h.1 c).2 main_arg7 (Pipeline.mem_restRefs_of main_arg7 (by decide) (by decide))).trans (V_main_arg7 m c), ((h.1 c).2 main_arg8 (Pipeline.mem_restRefs_of main_arg8 (by decide) (by decide))).trans (V_main_arg8 m c), ((h.1 c).2 main_arg9 (Pipeline.mem_restRefs_of main_arg9 (by decide) (by decide))).trans (V_main_arg9 m c), ((h.1 c).2 main_arg10 (Pipeline.mem_restRefs_of main_arg10 (by decide) (by decide))).trans (V_main_arg10 m c), ((h.1 c).2 main_arg11 (Pipeline.mem_restRefs_of main_arg11 (by decide) (by decide))).trans (V_main_arg11 m c)⟩)
    (launch m ρ B hB)

end Cert.Body

end
-- ==== Proof.Same.lean ====
/- The kernel's program and its ideal reading's program are the same text, so what is proved of the one at any float
   values holds of the other. -/
module

public import proofs.«01_k».proof.Proof.Gen.KernelIdeal
public import proofs.«01_k».proof.Proof.Gen.Kernel

@[expose] public section

set_option maxRecDepth 16384

namespace Cert.Same

open Idealize.ShloMosaic

variable {F : FTy → Type} [FloatOps F]

set_option maxHeartbeats 4000000 in
/-- The two bodies are the same program. -/
theorem cc_same : @Cert.Kernel.cc0_diff_attention F _ _ = @Cert.KernelIdeal.cc0_diff_attention F _ _ := rfl

set_option maxHeartbeats 4000000 in
/-- The two body tables are the same. -/
theorem defs0_same : @Cert.Kernel.defs₀ F _ _ = @Cert.KernelIdeal.defs₀ F _ _ := by
  unfold Cert.Kernel.defs₀ Cert.KernelIdeal.defs₀
  refine congrArg Defs.onTc ?_
  funext l a
  match l, a with
  | 0, (t, s) => exact rfl
  | ⟨_ + 1, h⟩, _ => exact absurd h (Nat.not_lt.2 (Nat.le_add_left _ _))

set_option maxHeartbeats 4000000 in
/-- The two programs call the same procedures. -/
theorem defs_same : @Cert.Kernel.defs F _ _ = @Cert.KernelIdeal.defs F _ _ := by
  unfold Cert.Kernel.defs Cert.KernelIdeal.defs
  exact congrArg (Pipeline.defs _) defs0_same

set_option maxHeartbeats 4000000 in
/-- The two programs have the same main. -/
theorem main_same : @Cert.Kernel.main F _ _ = @Cert.KernelIdeal.main F _ _ := rfl

end Cert.Same

end
-- ==== Proof.Frames.lean ====
/- The frame claims of the kernel and of its ideal reading. -/
module

public import proofs.«01_k».proof.Proof.Launched
public import proofs.«01_k».proof.Proof.Same
public import proofs.«01_k».proof.Defs

@[expose] public section

set_option maxRecDepth 16384

namespace Cert.Frames

open Idealize.ShloMosaic

set_option maxHeartbeats 4000000 in
/-- The kernel on the machine's floats terminates and leaves its arguments as they were. -/
theorem kernel : Cert.quiescent_Kernel := fun m g _ => by
  have h := Cert.Body.frame_any (F := Bits) m g
  rw [← Cert.Same.defs_same, ← Cert.Same.main_same] at h
  exact h

/-- The kernel's ideal reading terminates and leaves its arguments as they were. -/
theorem ideal : Cert.quiescent_KernelIdeal := fun m g _ => Cert.Body.frame_any m g

end Cert.Frames

end
-- ==== Proof.RunTy4.lean ====
/- One run of the forgetting attention's body over the pieces it writes into its output block. The second score buffer is written
   inside the key loop only, so the pieces are given as a function of what the scratch buffers held before. -/
module

public import proofs.«01_k».proof.Proof.Gen.Kernel4Ideal.Frame.Runs

@[expose] public section

set_option maxRecDepth 16384

noncomputable section

namespace Cert.Fox

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A run of the body on whole buffers: the pieces it writes into the output block, as a function of the scratch
    buffers' contents on entry, with the triple: the inputs are handed back unchanged, the scratch at some contents. -/
abbrev RunTy (c : Dev nD) (i : grid0.Coords) (arg3 : Memref sig .tc .vmem S1x512x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x512x128 .bf16) (harg6 : arg6.IsWhole) (arg7 : Memref sig .tc .vmem S1x16384x128 .bf16) (harg7 : arg7.IsWhole) (arg8 : Memref sig .tc .vmem S1x512x128 .bf16) (harg8 : arg8.IsWhole) (arg9 : Memref sig .tc .vmem S1024x256 .bf16) (harg9 : arg9.IsWhole) (arg10 : Memref sig .tc .vmem S1024x128 .f32) (harg10 : arg10.IsWhole) (arg11 : Memref sig .tc .vmem S1024x256 .f32) (harg11 : arg11.IsWhole) (arg12 : Memref sig .tc .vmem S1024x1024 .f32) (harg12 : arg12.IsWhole) (arg13 : Memref sig .tc .vmem S1024x1024 .f32) (harg13 : arg13.IsWhole) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : Type :=
  { L : BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S1x512x128 .bf16) //
    ∀ (E : Set ℕ) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty),
      (iprop(((arg3.view.loc (c : Thread nD τ)) ↦[arg3.view.set]{fullShare} X3) ∗ ((arg4.view.loc (c : Thread nD τ)) ↦[arg4.view.set]{fullShare} X4) ∗ ((arg5.view.loc (c : Thread nD τ)) ↦[arg5.view.set]{fullShare} X5) ∗ ((arg6.view.loc (c : Thread nD τ)) ↦[arg6.view.set]{fullShare} X6) ∗ ((arg7.view.loc (c : Thread nD τ)) ↦[arg7.view.set]{fullShare} X7) ∗ ((arg8.view.loc (c : Thread nD τ)) ↦[arg8.view.set]{fullShare} f8) ∗ ((arg9.view.loc (c : Thread nD τ)) ↦[arg9.view.set]{fullShare} f9) ∗ ((arg10.view.loc (c : Thread nD τ)) ↦[arg10.view.set]{fullShare} f10) ∗ ((arg11.view.loc (c : Thread nD τ)) ↦[arg11.view.set]{fullShare} f11) ∗ ((arg12.view.loc (c : Thread nD τ)) ↦[arg12.view.set]{fullShare} f12) ∗ ((arg13.view.loc (c : Thread nD τ)) ↦[arg13.view.set]{fullShare} f13)) : sProp 𝕄)
      ⊢ wp frame (wpE (defs₀ (F := F)) Variants.none (c : Thread nD τ) none) E (cc0_fox_attention i arg3 harg3 arg4 harg4 arg5 harg5 arg6 harg6 arg7 harg7 arg8 harg8 arg9 harg9 arg10 harg10 arg11 harg11 arg12 harg12 arg13 harg13)
          (fun _ => iprop(((arg3.view.loc (c : Thread nD τ)) ↦[arg3.view.set]{fullShare} X3) ∗ ((arg4.view.loc (c : Thread nD τ)) ↦[arg4.view.set]{fullShare} X4) ∗ ((arg5.view.loc (c : Thread nD τ)) ↦[arg5.view.set]{fullShare} X5) ∗ ((arg6.view.loc (c : Thread nD τ)) ↦[arg6.view.set]{fullShare} X6) ∗ ((arg7.view.loc (c : Thread nD τ)) ↦[arg7.view.set]{fullShare} X7) ∗ ((arg8.view.loc (c : Thread nD τ)) ↦[arg8.view.set]{fullShare} (arg8.view.writes (Elt F) f8 (L f9 f10 f11 f12 f13))) ∗ (∃ f, ((arg9.view.loc (c : Thread nD τ)) ↦[arg9.view.set]{fullShare} f)) ∗ (∃ f, ((arg10.view.loc (c : Thread nD τ)) ↦[arg10.view.set]{fullShare} f)) ∗ (∃ f, ((arg11.view.loc (c : Thread nD τ)) ↦[arg11.view.set]{fullShare} f)) ∗ (∃ f, ((arg12.view.loc (c : Thread nD τ)) ↦[arg12.view.set]{fullShare} f)) ∗ (∃ f, ((arg13.view.loc (c : Thread nD τ)) ↦[arg13.view.set]{fullShare} f)))) }

end Cert.Fox

end
-- ==== Proof.RunA4.lean ====
/- One run of the forgetting attention's body over the pieces it writes into its output block. The second score buffer is written
   inside the key loop only, so the pieces are given as a function of what the scratch buffers held before. -/
module

public import proofs.«01_k».proof.Proof.RunTy4

@[expose] public section

set_option maxRecDepth 16384

noncomputable section

namespace Cert.Fox

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The run when no key chunk is left over after the whole trips. -/
def runA (c : Dev nD) (i : grid0.Coords) (arg3 : Memref sig .tc .vmem S1x512x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x512x128 .bf16) (harg6 : arg6.IsWhole) (arg7 : Memref sig .tc .vmem S1x16384x128 .bf16) (harg7 : arg7.IsWhole) (arg8 : Memref sig .tc .vmem S1x512x128 .bf16) (harg8 : arg8.IsWhole) (arg9 : Memref sig .tc .vmem S1024x256 .bf16) (harg9 : arg9.IsWhole) (arg10 : Memref sig .tc .vmem S1024x128 .f32) (harg10 : arg10.IsWhole) (arg11 : Memref sig .tc .vmem S1024x256 .f32) (harg11 : arg11.IsWhole) (arg12 : Memref sig .tc .vmem S1024x1024 .f32) (harg12 : arg12.IsWhole) (arg13 : Memref sig .tc .vmem S1024x1024 .f32) (harg13 : arg13.IsWhole) (hc0 : cond0_0 i) (hc1 : ¬cond0_1 i) (hc2 : ¬cond0_2 i) (hc3 : ¬cond0_3 i) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    RunTy c i arg3 harg3 arg4 harg4 arg5 harg5 arg6 harg6 arg7 harg7 arg8 harg8 arg9 harg9 arg10 harg10 arg11 harg11 arg12 harg12 arg13 harg13 X3 X4 X5 X6 X7 := by
  refine ⟨?_, fun E f8 f9 f10 f11 f12 f13 => ?run⟩
  case run =>
    simp only [cc0_fox_attention_eq_skeleton]; unfold cc0_fox_attention_skel
    simp only [k0_part36_eq_skeleton, k0_part37_eq_skeleton, k0_part38_eq_skeleton, k0_part39_eq_skeleton, k0_part17_eq_skeleton]
    iintro ⟨H0, H1, H2, H3, H4, H5, HS0, HS1, HS2, HS3, HS4⟩
    sl_exec (disch := first | sl_exact hc0 | sl_exact hc1 | sl_exact hc2 | sl_exact hc3)
    sl_step
    sl_close

end Cert.Fox

end
-- ==== Proof.RunB4.lean ====
/- One run of the forgetting attention's body over the pieces it writes into its output block. The second score buffer is written
   inside the key loop only, so the pieces are given as a function of what the scratch buffers held before. -/
module

public import proofs.«01_k».proof.Proof.RunTy4

@[expose] public section

set_option maxRecDepth 16384

noncomputable section

namespace Cert.Fox

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The run when one key chunk is left over. -/
def runB (c : Dev nD) (i : grid0.Coords) (arg3 : Memref sig .tc .vmem S1x512x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x512x128 .bf16) (harg6 : arg6.IsWhole) (arg7 : Memref sig .tc .vmem S1x16384x128 .bf16) (harg7 : arg7.IsWhole) (arg8 : Memref sig .tc .vmem S1x512x128 .bf16) (harg8 : arg8.IsWhole) (arg9 : Memref sig .tc .vmem S1024x256 .bf16) (harg9 : arg9.IsWhole) (arg10 : Memref sig .tc .vmem S1024x128 .f32) (harg10 : arg10.IsWhole) (arg11 : Memref sig .tc .vmem S1024x256 .f32) (harg11 : arg11.IsWhole) (arg12 : Memref sig .tc .vmem S1024x1024 .f32) (harg12 : arg12.IsWhole) (arg13 : Memref sig .tc .vmem S1024x1024 .f32) (harg13 : arg13.IsWhole) (hc0 : ¬cond0_0 i) (hc1 : cond0_1 i) (hc2 : ¬cond0_2 i) (hc3 : ¬cond0_3 i) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    RunTy c i arg3 harg3 arg4 harg4 arg5 harg5 arg6 harg6 arg7 harg7 arg8 harg8 arg9 harg9 arg10 harg10 arg11 harg11 arg12 harg12 arg13 harg13 X3 X4 X5 X6 X7 := by
  refine ⟨?_, fun E f8 f9 f10 f11 f12 f13 => ?run⟩
  case run =>
    simp only [cc0_fox_attention_eq_skeleton]; unfold cc0_fox_attention_skel
    simp only [k0_part36_eq_skeleton, k0_part37_eq_skeleton, k0_part38_eq_skeleton, k0_part39_eq_skeleton, k0_part21_eq_skeleton, k0_part18_eq_skeleton, k0_part19_eq_skeleton, k0_part20_eq_skeleton]
    iintro ⟨H0, H1, H2, H3, H4, H5, HS0, HS1, HS2, HS3, HS4⟩
    sl_exec (disch := first | sl_exact hc0 | sl_exact hc1 | sl_exact hc2 | sl_exact hc3)
    sl_step
    sl_close

end Cert.Fox

end
-- ==== Proof.RunC4.lean ====
/- One run of the forgetting attention's body over the pieces it writes into its output block. The second score buffer is written
   inside the key loop only, so the pieces are given as a function of what the scratch buffers held before. -/
module

public import proofs.«01_k».proof.Proof.RunTy4

@[expose] public section

set_option maxRecDepth 16384

noncomputable section

namespace Cert.Fox

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The run when two key chunks are left over. -/
def runC (c : Dev nD) (i : grid0.Coords) (arg3 : Memref sig .tc .vmem S1x512x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x512x128 .bf16) (harg6 : arg6.IsWhole) (arg7 : Memref sig .tc .vmem S1x16384x128 .bf16) (harg7 : arg7.IsWhole) (arg8 : Memref sig .tc .vmem S1x512x128 .bf16) (harg8 : arg8.IsWhole) (arg9 : Memref sig .tc .vmem S1024x256 .bf16) (harg9 : arg9.IsWhole) (arg10 : Memref sig .tc .vmem S1024x128 .f32) (harg10 : arg10.IsWhole) (arg11 : Memref sig .tc .vmem S1024x256 .f32) (harg11 : arg11.IsWhole) (arg12 : Memref sig .tc .vmem S1024x1024 .f32) (harg12 : arg12.IsWhole) (arg13 : Memref sig .tc .vmem S1024x1024 .f32) (harg13 : arg13.IsWhole) (hc0 : ¬cond0_0 i) (hc1 : ¬cond0_1 i) (hc2 : cond0_2 i) (hc3 : ¬cond0_3 i) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    RunTy c i arg3 harg3 arg4 harg4 arg5 harg5 arg6 harg6 arg7 harg7 arg8 harg8 arg9 harg9 arg10 harg10 arg11 harg11 arg12 harg12 arg13 harg13 X3 X4 X5 X6 X7 := by
  refine ⟨?_, fun E f8 f9 f10 f11 f12 f13 => ?run⟩
  case run =>
    simp only [cc0_fox_attention_eq_skeleton]; unfold cc0_fox_attention_skel
    simp only [k0_part36_eq_skeleton, k0_part37_eq_skeleton, k0_part38_eq_skeleton, k0_part39_eq_skeleton, k0_part22_eq_skeleton, k0_part23_eq_skeleton, k0_part24_eq_skeleton, k0_part25_eq_skeleton, k0_part26_eq_skeleton, k0_part27_eq_skeleton]
    iintro ⟨H0, H1, H2, H3, H4, H5, HS0, HS1, HS2, HS3, HS4⟩
    sl_exec (disch := first | sl_exact hc0 | sl_exact hc1 | sl_exact hc2 | sl_exact hc3)
    sl_step
    sl_close

end Cert.Fox

end
-- ==== Proof.RunD4.lean ====
/- One run of the forgetting attention's body over the pieces it writes into its output block. The second score buffer is written
   inside the key loop only, so the pieces are given as a function of what the scratch buffers held before. -/
module

public import proofs.«01_k».proof.Proof.RunTy4

@[expose] public section

set_option maxRecDepth 16384

noncomputable section

namespace Cert.Fox

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The run when three key chunks are left over. -/
def runD (c : Dev nD) (i : grid0.Coords) (arg3 : Memref sig .tc .vmem S1x512x128 .bf16) (harg3 : arg3.IsWhole) (arg4 : Memref sig .tc .vmem S1x16384x128 .bf16) (harg4 : arg4.IsWhole) (arg5 : Memref sig .tc .vmem S1x16384x128 .bf16) (harg5 : arg5.IsWhole) (arg6 : Memref sig .tc .vmem S1x512x128 .bf16) (harg6 : arg6.IsWhole) (arg7 : Memref sig .tc .vmem S1x16384x128 .bf16) (harg7 : arg7.IsWhole) (arg8 : Memref sig .tc .vmem S1x512x128 .bf16) (harg8 : arg8.IsWhole) (arg9 : Memref sig .tc .vmem S1024x256 .bf16) (harg9 : arg9.IsWhole) (arg10 : Memref sig .tc .vmem S1024x128 .f32) (harg10 : arg10.IsWhole) (arg11 : Memref sig .tc .vmem S1024x256 .f32) (harg11 : arg11.IsWhole) (arg12 : Memref sig .tc .vmem S1024x1024 .f32) (harg12 : arg12.IsWhole) (arg13 : Memref sig .tc .vmem S1024x1024 .f32) (harg13 : arg13.IsWhole) (hc0 : ¬cond0_0 i) (hc1 : ¬cond0_1 i) (hc2 : ¬cond0_2 i) (hc3 : cond0_3 i) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    RunTy c i arg3 harg3 arg4 harg4 arg5 harg5 arg6 harg6 arg7 harg7 arg8 harg8 arg9 harg9 arg10 harg10 arg11 harg11 arg12 harg12 arg13 harg13 X3 X4 X5 X6 X7 := by
  refine ⟨?_, fun E f8 f9 f10 f11 f12 f13 => ?run⟩
  case run =>
    simp only [cc0_fox_attention_eq_skeleton]; unfold cc0_fox_attention_skel
    simp only [k0_part36_eq_skeleton, k0_part37_eq_skeleton, k0_part38_eq_skeleton, k0_part39_eq_skeleton, k0_part28_eq_skeleton, k0_part29_eq_skeleton, k0_part30_eq_skeleton, k0_part31_eq_skeleton, k0_part32_eq_skeleton, k0_part33_eq_skeleton, k0_part34_eq_skeleton, k0_part35_eq_skeleton]
    iintro ⟨H0, H1, H2, H3, H4, H5, HS0, HS1, HS2, HS3, HS4⟩
    sl_exec (disch := first | sl_exact hc0 | sl_exact hc1 | sl_exact hc2 | sl_exact hc3)
    sl_step
    sl_close

end Cert.Fox

end
-- ==== Proof.Launched4.lean ====
/- The launch of the forgetting attention: from the body's runs to what every terminating execution leaves, at any float
   values and with nothing stated of the output. -/
module

public import proofs.«01_k».proof.Proof.RunA4
public import proofs.«01_k».proof.Proof.RunB4
public import proofs.«01_k».proof.Proof.RunC4
public import proofs.«01_k».proof.Proof.RunD4
public import Idealize.ShloMosaic.Lib.Claim

@[expose] public section

set_option maxRecDepth 16384

noncomputable section

namespace Cert.Fox

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at grid point `t`, on the point's staging buffers and input blocks: the case is the number of key
    chunks left over after whole trips of four, and two blocks of queries have the same number. -/
def runAt (c : Dev nD) (t : Fin cfg0.N) :
    RunTy c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _)
      ((hs0_0 t).unread (iblk m c 0 t)) ((hs0_1 t).unread (iblk m c 1 t)) ((hs0_2 t).unread (iblk m c 2 t)) ((hs0_3 t).unread (iblk m c 3 t)) ((hs0_4 t).unread (iblk m c 4 t)) :=
  if h : t.val % 8 = 0 ∨ t.val % 8 = 1 then runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h) (fun h' => by have := (hcond0_1 t).mp h'; omega) (fun h' => by have := (hcond0_2 t).mp h'; omega) (fun h' => by have := (hcond0_3 t).mp h'; omega) ((hs0_0 t).unread (iblk m c 0 t)) ((hs0_1 t).unread (iblk m c 1 t)) ((hs0_2 t).unread (iblk m c 2 t)) ((hs0_3 t).unread (iblk m c 3 t)) ((hs0_4 t).unread (iblk m c 4 t))
  else if h : t.val % 8 = 2 ∨ t.val % 8 = 3 then runB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h' => by have := (hcond0_0 t).mp h'; omega) ((hcond0_1 t).mpr h) (fun h' => by have := (hcond0_2 t).mp h'; omega) (fun h' => by have := (hcond0_3 t).mp h'; omega) ((hs0_0 t).unread (iblk m c 0 t)) ((hs0_1 t).unread (iblk m c 1 t)) ((hs0_2 t).unread (iblk m c 2 t)) ((hs0_3 t).unread (iblk m c 3 t)) ((hs0_4 t).unread (iblk m c 4 t))
  else if h : t.val % 8 = 4 ∨ t.val % 8 = 5 then runC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h' => by have := (hcond0_0 t).mp h'; omega) (fun h' => by have := (hcond0_1 t).mp h'; omega) ((hcond0_2 t).mpr h) (fun h' => by have := (hcond0_3 t).mp h'; omega) ((hs0_0 t).unread (iblk m c 0 t)) ((hs0_1 t).unread (iblk m c 1 t)) ((hs0_2 t).unread (iblk m c 2 t)) ((hs0_3 t).unread (iblk m c 3 t)) ((hs0_4 t).unread (iblk m c 4 t))
  else
    have h : t.val % 8 = 6 ∨ t.val % 8 = 7 := by omega
    runD c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h' => by have := (hcond0_0 t).mp h'; omega) (fun h' => by have := (hcond0_1 t).mp h'; omega) (fun h' => by have := (hcond0_2 t).mp h'; omega) ((hcond0_3 t).mpr h) ((hs0_0 t).unread (iblk m c 0 t)) ((hs0_1 t).unread (iblk m c 1 t)) ((hs0_2 t).unread (iblk m c 2 t)) ((hs0_3 t).unread (iblk m c 3 t)) ((hs0_4 t).unread (iblk m c 4 t))

/-- The proof data of the pipeline on core `c`: the arrays as the region finds them, each input buffer at its block after
    the body, and the output buffer at `B c t`. -/
def dats (B : Dev nD → Fin cfg0.N → Vec F S1x512x128 .bf16) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => B c t
  Φ _ := Pipeline.ΦA spec0 c
  q w := Pipeline.shareOf spec0 w
  owed _ := 0

/-- The proof data's arrays are the region-entry contents. -/
theorem A_eq (B : Dev nD → Fin cfg0.N → Vec F S1x512x128 .bf16) (c : Dev nD) (w : Fin cfg0.W) : (dats m B 0 c).A w = V m c (Pipeline.arrRef spec0 w) := by
  dsimp only [dats]

/-- What the body leaves in the first window's buffer. -/
theorem after_0 (B : Dev nD → Fin cfg0.N → Vec F S1x512x128 .bf16) (c : Dev nD) (t : Fin cfg0.N) : (dats m B 0 c).after 0 t = iblk m c 0 t := by dsimp only [dats]
/-- What the body leaves in window 1's buffer. -/
theorem after_1 (B : Dev nD → Fin cfg0.N → Vec F S1x512x128 .bf16) (c : Dev nD) (t : Fin cfg0.N) : (dats m B 0 c).after 1 t = iblk m c 1 t := by dsimp only [dats]
/-- What the body leaves in window 2's buffer. -/
theorem after_2 (B : Dev nD → Fin cfg0.N → Vec F S1x512x128 .bf16) (c : Dev nD) (t : Fin cfg0.N) : (dats m B 0 c).after 2 t = iblk m c 2 t := by dsimp only [dats]
/-- What the body leaves in window 3's buffer. -/
theorem after_3 (B : Dev nD → Fin cfg0.N → Vec F S1x512x128 .bf16) (c : Dev nD) (t : Fin cfg0.N) : (dats m B 0 c).after 3 t = iblk m c 3 t := by dsimp only [dats]
/-- What the body leaves in window 4's buffer. -/
theorem after_4 (B : Dev nD → Fin cfg0.N → Vec F S1x512x128 .bf16) (c : Dev nD) (t : Fin cfg0.N) : (dats m B 0 c).after 4 t = iblk m c 4 t := by dsimp only [dats]

/-- The first window's staging buffer holds its block at every point. -/
theorem before_0 (B : Dev nD → Fin cfg0.N → Vec F S1x512x128 .bf16) (c : Dev nD) (t : Fin cfg0.N) (d) : (dats m B 0 c).before 0 t d = iblk m c 0 t :=
  before0_0_of m (dats m B 0 c) (A_eq m B c 0) (after_0 m B c) t d
/-- What the body leaves in the output's buffer. -/
theorem after_5 (B : Dev nD → Fin cfg0.N → Vec F S1x512x128 .bf16) (c : Dev nD) (t : Fin cfg0.N) : (dats m B 0 c).after 5 t = B c t := by dsimp only [dats]
/-- Window 1's staging buffer holds its block at every point. -/
theorem before_1 (B : Dev nD → Fin cfg0.N → Vec F S1x512x128 .bf16) (c : Dev nD) (t : Fin cfg0.N) (d) : (dats m B 0 c).before 1 t d = iblk m c 1 t :=
  before0_1_of m (dats m B 0 c) (A_eq m B c 1) (after_1 m B c) t d
/-- Window 2's staging buffer holds its block at every point. -/
theorem before_2 (B : Dev nD → Fin cfg0.N → Vec F S1x512x128 .bf16) (c : Dev nD) (t : Fin cfg0.N) (d) : (dats m B 0 c).before 2 t d = iblk m c 2 t :=
  before0_2_of m (dats m B 0 c) (A_eq m B c 2) (after_2 m B c) t d
/-- Window 3's staging buffer holds its block at every point. -/
theorem before_3 (B : Dev nD → Fin cfg0.N → Vec F S1x512x128 .bf16) (c : Dev nD) (t : Fin cfg0.N) (d) : (dats m B 0 c).before 3 t d = iblk m c 3 t :=
  before0_3_of m (dats m B 0 c) (A_eq m B c 3) (after_3 m B c) t d
/-- Window 4's staging buffer holds its block at every point. -/
theorem before_4 (B : Dev nD → Fin cfg0.N → Vec F S1x512x128 .bf16) (c : Dev nD) (t : Fin cfg0.N) (d) : (dats m B 0 c).before 4 t d = iblk m c 4 t :=
  before0_4_of m (dats m B 0 c) (A_eq m B c 4) (after_4 m B c) t d

/-- What the body is called with at point `t`, the output buffer at anything. -/
def bodyPre_loose (B : Dev nD → Fin cfg0.N → Vec F S1x512x128 .bf16) (c : Dev nD) (t : Fin cfg0.N) : sProp 𝕄 :=
  iprop((dats m B 0 c).Φ t.castSucc ∗ (dats m B 0 c).owesAt () t.castSucc
    ∗ (∃ d, owns (c : Thread nD τ) (ms0_0 t) fullShare ((dats m B 0 c).before 0 t d))
    ∗ (∃ d, owns (c : Thread nD τ) (ms0_1 t) fullShare ((dats m B 0 c).before 1 t d))
    ∗ (∃ d, owns (c : Thread nD τ) (ms0_2 t) fullShare ((dats m B 0 c).before 2 t d))
    ∗ (∃ d, owns (c : Thread nD τ) (ms0_3 t) fullShare ((dats m B 0 c).before 3 t d))
    ∗ (∃ d, owns (c : Thread nD τ) (ms0_4 t) fullShare ((dats m B 0 c).before 4 t d))
    ∗ (∃ d, owns (c : Thread nD τ) (ms0_5 t) fullShare d))

/-- What the body returns at point `t`, the output buffer at anything. -/
def bodyPost_loose (B : Dev nD → Fin cfg0.N → Vec F S1x512x128 .bf16) (c : Dev nD) (t : Fin cfg0.N) : sProp 𝕄 :=
  iprop((dats m B 0 c).Φ t.succ ∗ (dats m B 0 c).owesAt () t.succ
    ∗ owns (c : Thread nD τ) (ms0_0 t) fullShare ((dats m B 0 c).after 0 t)
    ∗ owns (c : Thread nD τ) (ms0_1 t) fullShare ((dats m B 0 c).after 1 t)
    ∗ owns (c : Thread nD τ) (ms0_2 t) fullShare ((dats m B 0 c).after 2 t)
    ∗ owns (c : Thread nD τ) (ms0_3 t) fullShare ((dats m B 0 c).after 3 t)
    ∗ owns (c : Thread nD τ) (ms0_4 t) fullShare ((dats m B 0 c).after 4 t)
    ∗ (∃ d, owns (c : Thread nD τ) (ms0_5 t) fullShare d))

set_option maxHeartbeats 3200000 in
/-- The body's triple at any point, nothing stated of the output. -/
theorem sound_body_loose (B : Dev nD → Fin cfg0.N → Vec F S1x512x128 .bf16) (c : Dev nD) (t : Fin cfg0.N) :
    bodyPre_loose m B c t ⊢ wp frame (wpE (defs₀ (F := F)) Variants.none c none) Set.univ (bodyAt0 t) (fun _ => bodyPost_loose m B c t) := by
  unfold bodyPre_loose bodyPost_loose bodyAt0
  simp only [before_0, before_1, before_2, before_3, before_4]
  rw [show (dats m B 0 c).Φ t.succ = (dats m B 0 c).Φ t.castSucc from rfl,
    show (dats m B 0 c).owesAt () t.succ = (dats m B 0 c).owesAt () t.castSucc from rfl,
    after_0, after_1, after_2, after_3, after_4]
  rw [show (dats m B 0 c).Φ t.castSucc = Pipeline.ΦA spec0 c from rfl, PhiA0_eq]
  unfold owns
  iintro ⟨⟨⟨⟨%d9, %f9, -, HS0⟩, ⟨%d10, %f10, -, HS1⟩, ⟨%d11, %f11, -, HS2⟩, ⟨%d12, %f12, -, HS3⟩, ⟨%d13, %f13, -, HS4⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  obtain rfl := (hs0_0 t).eq_unread hf0; obtain rfl := (hs0_1 t).eq_unread hf1; obtain rfl := (hs0_2 t).eq_unread hf2
  obtain rfl := (hs0_3 t).eq_unread hf3; obtain rfl := (hs0_4 t).eq_unread hf4
  ihave W := ((runAt m c t).2 Set.univ f5 f9 f10 f11 f12 f13) $$ [H0 H1 H2 H3 H4 H5 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iexact HS4
  iapply (wp_wand_r)
  isplitl [W]; · iexact W
  iintro %u ⟨H0, H1, H2, H3, H4, H5, ⟨%e0, HS0⟩, ⟨%e1, HS1⟩, ⟨%e2, HS2⟩, ⟨%e3, HS3⟩, ⟨%e4, HS4⟩⟩
  isplitl [HS0 HS1 HS2 HS3 HS4 Hg]
  · isplitl [HS0 HS1 HS2 HS3 HS4]
    · isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      iexists _, _; isplitr; swap; · iexact HS4
      ipureintro; rfl
    iexact Hg
  isplitl [Ho]; · iexact Ho
  isplitl [H0]
  · iexists _; isplitr; swap; · iexact H0
    ipureintro; exact (hs0_0 t).read_unread _
  isplitl [H1]
  · iexists _; isplitr; swap; · iexact H1
    ipureintro; exact (hs0_1 t).read_unread _
  isplitl [H2]
  · iexists _; isplitr; swap; · iexact H2
    ipureintro; exact (hs0_2 t).read_unread _
  isplitl [H3]
  · iexists _; isplitr; swap; · iexact H3
    ipureintro; exact (hs0_3 t).read_unread _
  isplitl [H4]
  · iexists _; isplitr; swap; · iexact H4
    ipureintro; exact (hs0_4 t).read_unread _
  iexists _, _; isplitr; swap; · iexact H5
  ipureintro; rfl

/-- The outputs the frame states nothing of: the output window. -/
def forgets : Fin 6 → Bool := fun w => w.val == 5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation with the output forgotten. -/
theorem obligation_loose (B : Dev nD → Fin cfg0.N → Vec F S1x512x128 .bf16) (c : Dev nD) :
    BodyObligation (dats (F := F) m B 0 c) (defs₀ (F := F)) Variants.none () Set.univ forgets := fun t => by
  rw [bigSep_W0, bigSep_W0, defs₀_row]
  exact triple_restated (sound_body_loose m B c t) rfl .rfl fun _ => .rfl

/-- A stand-in for the output's blocks, where nothing is stated of them. -/
def anyBlock : Dev nD → Fin cfg0.N → Vec F S1x512x128 .bf16 := fun _ t => Pipeline.Dat.unnamed (cfg := cfg0) 5 t

set_option backward.isDefEq.respectTransparency.types false in
/-- The launch, nothing stated of the output. -/
theorem launch_loose : θ_run defs (onTc (τ := τ) (main (F := F))) (s₀ m ρ) (fun r => (Pipeline.RDat.FramePost (cfgs 0) (fun c => (dats m anyBlock 0 c).toRForget forgets) (V m)) r ∧ r.2.sem = fun _ => 0) :=
  Pipeline.θ_run_frame_forget_shared (Q' := _) cfgs (dats m anyBlock) (0 : Fin 1) launch₀0 defs₀ Variants.none forgets m ρ main
    (hbody := fun c => (obligation_loose m anyBlock c).loose) (hq := fun _ _ _ => rfl)
    (howed := fun _ _ => rfl) (V := V m) (hmain := hmain m Variants.none) (hA := A_eq m anyBlock) (hΦ := fun _ _ => rfl)

/-- The frame: every weakly fair execution terminates, the arguments end unchanged and every counter at zero. Each argument
    is the array of an input window. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1.arr_in c 2 rfl).trans ((A_eq m anyBlock c 2).trans (V_main_arg0 m c)),
      (h.1.arr_in c 3 rfl).trans ((A_eq m anyBlock c 3).trans (V_main_arg1 m c)),
      (h.1.arr_in c 4 rfl).trans ((A_eq m anyBlock c 4).trans (V_main_arg2 m c))⟩, h.2⟩) (launch_loose m ρ)

end Cert.Fox

end
-- ==== Proof.Same4.lean ====
/- The forgetting attention's program and its ideal reading's program are the same text, so what is proved of the one at any float
   values holds of the other. -/
module

public import proofs.«01_k».proof.Proof.Gen.Kernel4Ideal
public import proofs.«01_k».proof.Proof.Gen.Kernel4

@[expose] public section

set_option maxRecDepth 16384

namespace Cert.FoxSame

open Idealize.ShloMosaic

variable {F : FTy → Type} [FloatOps F]

set_option maxHeartbeats 4000000 in
/-- The two bodies are the same program. -/
theorem cc_same : @Cert.Kernel4.cc0_fox_attention F _ _ = @Cert.Kernel4Ideal.cc0_fox_attention F _ _ := rfl

set_option maxHeartbeats 4000000 in
/-- The two body tables are the same. -/
theorem defs0_same : @Cert.Kernel4.defs₀ F _ _ = @Cert.Kernel4Ideal.defs₀ F _ _ := by
  unfold Cert.Kernel4.defs₀ Cert.Kernel4Ideal.defs₀
  refine congrArg Defs.onTc ?_
  funext l a
  match l, a with
  | 0, (t, s) => exact rfl
  | ⟨_ + 1, h⟩, _ => exact absurd h (Nat.not_lt.2 (Nat.le_add_left _ _))

set_option maxHeartbeats 4000000 in
/-- The two programs call the same procedures. -/
theorem defs_same : @Cert.Kernel4.defs F _ _ = @Cert.Kernel4Ideal.defs F _ _ := by
  unfold Cert.Kernel4.defs Cert.Kernel4Ideal.defs
  exact congrArg (Pipeline.defs _) defs0_same

set_option maxHeartbeats 4000000 in
/-- The two programs have the same main. -/
theorem main_same : @Cert.Kernel4.main F _ = @Cert.Kernel4Ideal.main F _ := rfl

end Cert.FoxSame

end
-- ==== Proof.Frames4.lean ====
/- The frame claims of the forgetting attention and of its ideal reading. -/
module

public import proofs.«01_k».proof.Proof.Launched4
public import proofs.«01_k».proof.Proof.Same4
public import proofs.«01_k».proof.Defs

@[expose] public section

set_option maxRecDepth 16384

namespace Cert.FoxFrames

open Idealize.ShloMosaic

set_option maxHeartbeats 4000000 in
/-- The forgetting attention on the machine's floats terminates and leaves its arguments as they were. -/
theorem kernel : Cert.quiescent_Kernel4 := fun m g _ => by
  have h := Cert.Fox.frame_any (F := Bits) m g
  rw [← Cert.FoxSame.defs_same, ← Cert.FoxSame.main_same] at h
  exact h

/-- The forgetting attention's ideal reading terminates and leaves its arguments as they were. -/
theorem ideal : Cert.quiescent_Kernel4Ideal := fun m g _ => Cert.Fox.frame_any m g

end Cert.FoxFrames

end
-- ==== Proof.Online.lean ====
/- The running softmax of one row, over the extended reals: what a chunked pass keeps (a running maximum and sums
   weighted against it), how one chunk changes it, and the quotient that it ends with. -/
module

public import Idealize.ShloMosaic.PureOps.Ideal

@[expose] public section

noncomputable section

namespace Cert.Online

open Idealize.ShloMosaic

/-- The weight of a score `x` against the reference point `m`: two to the power of their difference. -/
def wt (x : EReal) (m : ℝ) : ℝ := (Ideal.exp2 (x - (m : EReal))).toReal

/-- A score that is not `+∞` has a finite weight, so the extended-real power is that weight. -/
theorem exp2_sub {x : EReal} (hx : x ≠ ⊤) (m : ℝ) : Ideal.exp2 (x - (m : EReal)) = (wt x m : EReal) := by
  unfold wt
  induction x with
  | bot => simp
  | top => exact absurd rfl hx
  | coe r => rw [← EReal.coe_sub, Ideal.exp2_coe, EReal.toReal_coe]

/-- A masked score weighs nothing. -/
theorem wt_bot (m : ℝ) : wt ⊥ m = 0 := by simp [wt]

/-- A real score's weight. -/
theorem wt_real (x m : ℝ) : wt (x : EReal) m = (2 : ℝ) ^ (x - m) := by
  unfold wt
  rw [← EReal.coe_sub, Ideal.exp2_coe, EReal.toReal_coe]; rfl

/-- Moving the reference point multiplies every weight by one factor. -/
theorem wt_shift {x : EReal} (hx : x ≠ ⊤) (m m' : ℝ) : wt x m * (2 : ℝ) ^ (m - m') = wt x m' := by
  induction x with
  | bot => simp [wt_bot]
  | top => exact absurd rfl hx
  | coe r =>
    rw [wt_real, wt_real, ← Real.rpow_add (by norm_num)]; congr 1; ring

/-- The factor of a move between two real reference points, as the extended-real power gives it. -/
theorem exp2_real (m m' : ℝ) : Ideal.exp2 ((m : EReal) - (m' : EReal)) = (((2 : ℝ) ^ (m - m') : ℝ) : EReal) := by
  rw [← EReal.coe_sub, Ideal.exp2_coe]; rfl

/-- A sum of real numbers, read as extended reals. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- The running state after the first `n` keys: the reference point is a real number, and every lane holds the sum of
    its values weighted against it. -/
def Held {ι : Type} (n : ℕ) (s : ℕ → EReal) (v : ℕ → ι → ℝ) (M : EReal) (A : ι → EReal) : Prop :=
  ∃ m : ℝ, M = (m : EReal) ∧ ∀ e, A e = ((∑ k ∈ Finset.range n, wt (s k) m * v k e : ℝ) : EReal)

/-- Before the first chunk: any real reference point, and zero sums. -/
theorem held_zero {ι : Type} (s : ℕ → EReal) (v : ℕ → ι → ℝ) (m : ℝ) {M : EReal} (hM : M = (m : EReal)) {A : ι → EReal}
    (hA : ∀ e, A e = 0) : Held 0 s v M A :=
  ⟨m, hM, fun e => by simp [hA e]⟩

/-- The greatest of finitely many scores below `+∞` is below `+∞`. -/
theorem fold_max_ne_top {N : ℕ} (f : Fin N → EReal) (hf : ∀ c, f c ≠ ⊤) : Finset.univ.fold max ⊥ f ≠ ⊤ := by
  refine ne_of_lt ?_
  rw [Finset.fold_max_lt]
  exact ⟨bot_lt_top, fun c _ => lt_top_iff_ne_top.2 (hf c)⟩

/-- The maximum of a real number and an extended real below `+∞` is a real number. -/
theorem max_real (m : ℝ) {x : EReal} (hx : x ≠ ⊤) : ∃ m' : ℝ, max (m : EReal) x = (m' : EReal) := by
  induction x with
  | bot => exact ⟨m, by simp⟩
  | top => exact absurd rfl hx
  | coe r => exact ⟨max m r, (EReal.coe_strictMono.monotone.map_max).symm⟩

/-- ONE CHUNK of `N` keys: the maximum moves, the sums are brought to the new reference point and the chunk's weighted
    values are added. -/
theorem Held.step {ι : Type} {n N : ℕ} {s : ℕ → EReal} {v : ℕ → ι → ℝ} {M : EReal} {A : ι → EReal} (h : Held n s v M A)
    (hs : ∀ k, s k ≠ ⊤) {M' : EReal} {A' : ι → EReal}
    (hM : M' = max M (Finset.univ.fold max ⊥ fun c : Fin N => s (n + c.val)))
    (hA : ∀ e, A' e = A e * Ideal.exp2 (M - M')
      + ∑ c : Fin N, Ideal.exp2 (s (n + c.val) - M') * (v (n + c.val) e : EReal)) :
    Held (n + N) s v M' A' := by
  obtain ⟨m, rfl, hm⟩ := h
  obtain ⟨m', hm'⟩ := max_real m (fold_max_ne_top (fun c : Fin N => s (n + c.val)) fun c => hs _)
  rw [hm'] at hM
  subst hM
  refine ⟨m', rfl, fun e => ?_⟩
  rw [hA e, hm e, exp2_real, ← EReal.coe_mul]
  have hc : ∀ c : Fin N, Ideal.exp2 (s (n + c.val) - (m' : EReal)) * (v (n + c.val) e : EReal)
      = ((wt (s (n + c.val)) m' * v (n + c.val) e : ℝ) : EReal) := fun c => by
    rw [exp2_sub (hs _), EReal.coe_mul]
  rw [Finset.sum_congr rfl fun c _ => hc c, ← coe_sum, ← EReal.coe_add, Finset.sum_range_add]
  congr 2
  · rw [Finset.sum_mul]
    refine Finset.sum_congr rfl fun k _ => ?_
    rw [← wt_shift (hs k) m m']; ring
  · rw [Finset.sum_range fun x => wt (s (n + x)) m' * v (n + x) e]

/-- The quotient of two lanes after the last chunk, the second lane holding the sum of the weights: the weighted mean,
    whatever the reference point. -/
theorem Held.quot {ι : Type} {n : ℕ} {s : ℕ → EReal} {v : ℕ → ι → ℝ} {M : EReal} {A : ι → EReal} (h : Held n s v M A)
    (hs : ∀ k, s k ≠ ⊤) (e o : ι) (ho : ∀ k, v k o = 1) {k₀ : ℕ} (hk : k₀ < n) (hk₀ : s k₀ ≠ ⊥) :
    Ideal.div (A e) (A o)
      = (((∑ k ∈ Finset.range n, wt (s k) 0 * v k e) / ∑ k ∈ Finset.range n, wt (s k) 0 : ℝ) : EReal) := by
  obtain ⟨m, rfl, hm⟩ := h
  have key : ∀ j, (∑ k ∈ Finset.range n, wt (s k) m * v k j) = (∑ k ∈ Finset.range n, wt (s k) 0 * v k j) * (2 : ℝ) ^ (0 - m) := by
    intro j
    rw [Finset.sum_mul]
    refine Finset.sum_congr rfl fun k _ => ?_
    rw [← wt_shift (hs k) 0 m]; ring
  have hnn : ∀ k, 0 ≤ wt (s k) 0 := fun k => by
    generalize hx : s k = x
    induction x with
    | bot => simp [wt_bot]
    | top => exact absurd hx (hs k)
    | coe r => rw [wt_real]; positivity
  have hpos : 0 < ∑ k ∈ Finset.range n, wt (s k) 0 := by
    refine Finset.sum_pos' (fun k _ => hnn k) ⟨k₀, Finset.mem_range.2 hk, ?_⟩
    generalize hx : s k₀ = x at hk₀
    induction x with
    | bot => exact absurd rfl hk₀
    | top => exact absurd hx (hs k₀)
    | coe r => rw [wt_real]; positivity
  have h2 : (0 : ℝ) < (2 : ℝ) ^ (0 - m) := by positivity
  rw [hm e, hm o, key e, key o]
  simp only [ho, mul_one]
  rw [Ideal.div_coe (by positivity), ← EReal.coe_mul]
  congr 1
  field_simp

/-- Two to a power that is `x` over the logarithm of two is the exponential of `x`. -/
theorem wt_log_two (x : ℝ) : wt ((x / Real.log 2 : ℝ) : EReal) 0 = Real.exp x := by
  rw [wt_real, sub_zero, Real.rpow_def_of_pos (by norm_num), mul_div_cancel₀]
  exact (Real.log_pos (by norm_num)).ne'

end Cert.Online

end
-- ==== Proof.Step.lean ====
/- One chunk of 1024 keys folded into the running softmax of 1024 rows: the kernel's arithmetic, and what it keeps true. -/
module

public import proofs.«01_k».proof.Proof.Gen.KernelIdeal
public import proofs.«01_k».proof.Proof.Online
public import Idealize.ShloMosaic.Lib.Pointwise

@[expose] public section

set_option maxRecDepth 16384

noncomputable section

namespace Cert.Step

open Cert.KernelIdeal Cert.KernelIdeal.Gen Cert.Online
open Idealize.ShloMosaic

section Reads

variable {sig : RefSig} {κ : Kind} {sp : Space} {s : Shape} {e : EltTy} {Val : EltTy → Type}

/-- A load of the box stored last reads what was stored. -/
theorem readAt_hit (v : View sig κ sp s e) (f : v.ty.Contents Val) (r : Rect s) (w : r.shape.Idx → Val e) (L : List (View.Piece Val s e)) :
    v.readAt Val r.toLoadRect (v.writes Val f (⟨r, w⟩ :: L)) = w :=
  funext fun x => View.read_writes_cons_emb v f r w L x

/-- A load reads past a store into a box disjoint from its own. -/
theorem readAt_skip (v : View sig κ sp s e) (f : v.ty.Contents Val) (r : Rect s) (w : r.shape.Idx → Val e) (L : List (View.Piece Val s e))
    (B : LoadRect s) (h : LoadRect.disj r B = true) :
    v.readAt Val B (v.writes Val f (⟨r, w⟩ :: L)) = v.readAt Val B (v.writes Val f L) := by
  funext i
  show v.read Val _ _ = v.read Val _ _
  rw [View.writes_cons, View.read_slice_write_of_not_mem r _ _ _ (by rw [Rect.map_emb_univ]; exact LoadRect.idx_not_mem_of_disj h i)]

end Reads

/-- The running maximum of each row after a chunk of scores. -/
def mNext (m : Vec Ideal S1024x128 .f32) (sb : Vec Ideal S1024x1024 .f32) : FVec Ideal S1024x128 .f32 :=
  maximumf m (broadcastTo S1024x128 (shapeCast S1024x1 (multiReduction (F := Ideal) .maximumf [1] S1024 sb 0xFF800000#32
    reduces_S1024x1024_S1024 (.inl rfl) rfl) shapeCasts_S1024_S1024x1) broadcasts_S1024x1_S1024x128)

/-- The chunk's weights. -/
def wNext (m' : Vec Ideal S1024x128 .f32) (sb : Vec Ideal S1024x1024 .f32) : FVec Ideal S1024x1024 .bf16 :=
  exp2 (truncf .bf16 (subf sb (concatenate S1024x1024 1 [⟨S1024x128, m'⟩, ⟨S1024x128, m'⟩, ⟨S1024x128, m'⟩, ⟨S1024x128, m'⟩,
    ⟨S1024x128, m'⟩, ⟨S1024x128, m'⟩, ⟨S1024x128, m'⟩, ⟨S1024x128, m'⟩]
    concatenates_S1024x128_S1024x128_S1024x128_S1024x128_S1024x128_S1024x128_S1024x128_S1024x128_S1024x1024_d1)) bitsLt_bf16_f32)

/-- The rows' weighted sums after a chunk. -/
def aNext (m m' : Vec Ideal S1024x128 .f32) (sb : Vec Ideal S1024x1024 .f32) (v1 : Vec Ideal S1024x256 .bf16)
    (a : Vec Ideal S1024x256 .f32) : FVec Ideal S1024x256 .f32 :=
  addf (mulf a (concatenate S1024x256 1 [⟨S1024x128, exp2 (subf m m')⟩, ⟨S1024x128, exp2 (subf m m')⟩]
      concatenates_S1024x128_S1024x128_S1024x256_d1))
    (matmul (φ₁ := .bf16) (φ₂ := .bf16) dot_S1024x1024_S1024x256_S1024x256_1_0_0_1_n_n none (wNext m' sb) v1 (constant (F := Ideal) S1024x256 .f32 0x00000000#32))

/-- A chunk's values with the lanes of ones. -/
def vOnes (x : Vec Ideal S1x1024x128 .bf16) : FVec Ideal S1024x256 .bf16 :=
  concatenate S1024x256 1 [⟨S1024x128, shapeCast S1024x128 x shapeCasts_S1x1024x128_S1024x128⟩,
    ⟨S1024x128, broadcast S1024x128 (Scalar.ofBits (F := Ideal) .bf16 0x3F80#16)⟩] concatenates_S1024x128_S1024x128_S1024x256_d1

/-- What is true of the rows' maxima and sums after the first `n` keys. -/
def InvH (n : ℕ) (s : Fin 1024 → ℕ → EReal) (v : ℕ → Fin 256 → ℝ) (m : Vec Ideal S1024x128 .f32) (a : Vec Ideal S1024x256 .f32) : Prop :=
  ∀ r : Fin 1024, ∃ M : EReal, (∀ l : Fin 128, m (ix2 r l) = M) ∧ Held n (s r) v M fun e => a (ix2 r e)

/-- The mask's word is the negative infinity. -/
theorem bits_bot : Ideal.ofBits .f32 0xFF800000#32 = ⊥ := by simp [Ideal.ofBits, Ideal.ieee]

/-- The new running maximum of a row: the old one and the chunk's greatest score. -/
theorem mNext_apply (m : Vec Ideal S1024x128 .f32) (sb : Vec Ideal S1024x1024 .f32) (r : Fin 1024) (l : Fin 128) :
    mNext m sb (ix2 r l) = max (m (ix2 r l)) (Finset.univ.fold max ⊥ fun c : Fin 1024 => sb (ix2 r c)) := by
  pointwise [mNext]
  rw [bits_bot]

/-- A chunk's weights: two to the power of the score less the maximum. -/
theorem wNext_apply (m' : Vec Ideal S1024x128 .f32) (sb : Vec Ideal S1024x1024 .f32) (r : Fin 1024) (c : Fin 1024) (M : EReal)
    (h : ∀ l, m' (ix2 r l) = M) : wNext m' sb (ix2 r c) = Ideal.exp2 (sb (ix2 r c) - M) := by
  pointwise [wNext]
  simp only [h, dite_eq_ite, ite_self]
  rfl

/-- The factor that rescales a row's sums. -/
theorem scale_apply (m m' : Vec Ideal S1024x128 .f32) (r : Fin 1024) (e : Fin 256) (M M' : EReal) (h : ∀ l, m (ix2 r l) = M)
    (h' : ∀ l, m' (ix2 r l) = M') :
    (concatenate S1024x256 1 [⟨S1024x128, exp2 (F := Ideal) (φ := .f32) (subf m m')⟩, ⟨S1024x128, exp2 (F := Ideal) (φ := .f32) (subf m m')⟩]
      concatenates_S1024x128_S1024x128_S1024x256_d1 : FVec Ideal S1024x256 .f32) (ix2 r e) = Ideal.exp2 (M - M') := by
  pointwise []
  simp only [h, h', dite_eq_ite, ite_self]
  rfl

/-- The weights times the chunk's values, as a sum over the chunk. -/
theorem weigh_apply (w : Vec Ideal S1024x1024 .bf16) (v1 : Vec Ideal S1024x256 .bf16) (r : Fin 1024) (e : Fin 256) :
    matmul (φ₁ := .bf16) (φ₂ := .bf16) dot_S1024x1024_S1024x256_S1024x256_1_0_0_1_n_n none w v1 (constant (F := Ideal) S1024x256 .f32 0x00000000#32) (ix2 r e)
      = ∑ c : Fin 1024, w (ix2 r c) * v1 (ix2 c e) := by
  pointwise []

/-- A row's new sums: the old ones rescaled, and the chunk added. -/
theorem aNext_apply (m m' : Vec Ideal S1024x128 .f32) (sb : Vec Ideal S1024x1024 .f32) (v1 : Vec Ideal S1024x256 .bf16)
    (a : Vec Ideal S1024x256 .f32) (r : Fin 1024) (e : Fin 256) (M M' : EReal) (h : ∀ l, m (ix2 r l) = M) (h' : ∀ l, m' (ix2 r l) = M') :
    aNext m m' sb v1 a (ix2 r e) = a (ix2 r e) * Ideal.exp2 (M - M')
      + ∑ c : Fin 1024, Ideal.exp2 (sb (ix2 r c) - M') * v1 (ix2 c e) := by
  have := weigh_apply (wNext m' sb) v1 r e
  simp only [wNext_apply m' sb r _ M' h'] at this
  rw [← this, ← scale_apply m m' r e M M' h h']
  rfl

/-- A chunk of scores: queries against keys, lane by lane. -/
def produce (q : Vec Ideal S1024x128 .bf16) (k : Vec Ideal S1x1024x128 .bf16) : FVec Ideal S1024x1024 .f32 :=
  matmul (φ₁ := .bf16) (φ₂ := .bf16) dot_S1024x128_S1024x128_S1024x1024_1_1_0_0_n_n none q (shapeCast S1024x128 k shapeCasts_S1x1024x128_S1024x128)
    (constant (F := Ideal) S1024x1024 .f32 0x00000000#32)

/-- A chunk's scores: a query row times a key row, summed over lanes. -/
theorem produce_apply (q : Vec Ideal S1024x128 .bf16) (k : Vec Ideal S1x1024x128 .bf16) (r c : Fin 1024) :
    produce q k (ix2 r c) = ∑ l : Fin 128, q (ix2 r l) * k (ix3 0 c l) := by
  pointwise [produce]

/-- The values with lanes of ones beside them. -/
theorem vOnes_apply (x : Vec Ideal S1x1024x128 .bf16) (c : Fin 1024) (e : Fin 256) :
    vOnes x (ix2 c e) = if h : e.val < 128 then x (ix3 0 c ⟨e.val, h⟩) else 1 := by
  pointwise [vOnes]

/-- A chunk of scores and values is folded into the rows' maxima and sums. -/
theorem consume {n : ℕ} {s : Fin 1024 → ℕ → EReal} {v : ℕ → Fin 256 → ℝ} {m : Vec Ideal S1024x128 .f32}
    {a : Vec Ideal S1024x256 .f32} (h : InvH n s v m a) (hs : ∀ r k, s r k ≠ ⊤) {sb : Vec Ideal S1024x1024 .f32}
    {v1 : Vec Ideal S1024x256 .bf16} (hsb : ∀ r c : Fin 1024, sb (ix2 r c) = s r (n + c.val))
    (hv : ∀ (c : Fin 1024) (e : Fin 256), v1 (ix2 c e) = (v (n + c.val) e : EReal)) :
    InvH (n + 1024) s v (mNext m sb) (aNext m (mNext m sb) sb v1 a) := by
  intro r
  obtain ⟨M, hM, hH⟩ := h r
  have hM' : ∀ l, mNext m sb (ix2 r l) = max M (Finset.univ.fold max ⊥ fun c : Fin 1024 => s r (n + c.val)) := fun l => by
    rw [mNext_apply, hM]
    simp only [hsb]
  refine ⟨_, hM', hH.step (hs r) rfl fun e => ?_⟩
  rw [aNext_apply m (mNext m sb) sb v1 a r e M _ hM hM']
  simp only [hsb, hv]

end Cert.Step

end
-- ==== Proof.Fold.lean ====
/- The kernel's payloads, read back as the named steps. -/
module

public import proofs.«01_k».proof.Proof.Step
public import proofs.«01_k».proof.Proof.Gen.KernelIdeal.Loops
public import Idealize.ShloMosaic.Lib.Pipeline.ReadBack

@[expose] public section

set_option maxRecDepth 16384

noncomputable section

namespace Cert.Step

open Cert.KernelIdeal Cert.KernelIdeal.Gen Cert.Online
open Idealize.ShloMosaic

/-! Of each payload of the loop's trip: which step it is. -/

/-- This payload is the running maximum's step. -/
theorem p8 (m : Vec Ideal S1024x128 .f32) (sb : Vec Ideal S1024x1024 .f32) : k0_pay8 m (k0_pay6 sb) = mNext m sb := shapeCast_self _ _

/-- This payload is the sums' step. -/
theorem p9 (m : Vec Ideal S1024x128 .f32) (sb : Vec Ideal S1024x1024 .f32) (v1 : FVec Ideal S1024x256 .bf16) (a : Vec Ideal S1024x256 .f32) : k0_pay9 v1 sb m (k0_pay6 sb) a = aNext m (mNext m sb) sb v1 a := shapeCast_self _ _

/-- This payload is the running maximum's step. -/
theorem p11 (m : Vec Ideal S1024x128 .f32) (sb : Vec Ideal S1024x1024 .f32) : k0_pay11 sb m = mNext m sb := shapeCast_self _ _

/-- This payload is the sums' step. -/
theorem p13 (m : Vec Ideal S1024x128 .f32) (sb : Vec Ideal S1024x1024 .f32) (v1 : FVec Ideal S1024x256 .bf16) (a : Vec Ideal S1024x256 .f32) : k0_pay13 (k0_pay12 v1 sb m a) = aNext m (mNext m sb) sb v1 a := shapeCast_self _ _

/-- This payload is the running maximum's step. -/
theorem p19 (m : Vec Ideal S1024x128 .f32) (sb : Vec Ideal S1024x1024 .f32) : k0_pay19 sb m = mNext m sb := shapeCast_self _ _

/-- This payload is the sums' step. -/
theorem p20 (m : Vec Ideal S1024x128 .f32) (sb : Vec Ideal S1024x1024 .f32) (v1 : FVec Ideal S1024x256 .bf16) (a : Vec Ideal S1024x256 .f32) : k0_pay20 v1 sb m a = aNext m (mNext m sb) sb v1 a := shapeCast_self _ _

/-- This payload is the running maximum's step. -/
theorem p23 (m : Vec Ideal S1024x128 .f32) (sb : Vec Ideal S1024x1024 .f32) : k0_pay23 sb m = mNext m sb := shapeCast_self _ _

/-- This payload is the sums' step. -/
theorem p25 (m : Vec Ideal S1024x128 .f32) (sb : Vec Ideal S1024x1024 .f32) (v1 : FVec Ideal S1024x256 .bf16) (a : Vec Ideal S1024x256 .f32) : k0_pay25 (k0_pay22 sb m) (k0_pay24 v1 sb m) a = aNext m (mNext m sb) sb v1 a := shapeCast_self _ _

/-- This payload is the running maximum's step. -/
theorem p32 (m : Vec Ideal S1024x128 .f32) (sb : Vec Ideal S1024x1024 .f32) : k0_pay32 sb m = mNext m sb := shapeCast_self _ _

/-- This payload is the sums' step. -/
theorem p33 (m : Vec Ideal S1024x128 .f32) (sb : Vec Ideal S1024x1024 .f32) (x : Vec Ideal S1x1024x128 .bf16) (a : Vec Ideal S1024x256 .f32) : k0_pay33 (k0_pay29 x) (trip_k0_t1.sl.cst_188 (F := Ideal)) sb m a = aNext m (mNext m sb) sb (vOnes x) a := shapeCast_self _ _

/-- This payload is the running maximum's step. -/
theorem p37 (m : Vec Ideal S1024x128 .f32) (sb : Vec Ideal S1024x1024 .f32) : k0_pay37 (k0_pay34 sb m) = mNext m sb := shapeCast_self _ _

/-- This payload is the sums' step. -/
theorem p38 (m : Vec Ideal S1024x128 .f32) (sb : Vec Ideal S1024x1024 .f32) (v1 : FVec Ideal S1024x256 .bf16) (a : Vec Ideal S1024x256 .f32) : k0_pay38 v1 (k0_pay35 sb m) (k0_pay36 sb m) a = aNext m (mNext m sb) sb v1 a := shapeCast_self _ _

/-- This payload is the running maximum's step. -/
theorem p44 (m : Vec Ideal S1024x128 .f32) (sb : Vec Ideal S1024x1024 .f32) : k0_pay44 sb m = mNext m sb := shapeCast_self _ _

/-- This payload is the sums' step. -/
theorem p45 (m : Vec Ideal S1024x128 .f32) (sb : Vec Ideal S1024x1024 .f32) (x : Vec Ideal S1x1024x128 .bf16) (a : Vec Ideal S1024x256 .f32) : k0_pay45 x sb m a = aNext m (mNext m sb) sb (vOnes x) a := shapeCast_self _ _

/-- This payload is the running maximum's step. -/
theorem p198 (m : Vec Ideal S1024x128 .f32) (sb : Vec Ideal S1024x1024 .f32) : k0_pay198 (k0_pay46 sb m) = mNext m sb := shapeCast_self _ _

/-- This payload is the sums' step. -/
theorem p199 (m : Vec Ideal S1024x128 .f32) (sb : Vec Ideal S1024x1024 .f32) (v1 : FVec Ideal S1024x256 .bf16) (a : Vec Ideal S1024x256 .f32) : k0_pay199 v1 (k0_pay47 sb m) (k0_pay48 sb m) a = aNext m (mNext m sb) sb v1 a := shapeCast_self _ _

/-- This payload is the values with lanes of ones beside them. -/
theorem p5 (x : Vec Ideal S1x1024x128 .bf16) : k0_pay5 (F := Ideal) x = vOnes x := rfl

/-- This payload is the values with lanes of ones beside them. -/
theorem p17 (x : Vec Ideal S1x1024x128 .bf16) : k0_pay17 (F := Ideal) x = vOnes x := rfl

/-- This payload is the values with lanes of ones beside them. -/
theorem p30 (x : Vec Ideal S1x1024x128 .bf16) : k0_pay30 (F := Ideal) (k0_pay29 x) (trip_k0_t1.sl.cst_188 (F := Ideal)) = vOnes x := rfl

/-- This payload is the values with lanes of ones beside them. -/
theorem p42 (x : Vec Ideal S1x1024x128 .bf16) : k0_pay42 (F := Ideal) x = vOnes x := rfl

/-- This payload is a chunk's scores. -/
theorem p3 (x : Vec Ideal S1x1024x128 .bf16) (q : Vec Ideal S1024x128 .bf16) : k0_pay3 x q = produce q x := shapeCast_self _ _

/-- This payload is a chunk's scores. -/
theorem p4 (x : Vec Ideal S1x1024x128 .bf16) (q : Vec Ideal S1024x128 .bf16) : k0_pay4 x q = produce q x := shapeCast_self _ _

/-- This payload is a chunk's scores. -/
theorem p15 (x : Vec Ideal S1x1024x128 .bf16) (q : Vec Ideal S1024x128 .bf16) : k0_pay15 x q = produce q x := shapeCast_self _ _

/-- This payload is a chunk's scores. -/
theorem p16 (x : Vec Ideal S1x1024x128 .bf16) (q : Vec Ideal S1024x128 .bf16) : k0_pay16 x q = produce q x := shapeCast_self _ _

/-- This payload is a chunk's scores. -/
theorem p27 (x : Vec Ideal S1x1024x128 .bf16) (q : Vec Ideal S1024x128 .bf16) : k0_pay27 x q = produce q x := shapeCast_self _ _

/-- This payload is a chunk's scores. -/
theorem p28 (x : Vec Ideal S1x1024x128 .bf16) (q : Vec Ideal S1024x128 .bf16) : k0_pay28 x q = produce q x := shapeCast_self _ _

/-- This payload is a chunk's scores. -/
theorem p40 (x : Vec Ideal S1x1024x128 .bf16) (q : Vec Ideal S1024x128 .bf16) : k0_pay40 x q = produce q x := shapeCast_self _ _

/-- This payload is a chunk's scores. -/
theorem p41 (x : Vec Ideal S1x1024x128 .bf16) (q : Vec Ideal S1024x128 .bf16) : k0_pay41 x q = produce q x := shapeCast_self _ _

end Cert.Step

end
-- ==== Proof.Trip.lean ====
/- One trip of the kernel's loop: four chunks of keys folded into the running maxima and sums. -/
module

public import proofs.«01_k».proof.Proof.Fold
public import proofs.«01_k».proof.Proof.Gen.KernelIdeal.Loops
public import Idealize.ShloMosaic.Lib.Pipeline.ReadBack

@[expose] public section

set_option maxRecDepth 16384
set_option maxHeartbeats 400000

noncomputable section

namespace Cert.Trip

open Cert.KernelIdeal Cert.KernelIdeal.Gen Cert.Online Cert.Step
open Idealize.ShloMosaic

/-- The state between chunks: the first `n` keys are folded in, and chunk `n`'s scores are staged. -/
structure St (n : ℕ) (S : Fin 2 → Fin 1024 → ℕ → EReal) (v : ℕ → Fin 256 → ℝ) (arg10 : Memref sig .tc .vmem S2048x128 .f32)
    (arg11 : Memref sig .tc .vmem S2048x256 .f32) (arg12 : Memref sig .tc .vmem S2048x1024 .f32)
    (f10 : arg10.view.ty.Contents (Elt Ideal)) (f11 : arg11.view.ty.Contents (Elt Ideal)) (f12 : arg12.view.ty.Contents (Elt Ideal)) : Prop where
  i0 : InvH n (S 0) v (View.readAt (Elt Ideal) arg10.view (Rect.unit (s := S2048x128) ![0, 0] S1024x128.size inb_S2048x128_S1024x128_0_0).toLoadRect f10)
    (View.readAt (Elt Ideal) arg11.view (Rect.unit (s := S2048x256) ![0, 0] S1024x256.size inb_S2048x256_S1024x256_0_0).toLoadRect f11)
  i1 : InvH n (S 1) v (View.readAt (Elt Ideal) arg10.view (Rect.unit (s := S2048x128) ![1024, 0] S1024x128.size inb_S2048x128_S1024x128_1024_0).toLoadRect f10)
    (View.readAt (Elt Ideal) arg11.view (Rect.unit (s := S2048x256) ![1024, 0] S1024x256.size inb_S2048x256_S1024x256_1024_0).toLoadRect f11)
  s0 : ∀ r c : Fin 1024, View.readAt (Elt Ideal) arg12.view (Rect.unit (s := S2048x1024) ![0, 0] S1024x1024.size inb_S2048x1024_S1024x1024_0_0).toLoadRect f12
    (ix2 r c) = S 0 r (n + c.val)
  s1 : ∀ r c : Fin 1024, View.readAt (Elt Ideal) arg12.view (Rect.unit (s := S2048x1024) ![1024, 0] S1024x1024.size inb_S2048x1024_S1024x1024_1024_0).toLoadRect f12
    (ix2 r c) = S 1 r (n + c.val)

/-- Chunk `n`'s keys give the scores of both maps. -/
def Keys (n : ℕ) (S : Fin 2 → Fin 1024 → ℕ → EReal) (q0 q1 : Vec Ideal S1024x128 .bf16) (kc : Vec Ideal S1x1024x128 .bf16) : Prop :=
  (∀ r c : Fin 1024, produce q0 kc (ix2 r c) = S 0 r (n + c.val)) ∧ ∀ r c : Fin 1024, produce q1 kc (ix2 r c) = S 1 r (n + c.val)

/-- Chunk `n`'s values, with their lanes of ones. -/
def Vals (n : ℕ) (v : ℕ → Fin 256 → ℝ) (vc : Vec Ideal S1x1024x128 .bf16) : Prop :=
  ∀ (c : Fin 1024) (e : Fin 256), vOnes vc (ix2 c e) = (v (n + c.val) e : EReal)

section

variable (𝒱 : Variants) (c : Dev nD) (bd : Option 𝒱.V) (i : grid0.Coords)
  (arg3 : Memref sig .tc .vmem S8x128 .f32) (harg3 : arg3.IsWhole) (arg4 : Memref sig .tc .vmem S1x128 .f32) (harg4 : arg4.IsWhole)
  (arg5 : Memref sig .tc .vmem S1x1024x128 .bf16) (harg5 : arg5.IsWhole) (arg6 : Memref sig .tc .vmem S1x16384x128 .bf16) (harg6 : arg6.IsWhole)
  (arg7 : Memref sig .tc .vmem S1x16384x128 .bf16) (harg7 : arg7.IsWhole) (arg8 : Memref sig .tc .vmem S1x1024x128 .bf16) (harg8 : arg8.IsWhole)
  (arg9 : Memref sig .tc .vmem S2048x128 .bf16) (harg9 : arg9.IsWhole) (arg10 : Memref sig .tc .vmem S2048x128 .f32) (harg10 : arg10.IsWhole)
  (arg11 : Memref sig .tc .vmem S2048x256 .f32) (harg11 : arg11.IsWhole) (arg12 : Memref sig .tc .vmem S2048x1024 .f32) (harg12 : arg12.IsWhole)
  (arg13 : Memref sig .tc .vmem S2048x1024 .f32) (harg13 : arg13.IsWhole) (arg2 v41 v56 : BitVec 32) (v67 : BitVec 1) (v68 : BitVec 32)
  (X6 : BufTy.Contents (Elt Ideal) arg6.view.ty) (X7 : BufTy.Contents (Elt Ideal) arg7.view.ty) (X9 : BufTy.Contents (Elt Ideal) arg9.view.ty)
  (k : Fin (k0_t1_loop i).trips)
  (f10 : arg10.view.ty.Contents (Elt Ideal)) (f11 : arg11.view.ty.Contents (Elt Ideal)) (f12 : arg12.view.ty.Contents (Elt Ideal))
  (f13 : arg13.view.ty.Contents (Elt Ideal))

/-- One trip of the loop folds in four chunks and stages the scores of the next. -/
theorem trip {n : ℕ} {S : Fin 2 → Fin 1024 → ℕ → EReal} {v : ℕ → Fin 256 → ℝ} (hS : ∀ h r k, S h r k ≠ ⊤) (q0 q1 : Vec Ideal S1024x128 .bf16)
    (hq0 : View.readAt (Elt Ideal) arg9.view (Rect.unit (s := S2048x128) ![0, 0] S1024x128.size inb_S2048x128_S1024x128_0_0).toLoadRect X9 = q0)
    (hq1 : View.readAt (Elt Ideal) arg9.view (Rect.unit (s := S2048x128) ![1024, 0] S1024x128.size inb_S2048x128_S1024x128_1024_0).toLoadRect X9 = q1)
    (x0 x1 x2 x3 y0 y1 y2 y3 : Vec Ideal S1x1024x128 .bf16)
    (hx0 : ∀ inb, View.readAt (Elt Ideal) arg6.view (Rect.unit (s := S1x16384x128) (k0_off1 i k 0#32) S1x1024x128.size inb).toLoadRect X6 = x0)
    (hy0 : ∀ inb, View.readAt (Elt Ideal) arg7.view (Rect.unit (s := S1x16384x128) (k0_off2 i k 0#32) S1x1024x128.size inb).toLoadRect X7 = y0)
    (hx1 : ∀ inb, View.readAt (Elt Ideal) arg6.view (Rect.unit (s := S1x16384x128) (k0_off1 i k 1#32) S1x1024x128.size inb).toLoadRect X6 = x1)
    (hy1 : ∀ inb, View.readAt (Elt Ideal) arg7.view (Rect.unit (s := S1x16384x128) (k0_off2 i k 1#32) S1x1024x128.size inb).toLoadRect X7 = y1)
    (hx2 : ∀ inb, View.readAt (Elt Ideal) arg6.view (Rect.unit (s := S1x16384x128) (k0_off1 i k 2#32) S1x1024x128.size inb).toLoadRect X6 = x2)
    (hy2 : ∀ inb, View.readAt (Elt Ideal) arg7.view (Rect.unit (s := S1x16384x128) (k0_off2 i k 2#32) S1x1024x128.size inb).toLoadRect X7 = y2)
    (hx3 : ∀ inb, View.readAt (Elt Ideal) arg6.view (Rect.unit (s := S1x16384x128) (k0_off1 i k 3#32) S1x1024x128.size inb).toLoadRect X6 = x3)
    (hy3 : ∀ inb, View.readAt (Elt Ideal) arg7.view (Rect.unit (s := S1x16384x128) (k0_off2 i k 3#32) S1x1024x128.size inb).toLoadRect X7 = y3)
    (hk0 : Keys (n + 1024) S q0 q1 x0)    (hk1 : Keys (n + 1024 + 1024) S q0 q1 x1)    (hk2 : Keys (n + 1024 + 1024 + 1024) S q0 q1 x2)    (hk3 : Keys (n + 1024 + 1024 + 1024 + 1024) S q0 q1 x3)
    (hv0 : Vals n v y0)    (hv1 : Vals (n + 1024) v y1)    (hv2 : Vals (n + 1024 + 1024) v y2)    (hv3 : Vals (n + 1024 + 1024 + 1024) v y3)
    (h : St n S v arg10 arg11 arg12 f10 f11 f12) :
    St (n + 1024 + 1024 + 1024 + 1024) S v arg10 arg11 arg12
      (arg10.view.writes (Elt Ideal) f10 ((trip_k0_t1 (F := Ideal) 𝒱 c bd i arg3 harg3 arg4 harg4 arg5 harg5 arg6 harg6 arg7 harg7 arg8 harg8 arg9 harg9 arg10 harg10
        arg11 harg11 arg12 harg12 arg13 harg13 arg2 v41 v56 v67 v68 X6 X7 X9 k).1 f10 f11 f12 f13))
      (arg11.view.writes (Elt Ideal) f11 ((trip_k0_t1 (F := Ideal) 𝒱 c bd i arg3 harg3 arg4 harg4 arg5 harg5 arg6 harg6 arg7 harg7 arg8 harg8 arg9 harg9 arg10 harg10
        arg11 harg11 arg12 harg12 arg13 harg13 arg2 v41 v56 v67 v68 X6 X7 X9 k).2.1 f10 f11 f12 f13))
      (arg12.view.writes (Elt Ideal) f12 ((trip_k0_t1 (F := Ideal) 𝒱 c bd i arg3 harg3 arg4 harg4 arg5 harg5 arg6 harg6 arg7 harg7 arg8 harg8 arg9 harg9 arg10 harg10
        arg11 harg11 arg12 harg12 arg13 harg13 arg2 v41 v56 v67 v68 X6 X7 X9 k).2.2.1 f10 f11 f12 f13)) := by
  obtain ⟨i0, i1, s0, s1⟩ := h
  obtain ⟨m0, hm0⟩ : ∃ x : Vec Ideal S1024x128 .f32, View.readAt (Elt Ideal) arg10.view (Rect.unit (s := S2048x128) ![0, 0] S1024x128.size inb_S2048x128_S1024x128_0_0).toLoadRect f10 = x := ⟨_, rfl⟩
  obtain ⟨a0, ha0⟩ : ∃ x : Vec Ideal S1024x256 .f32, View.readAt (Elt Ideal) arg11.view (Rect.unit (s := S2048x256) ![0, 0] S1024x256.size inb_S2048x256_S1024x256_0_0).toLoadRect f11 = x := ⟨_, rfl⟩
  obtain ⟨b0, hb0⟩ : ∃ x : Vec Ideal S1024x1024 .f32, View.readAt (Elt Ideal) arg12.view (Rect.unit (s := S2048x1024) ![0, 0] S1024x1024.size inb_S2048x1024_S1024x1024_0_0).toLoadRect f12 = x := ⟨_, rfl⟩
  obtain ⟨m1, hm1⟩ : ∃ x : Vec Ideal S1024x128 .f32, View.readAt (Elt Ideal) arg10.view (Rect.unit (s := S2048x128) ![1024, 0] S1024x128.size inb_S2048x128_S1024x128_1024_0).toLoadRect f10 = x := ⟨_, rfl⟩
  obtain ⟨a1, ha1⟩ : ∃ x : Vec Ideal S1024x256 .f32, View.readAt (Elt Ideal) arg11.view (Rect.unit (s := S2048x256) ![1024, 0] S1024x256.size inb_S2048x256_S1024x256_1024_0).toLoadRect f11 = x := ⟨_, rfl⟩
  obtain ⟨b1, hb1⟩ : ∃ x : Vec Ideal S1024x1024 .f32, View.readAt (Elt Ideal) arg12.view (Rect.unit (s := S2048x1024) ![1024, 0] S1024x1024.size inb_S2048x1024_S1024x1024_1024_0).toLoadRect f12 = x := ⟨_, rfl⟩
  rw [hm0, ha0] at i0
  rw [hm1, ha1] at i1
  rw [hb0] at s0
  rw [hb1] at s1
  unfold trip_k0_t1
  refine ⟨?_, ?_, ?_, ?_⟩
  · simp (disch := decide) only [readAt_hit, readAt_skip, hq0, hq1, hm0, ha0, hb0, hm1, ha1, hb1, hx0, hy0, hx1, hy1, hx2, hy2, hx3, hy3,
      ↓ View.readCov_skip, ↓ View.readCov_cons_toLoadRect, p8, p9, p11, p13, p19, p20, p23, p25, p32, p33, p37, p38, p44, p45, p198, p199, p5, p17, p30, p42, p3, p4, p15, p16, p27, p28, p40, p41,
      trip_k0_t1.sl.HW_arg10_2, trip_k0_t1.sl.HW_arg10_3, trip_k0_t1.sl.HW_arg10_4, trip_k0_t1.sl.HW_arg10_5,
      trip_k0_t1.sl.HW_arg10_6, trip_k0_t1.sl.HW_arg10_7, trip_k0_t1.sl.HW_arg11_2, trip_k0_t1.sl.HW_arg11_3,
      trip_k0_t1.sl.HW_arg11_4, trip_k0_t1.sl.HW_arg11_5, trip_k0_t1.sl.HW_arg11_6, trip_k0_t1.sl.HW_arg11_7,
      trip_k0_t1.sl.HW_arg12_2, trip_k0_t1.sl.HW_arg13_2, trip_k0_t1.sl.HW_arg13_4, trip_k0_t1.sl.r,
      trip_k0_t1.sl.r_1, trip_k0_t1.sl.r_10, trip_k0_t1.sl.r_11, trip_k0_t1.sl.r_12, trip_k0_t1.sl.r_13, trip_k0_t1.sl.r_14,
      trip_k0_t1.sl.r_15, trip_k0_t1.sl.r_16, trip_k0_t1.sl.r_2, trip_k0_t1.sl.r_3, trip_k0_t1.sl.r_4, trip_k0_t1.sl.r_5,
      trip_k0_t1.sl.r_6, trip_k0_t1.sl.r_7, trip_k0_t1.sl.r_8, trip_k0_t1.sl.r_9, trip_k0_t1.sl.v211, trip_k0_t1.sl.v226,
      trip_k0_t1.sl.v260, trip_k0_t1.sl.v261, trip_k0_t1.sl.v276, trip_k0_t1.sl.v283, trip_k0_t1.sl.v284, trip_k0_t1.sl.v299,
      trip_k0_t1.sl.v333, trip_k0_t1.sl.v334, trip_k0_t1.sl.v349, trip_k0_t1.sl.v356, trip_k0_t1.sl.v357, trip_k0_t1.sl.v372,
      trip_k0_t1.sl.v406, trip_k0_t1.sl.v407, trip_k0_t1.sl.v422, trip_k0_t1.sl.v429, trip_k0_t1.sl.v430, trip_k0_t1.sl.v445]
    exact consume (consume (consume (consume i0 (hS 0) s0 hv0) (hS 0) hk0.1 hv1) (hS 0) hk1.1 hv2) (hS 0) hk2.1 hv3
  · simp (disch := decide) only [readAt_hit, readAt_skip, hq0, hq1, hm0, ha0, hb0, hm1, ha1, hb1, hx0, hy0, hx1, hy1, hx2, hy2, hx3, hy3,
      ↓ View.readCov_skip, ↓ View.readCov_cons_toLoadRect, p8, p9, p11, p13, p19, p20, p23, p25, p32, p33, p37, p38, p44, p45, p198, p199, p5, p17, p30, p42, p3, p4, p15, p16, p27, p28, p40, p41,
      trip_k0_t1.sl.HW_arg10_2, trip_k0_t1.sl.HW_arg10_3, trip_k0_t1.sl.HW_arg10_4, trip_k0_t1.sl.HW_arg10_5,
      trip_k0_t1.sl.HW_arg10_6, trip_k0_t1.sl.HW_arg10_7, trip_k0_t1.sl.HW_arg11_2, trip_k0_t1.sl.HW_arg11_3,
      trip_k0_t1.sl.HW_arg11_4, trip_k0_t1.sl.HW_arg11_5, trip_k0_t1.sl.HW_arg11_6, trip_k0_t1.sl.HW_arg11_7,
      trip_k0_t1.sl.HW_arg12_2, trip_k0_t1.sl.HW_arg13_2, trip_k0_t1.sl.HW_arg13_4, trip_k0_t1.sl.r,
      trip_k0_t1.sl.r_1, trip_k0_t1.sl.r_10, trip_k0_t1.sl.r_11, trip_k0_t1.sl.r_12, trip_k0_t1.sl.r_13, trip_k0_t1.sl.r_14,
      trip_k0_t1.sl.r_15, trip_k0_t1.sl.r_16, trip_k0_t1.sl.r_2, trip_k0_t1.sl.r_3, trip_k0_t1.sl.r_4, trip_k0_t1.sl.r_5,
      trip_k0_t1.sl.r_6, trip_k0_t1.sl.r_7, trip_k0_t1.sl.r_8, trip_k0_t1.sl.r_9, trip_k0_t1.sl.v211, trip_k0_t1.sl.v226,
      trip_k0_t1.sl.v260, trip_k0_t1.sl.v261, trip_k0_t1.sl.v276, trip_k0_t1.sl.v283, trip_k0_t1.sl.v284, trip_k0_t1.sl.v299,
      trip_k0_t1.sl.v333, trip_k0_t1.sl.v334, trip_k0_t1.sl.v349, trip_k0_t1.sl.v356, trip_k0_t1.sl.v357, trip_k0_t1.sl.v372,
      trip_k0_t1.sl.v406, trip_k0_t1.sl.v407, trip_k0_t1.sl.v422, trip_k0_t1.sl.v429, trip_k0_t1.sl.v430, trip_k0_t1.sl.v445]
    exact consume (consume (consume (consume i1 (hS 1) s1 hv0) (hS 1) hk0.2 hv1) (hS 1) hk1.2 hv2) (hS 1) hk2.2 hv3
  · simp (disch := decide) only [readAt_hit, readAt_skip, hq0, hq1, hm0, ha0, hb0, hm1, ha1, hb1, hx0, hy0, hx1, hy1, hx2, hy2, hx3, hy3,
      p40]
    exact hk3.1
  · simp (disch := decide) only [readAt_hit, readAt_skip, hq0, hq1, hm0, ha0, hb0, hm1, ha1, hb1, hx0, hy0, hx1, hy1, hx2, hy2, hx3, hy3,
      p41]
    exact hk3.2

end

end Cert.Trip

end
-- ==== Proof.Loop.lean ====
/- All the trips of the kernel's loop: four times as many chunks folded in. -/
module

public import proofs.«01_k».proof.Proof.Trip

@[expose] public section

set_option maxRecDepth 16384
set_option maxHeartbeats 1000000

noncomputable section

namespace Cert.Trip

open Cert.KernelIdeal Cert.KernelIdeal.Gen Cert.Online Cert.Step
open Idealize.ShloMosaic

/-- The loop makes one trip for every four whole chunks before the row block. -/
theorem trips_eq (i : grid0.Coords) : (k0_t1_loop i).trips = (i 2).val / 4 := by
  obtain ⟨a, ha⟩ : ∃ a : Fin 16, (i 2).val = a.val := ⟨i 2, rfl⟩
  unfold k0_t1_loop
  simp only [ha]
  clear ha
  revert a
  decide +kernel

/-- The second loop makes no trip. -/
theorem trips2_eq (i : grid0.Coords) : (k0_t2_loop i).trips = 0 := by
  obtain ⟨a, ha⟩ : ∃ a : Fin 16, (i 2).val = a.val := ⟨i 2, rfl⟩
  unfold k0_t2_loop
  simp only [ha]
  clear ha
  revert a
  decide +kernel

/-- The loop makes at most four trips of four chunks. -/
theorem trips_lt (i : grid0.Coords) (k : Fin (k0_t1_loop i).trips) : k.val < 4 := by
  have h := k.isLt
  have e := trips_eq i
  have l : (i 2).val < 16 := (i 2).isLt
  omega

/-- Where a trip's chunks of keys begin. -/
theorem off1_eq (i : grid0.Coords) (k : Fin (k0_t1_loop i).trips) (w : Fin 4) :
    k0_off1 i k (BitVec.ofNat 32 w.val) = ![0, (4 * k.val + w.val + 1) * 1024, 0] := by
  obtain ⟨a, ha⟩ : ∃ a : Fin 4, k.val = a.val := ⟨⟨k.val, trips_lt i k⟩, rfl⟩
  unfold k0_off1
  simp only [ha]
  clear ha
  revert a w
  decide +kernel

/-- Where a trip's chunks of values begin. -/
theorem off2_eq (i : grid0.Coords) (k : Fin (k0_t1_loop i).trips) (w : Fin 4) :
    k0_off2 i k (BitVec.ofNat 32 w.val) = ![0, (4 * k.val + w.val) * 1024, 0] := by
  obtain ⟨a, ha⟩ : ∃ a : Fin 4, k.val = a.val := ⟨⟨k.val, trips_lt i k⟩, rfl⟩
  unfold k0_off2
  simp only [ha]
  clear ha
  revert a w
  decide +kernel

/-- Offsets on the middle axis alone agree when it does. -/
theorem vec3 {a b : ℕ} (h : a = b) : (![0, a, 0] : Fin 3 → ℕ) = ![0, b, 0] := by rw [h]

/-- The offset that the loop body or the tail computes for a chunk, as a number. -/
theorem off1_at (i : grid0.Coords) (k : Fin (k0_t1_loop i).trips) (w : Fin 4) {t n : ℕ} (h : k.val = t) (e : (4 * t + w.val + 1) * 1024 = n) :
    k0_off1 i k (BitVec.ofNat 32 w.val) = ![0, n, 0] := by
  rw [off1_eq, h, e]

/-- The offset that the loop body or the tail computes for a chunk, as a number. -/
theorem off2_at (i : grid0.Coords) (k : Fin (k0_t1_loop i).trips) (w : Fin 4) {t n : ℕ} (h : k.val = t) (e : (4 * t + w.val) * 1024 = n) :
    k0_off2 i k (BitVec.ofNat 32 w.val) = ![0, n, 0] := by
  rw [off2_eq, h, e]

/-- The offsets of the four chunks of a trip, as numbers. -/
theorem next_off1 (t : ℕ) : (4 * t + 0 + 1) * 1024 = t * 4096 + 1024 ∧ (4 * t + 1 + 1) * 1024 = t * 4096 + 1024 + 1024 ∧
    (4 * t + 2 + 1) * 1024 = t * 4096 + 1024 + 1024 + 1024 ∧ (4 * t + 3 + 1) * 1024 = t * 4096 + 1024 + 1024 + 1024 + 1024 ∧
    (4 * t + 0) * 1024 = t * 4096 ∧ (t + 1) * 4096 = t * 4096 + 1024 + 1024 + 1024 + 1024 := by omega

/-- The offsets of the four chunks of a trip, as numbers. -/
theorem next_off2 (t : ℕ) : (4 * t + 1) * 1024 = t * 4096 + 1024 ∧ (4 * t + 2) * 1024 = t * 4096 + 1024 + 1024 ∧
    (4 * t + 3) * 1024 = t * 4096 + 1024 + 1024 + 1024 := by omega

/-- The keys' buffer, chunk by chunk, gives the scores. -/
def KeysAt (S : Fin 2 → Fin 1024 → ℕ → EReal) (q0 q1 : Vec Ideal S1024x128 .bf16) (arg6 : Memref sig .tc .vmem S1x16384x128 .bf16)
    (X6 : BufTy.Contents (Elt Ideal) arg6.view.ty) : Prop :=
  ∀ (n : ℕ) (off : Fin 3 → ℕ) inb, off = ![0, n, 0] →
    Keys n S q0 q1 (View.readAt (Elt Ideal) arg6.view (Rect.unit (s := S1x16384x128) off S1x1024x128.size inb).toLoadRect X6)

/-- The values' buffer, chunk by chunk. -/
def ValsAt (v : ℕ → Fin 256 → ℝ) (arg7 : Memref sig .tc .vmem S1x16384x128 .bf16) (X7 : BufTy.Contents (Elt Ideal) arg7.view.ty) : Prop :=
  ∀ (n : ℕ) (off : Fin 3 → ℕ) inb, off = ![0, n, 0] →
    Vals n v (View.readAt (Elt Ideal) arg7.view (Rect.unit (s := S1x16384x128) off S1x1024x128.size inb).toLoadRect X7)

section

variable (𝒱 : Variants) (c : Dev nD) (bd : Option 𝒱.V) (i : grid0.Coords)
  (arg3 : Memref sig .tc .vmem S8x128 .f32) (harg3 : arg3.IsWhole) (arg4 : Memref sig .tc .vmem S1x128 .f32) (harg4 : arg4.IsWhole)
  (arg5 : Memref sig .tc .vmem S1x1024x128 .bf16) (harg5 : arg5.IsWhole) (arg6 : Memref sig .tc .vmem S1x16384x128 .bf16) (harg6 : arg6.IsWhole)
  (arg7 : Memref sig .tc .vmem S1x16384x128 .bf16) (harg7 : arg7.IsWhole) (arg8 : Memref sig .tc .vmem S1x1024x128 .bf16) (harg8 : arg8.IsWhole)
  (arg9 : Memref sig .tc .vmem S2048x128 .bf16) (harg9 : arg9.IsWhole) (arg10 : Memref sig .tc .vmem S2048x128 .f32) (harg10 : arg10.IsWhole)
  (arg11 : Memref sig .tc .vmem S2048x256 .f32) (harg11 : arg11.IsWhole) (arg12 : Memref sig .tc .vmem S2048x1024 .f32) (harg12 : arg12.IsWhole)
  (arg13 : Memref sig .tc .vmem S2048x1024 .f32) (harg13 : arg13.IsWhole) (arg2 v41 v56 : BitVec 32) (v67 : BitVec 1) (v68 : BitVec 32)
  (X6 : BufTy.Contents (Elt Ideal) arg6.view.ty) (X7 : BufTy.Contents (Elt Ideal) arg7.view.ty) (X9 : BufTy.Contents (Elt Ideal) arg9.view.ty)
  (G10 : arg10.view.ty.Contents (Elt Ideal)) (G11 : arg11.view.ty.Contents (Elt Ideal)) (G12 : arg12.view.ty.Contents (Elt Ideal))
  (G13 : arg13.view.ty.Contents (Elt Ideal))

/-- After `t` trips `4096 t` keys are folded in. -/
theorem loop {S : Fin 2 → Fin 1024 → ℕ → EReal} {v : ℕ → Fin 256 → ℝ} (hS : ∀ h r k, S h r k ≠ ⊤) (q0 q1 : Vec Ideal S1024x128 .bf16)
    (hq0 : View.readAt (Elt Ideal) arg9.view (Rect.unit (s := S2048x128) ![0, 0] S1024x128.size inb_S2048x128_S1024x128_0_0).toLoadRect X9 = q0)
    (hq1 : View.readAt (Elt Ideal) arg9.view (Rect.unit (s := S2048x128) ![1024, 0] S1024x128.size inb_S2048x128_S1024x128_1024_0).toLoadRect X9 = q1)
    (hK : KeysAt S q0 q1 arg6 X6) (hV : ValsAt v arg7 X7) (h : St 0 S v arg10 arg11 arg12 G10 G11 G12) (t : ℕ) (ht : t ≤ (k0_t1_loop i).trips) :
    St (t * 4096) S v arg10 arg11 arg12
      (arg10.view.writes (Elt Ideal) G10 (pb_k0_t1 (F := Ideal) 𝒱 c bd i arg3 harg3 arg4 harg4 arg5 harg5 arg6 harg6 arg7 harg7 arg8 harg8 arg9 harg9 arg10 harg10
        arg11 harg11 arg12 harg12 arg13 harg13 arg2 v41 v56 v67 v68 X6 X7 X9 G10 G11 G12 G13 t).1)
      (arg11.view.writes (Elt Ideal) G11 (pb_k0_t1 (F := Ideal) 𝒱 c bd i arg3 harg3 arg4 harg4 arg5 harg5 arg6 harg6 arg7 harg7 arg8 harg8 arg9 harg9 arg10 harg10
        arg11 harg11 arg12 harg12 arg13 harg13 arg2 v41 v56 v67 v68 X6 X7 X9 G10 G11 G12 G13 t).2.1)
      (arg12.view.writes (Elt Ideal) G12 (pb_k0_t1 (F := Ideal) 𝒱 c bd i arg3 harg3 arg4 harg4 arg5 harg5 arg6 harg6 arg7 harg7 arg8 harg8 arg9 harg9 arg10 harg10
        arg11 harg11 arg12 harg12 arg13 harg13 arg2 v41 v56 v67 v68 X6 X7 X9 G10 G11 G12 G13 t).2.2.1) := by
  induction t with
  | zero => rw [Nat.zero_mul]; exact h
  | succ t ih =>
    have ht' : t < (k0_t1_loop i).trips := ht
    obtain ⟨kk, hkk⟩ : ∃ kk : Fin (k0_t1_loop i).trips, kk.val = t := ⟨⟨t, ht'⟩, rfl⟩
    have key := pb_k0_t1_succ (F := Ideal) 𝒱 c bd i arg3 harg3 arg4 harg4 arg5 harg5 arg6 harg6 arg7 harg7 arg8 harg8 arg9 harg9 arg10 harg10
        arg11 harg11 arg12 harg12 arg13 harg13 arg2 v41 v56 v67 v68 X6 X7 X9 G10 G11 G12 G13 kk
    have e : (t + 1) * 4096 = t * 4096 + 1024 + 1024 + 1024 + 1024 := (next_off1 t).2.2.2.2.2
    rw [hkk] at key
    rw [key, e, View.writes_append, View.writes_append, View.writes_append]
    have e0 : k0_off1 i kk 0#32 = ![0, t * 4096 + 1024, 0] := off1_at i kk 0 hkk (next_off1 t).1
    have d0 : k0_off2 i kk 0#32 = ![0, t * 4096, 0] := off2_at i kk 0 hkk (next_off1 t).2.2.2.2.1
    have hk0 := hK _ _ (k0_off1_inb i kk 0) e0
    have hv0 := hV _ _ (k0_off2_inb i kk 0) d0
    have e1 : k0_off1 i kk 1#32 = ![0, t * 4096 + 1024 + 1024, 0] := off1_at i kk 1 hkk (next_off1 t).2.1
    have d1 : k0_off2 i kk 1#32 = ![0, t * 4096 + 1024, 0] := off2_at i kk 1 hkk (next_off2 t).1
    have hk1 := hK _ _ (k0_off1_inb i kk 1) e1
    have hv1 := hV _ _ (k0_off2_inb i kk 1) d1
    have e2 : k0_off1 i kk 2#32 = ![0, t * 4096 + 1024 + 1024 + 1024, 0] := off1_at i kk 2 hkk (next_off1 t).2.2.1
    have d2 : k0_off2 i kk 2#32 = ![0, t * 4096 + 1024 + 1024, 0] := off2_at i kk 2 hkk (next_off2 t).2.1
    have hk2 := hK _ _ (k0_off1_inb i kk 2) e2
    have hv2 := hV _ _ (k0_off2_inb i kk 2) d2
    have e3 : k0_off1 i kk 3#32 = ![0, t * 4096 + 1024 + 1024 + 1024 + 1024, 0] := off1_at i kk 3 hkk (next_off1 t).2.2.2.1
    have d3 : k0_off2 i kk 3#32 = ![0, t * 4096 + 1024 + 1024 + 1024, 0] := off2_at i kk 3 hkk (next_off2 t).2.2
    have hk3 := hK _ _ (k0_off1_inb i kk 3) e3
    have hv3 := hV _ _ (k0_off2_inb i kk 3) d3
    exact trip 𝒱 c bd i arg3 harg3 arg4 harg4 arg5 harg5 arg6 harg6 arg7 harg7 arg8 harg8 arg9 harg9 arg10 harg10
      arg11 harg11 arg12 harg12 arg13 harg13 arg2 v41 v56 v67 v68 X6 X7 X9 kk _ _ _ _ hS q0 q1 hq0 hq1 _ _ _ _ _ _ _ _
      (fun _ => rfl) (fun _ => rfl) (fun _ => rfl) (fun _ => rfl) (fun _ => rfl) (fun _ => rfl) (fun _ => rfl) (fun _ => rfl) hk0 hk1 hk2 hk3 hv0 hv1 hv2 hv3 (ih (le_of_lt ht'))

end

end Cert.Trip

end
-- ==== Proof.FoldTail.lean ====
/- What remains after the loop: the payloads of the last chunks, read back as the named steps, and the mask of the last one. -/
module

public import proofs.«01_k».proof.Proof.Fold

@[expose] public section

set_option maxRecDepth 16384

noncomputable section

namespace Cert.Step

open Cert.KernelIdeal Cert.KernelIdeal.Gen Cert.Online
open Idealize.ShloMosaic

/-- A chunk of scores whose first key is `v`, of the queries block `c`: a key past its query scores −∞. -/
def masked (v c : BitVec 32) (sb : Vec Ideal S1024x1024 .f32) : Vec Ideal S1024x1024 .f32 :=
  select (cmpi .sle (addi (broadcast S1024x1024 v) (iota .tc S1024x1024 32 [1] iota_S1024x1024_d1_w32))
      (addi (broadcast S1024x1024 (Scalar.muli c 1024#32)) (iota .tc S1024x1024 32 [0] iota_S1024x1024_d0_w32)))
    sb (broadcast S1024x1024 (Scalar.ofBits (F := Ideal) .f32 0xFF800000#32))

/-! Of each payload after the loop: which step it is. -/

/-- This payload is a chunk's scores. -/
theorem p102 (x : Vec Ideal S1x1024x128 .bf16) (q : Vec Ideal S1024x128 .bf16) : k0_pay102 x q = produce q x := shapeCast_self _ _

/-- This payload is a chunk's scores. -/
theorem p103 (x : Vec Ideal S1x1024x128 .bf16) (q : Vec Ideal S1024x128 .bf16) : k0_pay103 x q = produce q x := shapeCast_self _ _

/-- This payload is a chunk's scores. -/
theorem p118 (x : Vec Ideal S1x1024x128 .bf16) (q : Vec Ideal S1024x128 .bf16) : k0_pay118 x q = produce q x := shapeCast_self _ _

/-- This payload is a chunk's scores. -/
theorem p119 (x : Vec Ideal S1x1024x128 .bf16) (q : Vec Ideal S1024x128 .bf16) : k0_pay119 x q = produce q x := shapeCast_self _ _

/-- This payload is a chunk's scores. -/
theorem p129 (x : Vec Ideal S1x1024x128 .bf16) (q : Vec Ideal S1024x128 .bf16) : k0_pay129 x q = produce q x := shapeCast_self _ _

/-- This payload is a chunk's scores. -/
theorem p130 (x : Vec Ideal S1x1024x128 .bf16) (q : Vec Ideal S1024x128 .bf16) : k0_pay130 x q = produce q x := shapeCast_self _ _

/-- This payload is a chunk's scores. -/
theorem p146 (x : Vec Ideal S1x1024x128 .bf16) (q : Vec Ideal S1024x128 .bf16) : k0_pay146 x q = produce q x := shapeCast_self _ _

/-- This payload is a chunk's scores. -/
theorem p147 (x : Vec Ideal S1x1024x128 .bf16) (q : Vec Ideal S1024x128 .bf16) : k0_pay147 x q = produce q x := shapeCast_self _ _

/-- This payload is a chunk's scores. -/
theorem p157 (x : Vec Ideal S1x1024x128 .bf16) (q : Vec Ideal S1024x128 .bf16) : k0_pay157 x q = produce q x := shapeCast_self _ _

/-- This payload is a chunk's scores. -/
theorem p158 (x : Vec Ideal S1x1024x128 .bf16) (q : Vec Ideal S1024x128 .bf16) : k0_pay158 x q = produce q x := shapeCast_self _ _

/-- This payload is a chunk's scores. -/
theorem p169 (x : Vec Ideal S1x1024x128 .bf16) (q : Vec Ideal S1024x128 .bf16) : k0_pay169 x q = produce q x := shapeCast_self _ _

/-- This payload is a chunk's scores. -/
theorem p170 (x : Vec Ideal S1x1024x128 .bf16) (q : Vec Ideal S1024x128 .bf16) : k0_pay170 x q = produce q x := shapeCast_self _ _

/-- This payload is a chunk's scores. -/
theorem p196 (x : Vec Ideal S1x1024x128 .bf16) (q : Vec Ideal S1024x128 .bf16) : k0_pay196 x q = produce q x := shapeCast_self _ _

/-- This payload is a chunk's scores. -/
theorem p197 (x : Vec Ideal S1x1024x128 .bf16) (q : Vec Ideal S1024x128 .bf16) : k0_pay197 x q = produce q x := shapeCast_self _ _

/-- This payload is the values with lanes of ones beside them. -/
theorem p96 (x : Vec Ideal S1x1024x128 .bf16) : k0_pay96 (F := Ideal) x = vOnes x := rfl

/-- This payload is the values with lanes of ones beside them. -/
theorem p104 (x : Vec Ideal S1x1024x128 .bf16) : k0_pay104 (F := Ideal) x = vOnes x := rfl

/-- This payload is the values with lanes of ones beside them. -/
theorem p112 (x : Vec Ideal S1x1024x128 .bf16) : k0_pay112 (F := Ideal) x = vOnes x := rfl

/-- This payload is the values with lanes of ones beside them. -/
theorem p120 (x : Vec Ideal S1x1024x128 .bf16) : k0_pay120 (F := Ideal) x = vOnes x := rfl

/-- This payload is the values with lanes of ones beside them. -/
theorem p131 (x : Vec Ideal S1x1024x128 .bf16) : k0_pay131 (F := Ideal) x = vOnes x := rfl

/-- This payload is the values with lanes of ones beside them. -/
theorem p140 (x : Vec Ideal S1x1024x128 .bf16) : k0_pay140 (F := Ideal) x = vOnes x := rfl

/-- This payload is the values with lanes of ones beside them. -/
theorem p148 (x : Vec Ideal S1x1024x128 .bf16) : k0_pay148 (F := Ideal) x = vOnes x := rfl

/-- This payload is the values with lanes of ones beside them. -/
theorem p159 (x : Vec Ideal S1x1024x128 .bf16) : k0_pay159 (F := Ideal) x = vOnes x := rfl

/-- This payload is the values with lanes of ones beside them. -/
theorem p171 (x : Vec Ideal S1x1024x128 .bf16) : k0_pay171 (F := Ideal) x = vOnes x := rfl

/-- This payload is the values with lanes of ones beside them. -/
theorem p179 (x : Vec Ideal S1x1024x128 .bf16) : k0_pay179 (F := Ideal) x = vOnes x := rfl

/-- This payload is the running maximum's step. -/
theorem p107 (m : Vec Ideal S1024x128 .f32) (sb : Vec Ideal S1024x1024 .f32) : k0_pay107 (k0_pay105 sb m) = mNext m sb := shapeCast_self _ _

/-- This payload is the running maximum's step. -/
theorem p110 (m : Vec Ideal S1024x128 .f32) (sb : Vec Ideal S1024x1024 .f32) : k0_pay110 sb m = mNext m sb := shapeCast_self _ _

/-- This payload is the running maximum's step. -/
theorem p123 (m : Vec Ideal S1024x128 .f32) (sb : Vec Ideal S1024x1024 .f32) : k0_pay123 (k0_pay121 sb m) = mNext m sb := shapeCast_self _ _

/-- This payload is the running maximum's step. -/
theorem p126 (m : Vec Ideal S1024x128 .f32) (sb : Vec Ideal S1024x1024 .f32) : k0_pay126 sb m = mNext m sb := shapeCast_self _ _

/-- This payload is the running maximum's step. -/
theorem p134 (m : Vec Ideal S1024x128 .f32) (sb : Vec Ideal S1024x1024 .f32) : k0_pay134 (k0_pay132 sb m) = mNext m sb := shapeCast_self _ _

/-- This payload is the running maximum's step. -/
theorem p137 (m : Vec Ideal S1024x128 .f32) (sb : Vec Ideal S1024x1024 .f32) : k0_pay137 sb m = mNext m sb := shapeCast_self _ _

/-- This payload is the running maximum's step. -/
theorem p151 (m : Vec Ideal S1024x128 .f32) (sb : Vec Ideal S1024x1024 .f32) : k0_pay151 (k0_pay149 sb m) = mNext m sb := shapeCast_self _ _

/-- This payload is the running maximum's step. -/
theorem p154 (m : Vec Ideal S1024x128 .f32) (sb : Vec Ideal S1024x1024 .f32) : k0_pay154 sb m = mNext m sb := shapeCast_self _ _

/-- This payload is the running maximum's step. -/
theorem p162 (m : Vec Ideal S1024x128 .f32) (sb : Vec Ideal S1024x1024 .f32) : k0_pay162 (k0_pay160 sb m) = mNext m sb := shapeCast_self _ _

/-- This payload is the running maximum's step. -/
theorem p165 (m : Vec Ideal S1024x128 .f32) (sb : Vec Ideal S1024x1024 .f32) : k0_pay165 sb m = mNext m sb := shapeCast_self _ _

/-- This payload is the running maximum's step. -/
theorem p173 (m : Vec Ideal S1024x128 .f32) (sb : Vec Ideal S1024x1024 .f32) : k0_pay173 (k0_pay172 sb m) = mNext m sb := shapeCast_self _ _

/-- This payload is the running maximum's step. -/
theorem p176 (m : Vec Ideal S1024x128 .f32) (sb : Vec Ideal S1024x1024 .f32) : k0_pay176 sb m = mNext m sb := shapeCast_self _ _

/-- This payload is the sums' step. -/
theorem p108 (m : Vec Ideal S1024x128 .f32) (sb : Vec Ideal S1024x1024 .f32) (v1 : FVec Ideal S1024x256 .bf16) (a : Vec Ideal S1024x256 .f32) : k0_pay108 v1 m (k0_pay105 sb m) (k0_pay106 sb m) a = aNext m (mNext m sb) sb v1 a := shapeCast_self _ _

/-- This payload is the sums' step. -/
theorem p111 (m : Vec Ideal S1024x128 .f32) (sb : Vec Ideal S1024x1024 .f32) (v1 : FVec Ideal S1024x256 .bf16) (a : Vec Ideal S1024x256 .f32) : k0_pay111 v1 sb m a = aNext m (mNext m sb) sb v1 a := shapeCast_self _ _

/-- This payload is the sums' step. -/
theorem p124 (m : Vec Ideal S1024x128 .f32) (sb : Vec Ideal S1024x1024 .f32) (v1 : FVec Ideal S1024x256 .bf16) (a : Vec Ideal S1024x256 .f32) : k0_pay124 v1 m (k0_pay121 sb m) (k0_pay122 sb m) a = aNext m (mNext m sb) sb v1 a := shapeCast_self _ _

/-- This payload is the sums' step. -/
theorem p127 (m : Vec Ideal S1024x128 .f32) (sb : Vec Ideal S1024x1024 .f32) (v1 : FVec Ideal S1024x256 .bf16) (a : Vec Ideal S1024x256 .f32) : k0_pay127 v1 sb m a = aNext m (mNext m sb) sb v1 a := shapeCast_self _ _

/-- This payload is the sums' step. -/
theorem p135 (m : Vec Ideal S1024x128 .f32) (sb : Vec Ideal S1024x1024 .f32) (v1 : FVec Ideal S1024x256 .bf16) (a : Vec Ideal S1024x256 .f32) : k0_pay135 v1 sb m (k0_pay132 sb m) (k0_pay133 sb m) a = aNext m (mNext m sb) sb v1 a := shapeCast_self _ _

/-- This payload is the sums' step. -/
theorem p139 (m : Vec Ideal S1024x128 .f32) (sb : Vec Ideal S1024x1024 .f32) (v1 : FVec Ideal S1024x256 .bf16) (a : Vec Ideal S1024x256 .f32) : k0_pay139 (k0_pay138 v1 sb m a) = aNext m (mNext m sb) sb v1 a := shapeCast_self _ _

/-- This payload is the sums' step. -/
theorem p152 (m : Vec Ideal S1024x128 .f32) (sb : Vec Ideal S1024x1024 .f32) (v1 : FVec Ideal S1024x256 .bf16) (a : Vec Ideal S1024x256 .f32) : k0_pay152 v1 m (k0_pay149 sb m) (k0_pay150 sb m) a = aNext m (mNext m sb) sb v1 a := shapeCast_self _ _

/-- This payload is the sums' step. -/
theorem p155 (m : Vec Ideal S1024x128 .f32) (sb : Vec Ideal S1024x1024 .f32) (v1 : FVec Ideal S1024x256 .bf16) (a : Vec Ideal S1024x256 .f32) : k0_pay155 v1 sb m a = aNext m (mNext m sb) sb v1 a := shapeCast_self _ _

/-- This payload is the sums' step. -/
theorem p163 (m : Vec Ideal S1024x128 .f32) (sb : Vec Ideal S1024x1024 .f32) (v1 : FVec Ideal S1024x256 .bf16) (a : Vec Ideal S1024x256 .f32) : k0_pay163 v1 sb m (k0_pay160 sb m) (k0_pay161 sb m) a = aNext m (mNext m sb) sb v1 a := shapeCast_self _ _

/-- This payload is the sums' step. -/
theorem p167 (m : Vec Ideal S1024x128 .f32) (sb : Vec Ideal S1024x1024 .f32) (v1 : FVec Ideal S1024x256 .bf16) (a : Vec Ideal S1024x256 .f32) : k0_pay167 (k0_pay166 v1 sb m a) = aNext m (mNext m sb) sb v1 a := shapeCast_self _ _

/-- This payload is the sums' step. -/
theorem p174 (m : Vec Ideal S1024x128 .f32) (sb : Vec Ideal S1024x1024 .f32) (v1 : FVec Ideal S1024x256 .bf16) (a : Vec Ideal S1024x256 .f32) : k0_pay174 v1 sb m (k0_pay172 sb m) a = aNext m (mNext m sb) sb v1 a := shapeCast_self _ _

/-- This payload is the sums' step. -/
theorem p178 (m : Vec Ideal S1024x128 .f32) (sb : Vec Ideal S1024x1024 .f32) (v1 : FVec Ideal S1024x256 .bf16) (a : Vec Ideal S1024x256 .f32) : k0_pay178 (k0_pay177 v1 sb m a) = aNext m (mNext m sb) sb v1 a := shapeCast_self _ _

/-- This payload is the running maximum's step. -/
theorem p99 (c v : BitVec 32) (m : Vec Ideal S1024x128 .f32) (sb : Vec Ideal S1024x1024 .f32) : k0_pay99 c v sb m = mNext m (masked (Scalar.muli (Scalar.addi v 0#32) 1024#32) c sb) := shapeCast_self _ _

/-- This payload is the running maximum's step. -/
theorem p115 (c v : BitVec 32) (m : Vec Ideal S1024x128 .f32) (sb : Vec Ideal S1024x1024 .f32) : k0_pay115 c v sb m = mNext m (masked (Scalar.muli (Scalar.addi v 1#32) 1024#32) c sb) := shapeCast_self _ _

/-- This payload is the running maximum's step. -/
theorem p143 (c v : BitVec 32) (m : Vec Ideal S1024x128 .f32) (sb : Vec Ideal S1024x1024 .f32) : k0_pay143 c v sb m = mNext m (masked (Scalar.muli (Scalar.addi v 2#32) 1024#32) c sb) := shapeCast_self _ _

/-- This payload is the running maximum's step. -/
theorem p182 (c v : BitVec 32) (m : Vec Ideal S1024x128 .f32) (sb : Vec Ideal S1024x1024 .f32) : k0_pay182 c v sb m = mNext m (masked (Scalar.muli (Scalar.addi v 3#32) 1024#32) c sb) := shapeCast_self _ _

/-- This payload is the sums' step. -/
theorem p202 (c v : BitVec 32) (m : Vec Ideal S1024x128 .f32) (sb : Vec Ideal S1024x1024 .f32) (x : Vec Ideal S1x1024x128 .bf16) (a : Vec Ideal S1024x256 .f32) : k0_pay202 (k0_pay100 c v x sb m a) = aNext m (mNext m (masked (Scalar.muli (Scalar.addi v 0#32) 1024#32) c sb)) (masked (Scalar.muli (Scalar.addi v 0#32) 1024#32) c sb) (vOnes x) a := shapeCast_self _ _

/-- This payload is the sums' step. -/
theorem p207 (c v : BitVec 32) (m : Vec Ideal S1024x128 .f32) (sb : Vec Ideal S1024x1024 .f32) (x : Vec Ideal S1x1024x128 .bf16) (a : Vec Ideal S1024x256 .f32) : k0_pay207 (k0_pay116 c v x sb m a) = aNext m (mNext m (masked (Scalar.muli (Scalar.addi v 1#32) 1024#32) c sb)) (masked (Scalar.muli (Scalar.addi v 1#32) 1024#32) c sb) (vOnes x) a := shapeCast_self _ _

/-- This payload is the sums' step. -/
theorem p212 (c v : BitVec 32) (m : Vec Ideal S1024x128 .f32) (sb : Vec Ideal S1024x1024 .f32) (x : Vec Ideal S1x1024x128 .bf16) (a : Vec Ideal S1024x256 .f32) : k0_pay212 (k0_pay144 c v x sb m a) = aNext m (mNext m (masked (Scalar.muli (Scalar.addi v 2#32) 1024#32) c sb)) (masked (Scalar.muli (Scalar.addi v 2#32) 1024#32) c sb) (vOnes x) a := shapeCast_self _ _

/-- This payload is the sums' step. -/
theorem p184 (c v : BitVec 32) (m : Vec Ideal S1024x128 .f32) (sb : Vec Ideal S1024x1024 .f32) (x : Vec Ideal S1x1024x128 .bf16) (a : Vec Ideal S1024x256 .f32) : k0_pay184 (k0_pay183 c v x sb m a) = aNext m (mNext m (masked (Scalar.muli (Scalar.addi v 3#32) 1024#32) c sb)) (masked (Scalar.muli (Scalar.addi v 3#32) 1024#32) c sb) (vOnes x) a := shapeCast_self _ _

/-- This payload is the sums' step. -/
theorem p206 (c v : BitVec 32) (m : Vec Ideal S1024x128 .f32) (sb : Vec Ideal S1024x1024 .f32) (v1 : FVec Ideal S1024x256 .bf16) (a : Vec Ideal S1024x256 .f32) : k0_pay206 c v v1 sb m a = aNext m (mNext m (masked v c sb)) (masked v c sb) v1 a := shapeCast_self _ _

/-- This payload is the sums' step. -/
theorem p211 (c v : BitVec 32) (m : Vec Ideal S1024x128 .f32) (sb : Vec Ideal S1024x1024 .f32) (v1 : FVec Ideal S1024x256 .bf16) (a : Vec Ideal S1024x256 .f32) : k0_pay211 c v v1 sb m a = aNext m (mNext m (masked v c sb)) (masked v c sb) v1 a := shapeCast_self _ _

/-- This payload is the sums' step. -/
theorem p216 (c v : BitVec 32) (m : Vec Ideal S1024x128 .f32) (sb : Vec Ideal S1024x1024 .f32) (v1 : FVec Ideal S1024x256 .bf16) (a : Vec Ideal S1024x256 .f32) : k0_pay216 c v v1 sb m a = aNext m (mNext m (masked v c sb)) (masked v c sb) v1 a := shapeCast_self _ _

/-- This payload is the sums' step. -/
theorem p188 (c v : BitVec 32) (m : Vec Ideal S1024x128 .f32) (sb : Vec Ideal S1024x1024 .f32) (v1 : FVec Ideal S1024x256 .bf16) (a : Vec Ideal S1024x256 .f32) : k0_pay188 c v v1 sb m a = aNext m (mNext m (masked v c sb)) (masked v c sb) v1 a := shapeCast_self _ _

/-- A select on a decided bit. -/
theorem select_bool {α : Type} (c : Bool) (u v : α) : Scalar.select (BitVec.ofBool c) u v = if c then u else v := by cases c <;> rfl

/-- The masked scores, entry by entry. -/
theorem masked_apply (v c : BitVec 32) (sb : Vec Ideal S1024x1024 .f32) (n i : ℕ) (hv : v = BitVec.ofNat 32 n) (hc : c = BitVec.ofNat 32 i)
    (hn : n < 16384) (hi : i < 16) (r k : Fin 1024) :
    masked v c sb (ix2 r k) = if n + k.val ≤ i * 1024 + r.val then sb (ix2 r k) else ⊥ := by
  subst hv hc
  have e : masked (BitVec.ofNat 32 n) (BitVec.ofNat 32 i) sb (ix2 r k) =
      Scalar.select (IntOp.cmpi .sle (IntOp.addi (BitVec.ofNat 32 n) (BitVec.ofNat 32 k.val))
        (IntOp.addi (Scalar.muli (BitVec.ofNat 32 i) 1024#32) (BitVec.ofNat 32 r.val))) (sb (ix2 r k)) (Ideal.ofBits .f32 0xFF800000#32) := by
    pointwise [masked]
  have e' : IntOp.cmpi .sle (IntOp.addi (BitVec.ofNat 32 n) (BitVec.ofNat 32 k.val))
        (IntOp.addi (Scalar.muli (BitVec.ofNat 32 i) 1024#32) (BitVec.ofNat 32 r.val)) =
      BitVec.ofBool (BitVec.sle (BitVec.ofNat 32 n + BitVec.ofNat 32 k.val) (BitVec.ofNat 32 i * 1024#32 + BitVec.ofNat 32 r.val)) := rfl
  rw [e, e', bits_bot, select_bool]
  have h1 : (BitVec.ofNat 32 n + BitVec.ofNat 32 k.val).toInt = ((n + k.val : ℕ) : ℤ) := by
    rw [← BitVec.ofNat_add, BitVec.toInt_eq_toNat_of_lt] <;> rw [BitVec.toNat_ofNat] <;> omega
  have h2 : (BitVec.ofNat 32 i * 1024#32 + BitVec.ofNat 32 r.val).toInt = ((i * 1024 + r.val : ℕ) : ℤ) := by
    rw [show (1024#32 : BitVec 32) = BitVec.ofNat 32 1024 from rfl, ← BitVec.ofNat_mul, ← BitVec.ofNat_add, BitVec.toInt_eq_toNat_of_lt] <;>
      rw [BitVec.toNat_ofNat] <;> omega
  rw [BitVec.sle, h1, h2]
  by_cases h : n + k.val ≤ i * 1024 + r.val
  · rw [if_pos h, decide_eq_true (by exact_mod_cast h), if_pos rfl]
  · rw [if_neg h, decide_eq_false (by exact_mod_cast h), if_neg Bool.false_ne_true]

end Cert.Step

end
-- ==== Proof.Start.lean ====
/- The kernel's state when the loop begins and when it ends, and the chunks the block's last keys are read from. -/
module

public import proofs.«01_k».proof.Proof.Loop
public import proofs.«01_k».proof.Proof.FoldTail

@[expose] public section

set_option maxRecDepth 16384
set_option maxHeartbeats 1000000

noncomputable section

namespace Cert.Trip

open Cert.KernelIdeal Cert.KernelIdeal.Gen Cert.Online Cert.Step
open Idealize.ShloMosaic

section Reads

variable {sig : RefSig} {κ : Kind} {sp : Space} {s : Shape} {e : EltTy} {Val : EltTy → Type}

/-- A load after a store of one value everywhere reads that value. -/
theorem readAt_const (v : View sig κ sp s e) (f : v.ty.Contents Val) (r : Rect s) (w : r.shape.Idx → Val e) (L : List (View.Piece Val s e))
    (B : LoadRect s) (x : B.shape.Idx) (k : Val e) (hw : ∀ y, w y = k) (hr : ∃ y, r.emb y = B.idx x) :
    v.readAt Val B (v.writes Val f (⟨r, w⟩ :: L)) x = k := by
  obtain ⟨y, hy⟩ := hr
  rw [View.readAt_apply, ← hy, View.read_writes_cons_emb, hw]

/-- A load after two lists of stores, as a load after the later list. -/
theorem readCov_append (v : View sig κ sp s e) [∀ e, Inhabited (Val e)] (K L : List (View.Piece Val s e)) (B : LoadRect s) :
    v.readCov (K ++ L) B = v.readAt Val B (v.writes Val (v.writes Val v.junk L) K) := by
  unfold View.readCov
  rw [View.writes_append]

end Reads

/-- A chunk of keys read at an offset known to be chunk `n`'s. -/
theorem KeysAt.get {S : Fin 2 → Fin 1024 → ℕ → EReal} {q0 q1 : Vec Ideal S1024x128 .bf16} {arg6 : Memref sig .tc .vmem S1x16384x128 .bf16}
    {X6 : BufTy.Contents (Elt Ideal) arg6.view.ty} (h : KeysAt S q0 q1 arg6 X6) {off : Fin 3 → ℕ} {n : ℕ} (e : off = ![0, n, 0]) (hn : n + 1024 ≤ 16384) :
    ∃ x : Vec Ideal S1x1024x128 .bf16, (∀ inb, View.readAt (Elt Ideal) arg6.view (Rect.unit (s := S1x16384x128) off S1x1024x128.size inb).toLoadRect X6 = x) ∧
      Keys n S q0 q1 x := by
  have inb : ∀ a, off a + S1x1024x128.size a ≤ S1x16384x128.size a := by
    subst e
    intro a
    fin_cases a
    · exact (by decide : 0 + 1 ≤ 1)
    · exact hn
    · exact (by decide : 0 + 128 ≤ 128)
  exact ⟨_, fun _ => rfl, h n off inb e⟩

/-- A chunk of values read at an offset known to be chunk `n`'s. -/
theorem ValsAt.get {v : ℕ → Fin 256 → ℝ} {arg7 : Memref sig .tc .vmem S1x16384x128 .bf16} {X7 : BufTy.Contents (Elt Ideal) arg7.view.ty}
    (h : ValsAt v arg7 X7) {off : Fin 3 → ℕ} {n : ℕ} (e : off = ![0, n, 0]) (hn : n + 1024 ≤ 16384) :
    ∃ x : Vec Ideal S1x1024x128 .bf16, (∀ inb, View.readAt (Elt Ideal) arg7.view (Rect.unit (s := S1x16384x128) off S1x1024x128.size inb).toLoadRect X7 = x) ∧
      Vals n v x := by
  have inb : ∀ a, off a + S1x1024x128.size a ≤ S1x16384x128.size a := by
    subst e
    intro a
    fin_cases a
    · exact (by decide : 0 + 1 ≤ 1)
    · exact hn
    · exact (by decide : 0 + 128 ≤ 128)
  exact ⟨_, fun _ => rfl, h n off inb e⟩

/-- The starting reference point is a real number. -/
theorem low_bits : Ideal.ofBits .f32 0xF149F2CA#32 = ((-(13234890 * 2 ^ 76) : ℝ) : EReal) := by
  simp [Ideal.ofBits, Ideal.ieee]

/-- The running maximum starts at that number in every element. -/
theorem pay193_apply (y : S2048x128.Idx) : k0_pay193 (F := Ideal) y = ((-(13234890 * 2 ^ 76) : ℝ) : EReal) :=
  have e : k0_pay193 (F := Ideal) = broadcast S2048x128 (Scalar.ofBits (F := Ideal) .f32 0xF149F2CA#32) := shapeCast_self _ _
  (congrFun e y).trans low_bits

/-- The zero word is zero. -/
theorem zero_bits : Ideal.ofBits .f32 0x00000000#32 = (0 : EReal) := by simp [Ideal.ofBits, Ideal.ieee]

/-- The sums start at zero in every element. -/
theorem pay194_apply (y : S2048x256.Idx) : k0_pay194 (F := Ideal) y = (0 : EReal) :=
  have e : k0_pay194 (F := Ideal) = broadcast S2048x256 (Scalar.ofBits (F := Ideal) .f32 0x00000000#32) := shapeCast_self _ _
  (congrFun e y).trans zero_bits

/-- The state before the loop: nothing folded in, the first chunk's scores staged. -/
theorem start {S : Fin 2 → Fin 1024 → ℕ → EReal} {v : ℕ → Fin 256 → ℝ} {q0 q1 : Vec Ideal S1024x128 .bf16}
    (arg10 : Memref sig .tc .vmem S2048x128 .f32) (arg11 : Memref sig .tc .vmem S2048x256 .f32) (arg12 : Memref sig .tc .vmem S2048x1024 .f32)
    (f10 : arg10.view.ty.Contents (Elt Ideal)) (f11 : arg11.view.ty.Contents (Elt Ideal)) (f12 : arg12.view.ty.Contents (Elt Ideal))
    (x : Vec Ideal S1x1024x128 .bf16) (h : Keys 0 S q0 q1 x) :
    St 0 S v arg10 arg11 arg12
      (arg10.view.writes (Elt Ideal) f10 [⟨Rect.unit (s := S2048x128) ![0, 0] S2048x128.size inb_S2048x128_S2048x128_0_0, k0_pay193 (F := Ideal)⟩])
      (arg11.view.writes (Elt Ideal) f11 [⟨Rect.unit (s := S2048x256) ![0, 0] S2048x256.size inb_S2048x256_S2048x256_0_0, k0_pay194 (F := Ideal)⟩])
      (arg12.view.writes (Elt Ideal) f12 [⟨Rect.unit (s := S2048x1024) ![1024, 0] S1024x1024.size inb_S2048x1024_S1024x1024_1024_0, k0_pay197 (F := Ideal) x q1⟩,
        ⟨Rect.unit (s := S2048x1024) ![0, 0] S1024x1024.size inb_S2048x1024_S1024x1024_0_0, k0_pay196 (F := Ideal) x q0⟩]) := by
  have h10 : ∀ (B : LoadRect S2048x128) (y : B.shape.Idx), View.readAt (Elt Ideal) arg10.view B
      (arg10.view.writes (Elt Ideal) f10 [⟨Rect.unit (s := S2048x128) ![0, 0] S2048x128.size inb_S2048x128_S2048x128_0_0, k0_pay193 (F := Ideal)⟩]) y =
        ((-(13234890 * 2 ^ 76) : ℝ) : EReal) := fun B y =>
    readAt_const (Val := Elt Ideal) arg10.view f10 (Rect.unit (s := S2048x128) ![0, 0] S2048x128.size inb_S2048x128_S2048x128_0_0) (k0_pay193 (F := Ideal)) [] B y _ pay193_apply
      ⟨B.idx y, funext fun a => Fin.ext (by fin_cases a <;> exact (Nat.zero_add _).trans (Nat.one_mul _))⟩
  have h11 : ∀ (B : LoadRect S2048x256) (y : B.shape.Idx), View.readAt (Elt Ideal) arg11.view B
      (arg11.view.writes (Elt Ideal) f11 [⟨Rect.unit (s := S2048x256) ![0, 0] S2048x256.size inb_S2048x256_S2048x256_0_0, k0_pay194 (F := Ideal)⟩]) y = (0 : EReal) := fun B y =>
    readAt_const (Val := Elt Ideal) arg11.view f11 (Rect.unit (s := S2048x256) ![0, 0] S2048x256.size inb_S2048x256_S2048x256_0_0) (k0_pay194 (F := Ideal)) [] B y _ pay194_apply
      ⟨B.idx y, funext fun a => Fin.ext (by fin_cases a <;> exact (Nat.zero_add _).trans (Nat.one_mul _))⟩
  have e0 : View.readAt (Elt Ideal) arg12.view (Rect.unit (s := S2048x1024) ![0, 0] S1024x1024.size inb_S2048x1024_S1024x1024_0_0).toLoadRect
      (arg12.view.writes (Elt Ideal) f12 [⟨Rect.unit (s := S2048x1024) ![1024, 0] S1024x1024.size inb_S2048x1024_S1024x1024_1024_0, k0_pay197 (F := Ideal) x q1⟩,
        ⟨Rect.unit (s := S2048x1024) ![0, 0] S1024x1024.size inb_S2048x1024_S1024x1024_0_0, k0_pay196 (F := Ideal) x q0⟩]) = produce q0 x := by
    refine (readAt_skip arg12.view f12 (Rect.unit (s := S2048x1024) ![1024, 0] S1024x1024.size inb_S2048x1024_S1024x1024_1024_0) _ _ _ ?_).trans
      ((readAt_hit arg12.view f12 (Rect.unit (s := S2048x1024) ![0, 0] S1024x1024.size inb_S2048x1024_S1024x1024_0_0) _ []).trans (p196 x q0))
    decide
  have e1 : View.readAt (Elt Ideal) arg12.view (Rect.unit (s := S2048x1024) ![1024, 0] S1024x1024.size inb_S2048x1024_S1024x1024_1024_0).toLoadRect
      (arg12.view.writes (Elt Ideal) f12 [⟨Rect.unit (s := S2048x1024) ![1024, 0] S1024x1024.size inb_S2048x1024_S1024x1024_1024_0, k0_pay197 (F := Ideal) x q1⟩,
        ⟨Rect.unit (s := S2048x1024) ![0, 0] S1024x1024.size inb_S2048x1024_S1024x1024_0_0, k0_pay196 (F := Ideal) x q0⟩]) = produce q1 x :=
    (readAt_hit arg12.view f12 (Rect.unit (s := S2048x1024) ![1024, 0] S1024x1024.size inb_S2048x1024_S1024x1024_1024_0) _ _).trans (p197 x q1)
  refine ⟨fun r => ⟨_, fun l => h10 _ _, held_zero _ _ _ rfl fun e => h11 _ _⟩, fun r => ⟨_, fun l => h10 _ _, held_zero _ _ _ rfl fun e => h11 _ _⟩, ?_, ?_⟩
  · intro r c
    rw [e0]
    exact h.1 r c
  · intro r c
    rw [e1]
    exact h.2 r c

/-- The state, its six loads named. -/
theorem St.elim {n : ℕ} {S : Fin 2 → Fin 1024 → ℕ → EReal} {v : ℕ → Fin 256 → ℝ} {arg10 : Memref sig .tc .vmem S2048x128 .f32}
    {arg11 : Memref sig .tc .vmem S2048x256 .f32} {arg12 : Memref sig .tc .vmem S2048x1024 .f32}
    {f10 : arg10.view.ty.Contents (Elt Ideal)} {f11 : arg11.view.ty.Contents (Elt Ideal)} {f12 : arg12.view.ty.Contents (Elt Ideal)}
    (h : St n S v arg10 arg11 arg12 f10 f11 f12) :
    ∃ (m0 m1 : Vec Ideal S1024x128 .f32) (a0 a1 : Vec Ideal S1024x256 .f32) (b0 b1 : Vec Ideal S1024x1024 .f32),
      View.readAt (Elt Ideal) arg10.view (Rect.unit (s := S2048x128) ![0, 0] S1024x128.size inb_S2048x128_S1024x128_0_0).toLoadRect f10 = m0 ∧
      View.readAt (Elt Ideal) arg10.view (Rect.unit (s := S2048x128) ![1024, 0] S1024x128.size inb_S2048x128_S1024x128_1024_0).toLoadRect f10 = m1 ∧
      View.readAt (Elt Ideal) arg11.view (Rect.unit (s := S2048x256) ![0, 0] S1024x256.size inb_S2048x256_S1024x256_0_0).toLoadRect f11 = a0 ∧
      View.readAt (Elt Ideal) arg11.view (Rect.unit (s := S2048x256) ![1024, 0] S1024x256.size inb_S2048x256_S1024x256_1024_0).toLoadRect f11 = a1 ∧
      View.readAt (Elt Ideal) arg12.view (Rect.unit (s := S2048x1024) ![0, 0] S1024x1024.size inb_S2048x1024_S1024x1024_0_0).toLoadRect f12 = b0 ∧
      View.readAt (Elt Ideal) arg12.view (Rect.unit (s := S2048x1024) ![1024, 0] S1024x1024.size inb_S2048x1024_S1024x1024_1024_0).toLoadRect f12 = b1 ∧
      InvH n (S 0) v m0 a0 ∧ InvH n (S 1) v m1 a1 ∧ (∀ r c : Fin 1024, b0 (ix2 r c) = S 0 r (n + c.val)) ∧ ∀ r c : Fin 1024, b1 (ix2 r c) = S 1 r (n + c.val) :=
  ⟨_, _, _, _, _, _, rfl, rfl, rfl, rfl, rfl, rfl, h.i0, h.i1, h.s0, h.s1⟩

/-- The scores of the block's rows, the keys past each row's query at −∞. -/
def low (i : grid0.Coords) (T : Fin 1024 → ℕ → ℝ) (r : Fin 1024) (k : ℕ) : EReal := if k ≤ (i 2).val * 1024 + r.val then (T r k : EReal) else ⊥

/-- The masked scores are never the positive infinity. -/
theorem low_ne_top (i : grid0.Coords) (T : Fin 1024 → ℕ → ℝ) (r : Fin 1024) (k : ℕ) : low i T r k ≠ ⊤ := by
  unfold low
  split
  · exact EReal.coe_ne_top _
  · exact bot_ne_top

/-- Before the row block's own chunk, no key is masked. -/
theorem InvH.low {i : grid0.Coords} {T : Fin 1024 → ℕ → ℝ} {v : ℕ → Fin 256 → ℝ} {m : Vec Ideal S1024x128 .f32} {a : Vec Ideal S1024x256 .f32} {n : ℕ}
    (hn : n = (i 2).val * 1024) (h : InvH n (fun r k => (T r k : EReal)) v m a) : InvH n (low i T) v m a := by
  intro r
  obtain ⟨M, hM, m', hm, hA⟩ := h r
  refine ⟨M, hM, m', hm, fun e => (hA e).trans ?_⟩
  congr 1
  refine Finset.sum_congr rfl fun k hk => ?_
  have : k < n := Finset.mem_range.1 hk
  show _ = wt (Trip.low i T r k) m' * _
  rw [Trip.low, if_pos (by omega)]

/-- The own chunk's scores, masked. -/
theorem masked_low {i : grid0.Coords} {T : Fin 1024 → ℕ → ℝ} {n : ℕ} (hn : n = (i 2).val * 1024) {w : BitVec 32} (hw : w = BitVec.ofNat 32 n)
    {sb : Vec Ideal S1024x1024 .f32} (h : ∀ r c : Fin 1024, sb (ix2 r c) = (T r (n + c.val) : EReal)) (r c : Fin 1024) :
    masked w (BitVec.ofNat 32 (i 2).val) sb (ix2 r c) = low i T r (n + c.val) := by
  have hi : (i 2).val < 16 := (i 2).isLt
  rw [masked_apply w _ sb n (i 2).val hw rfl (by omega) hi, h, low]

/-- What the kernel has when its keys are through: for each map, the sums over the keys up to the row's own. -/
def Done (i : grid0.Coords) (T : Fin 2 → Fin 1024 → ℕ → ℝ) (v : ℕ → Fin 256 → ℝ) (A0 A1 : Vec Ideal S1024x256 .f32) : Prop :=
  (∃ M, InvH ((i 2).val * 1024 + 1024) (low i (T 0)) v M A0) ∧ ∃ M, InvH ((i 2).val * 1024 + 1024) (low i (T 1)) v M A1

/-- Half of the lanes of a block of sums: the weighted values, or the sum of weights. -/
def lanes0 (A : Vec Ideal S1024x256 .f32) : Vec Ideal S1024x128 .f32 := fun x => A (ix2 (x 0) ⟨(x 1).val, lt_trans (x 1).isLt (by decide)⟩)
/-- The lanes of the sums that hold the ones column. -/
def lanes1 (A : Vec Ideal S1024x256 .f32) : Vec Ideal S1024x128 .f32 := fun x => A (ix2 (x 0) ⟨128 + (x 1).val, Nat.add_lt_add_left (x 1).isLt 128⟩)

/-- The block the kernel writes, of its small rows, its gain row and the two maps' sums. -/
def outBlk (l : Vec Ideal S8x128 .f32) (g : Vec Ideal S1x128 .f32) (A0 A1 : Vec Ideal S1024x256 .f32) : FVec Ideal S1x1024x128 .bf16 :=
  k0_pay1 (k0_pay218 l) (k0_pay219 l (lanes0 A0) (lanes1 A0) (lanes0 A1) (lanes1 A1)) (k0_pay220 l (lanes0 A0) (lanes1 A0) (lanes0 A1) (lanes1 A1)) g

/-- Loads of half the lanes. -/
theorem lanes0_read (v : View sig .tc .vmem S2048x256 .f32) (f : v.ty.Contents (Elt Ideal)) (o : ℕ) (i j) (A : Vec Ideal S1024x256 .f32)
    (h : View.readAt (Elt Ideal) v (Rect.unit (s := S2048x256) ![o, 0] S1024x256.size i).toLoadRect f = A) :
    View.readAt (Elt Ideal) v (Rect.unit (s := S2048x256) ![o, 0] S1024x128.size j).toLoadRect f = lanes0 A := by
  subst h
  funext x
  show v.read (Elt Ideal) f _ = v.read (Elt Ideal) f _
  congr 1
  funext a
  fin_cases a <;> rfl

/-- A load of the upper 128 lanes of the sums, from what the buffer holds. -/
theorem lanes1_read (v : View sig .tc .vmem S2048x256 .f32) (f : v.ty.Contents (Elt Ideal)) (o : ℕ) (i j) (A : Vec Ideal S1024x256 .f32)
    (h : View.readAt (Elt Ideal) v (Rect.unit (s := S2048x256) ![o, 0] S1024x256.size i).toLoadRect f = A) :
    View.readAt (Elt Ideal) v (Rect.unit (s := S2048x256) ![o, 128] S1024x128.size j).toLoadRect f = lanes1 A := by
  subst h
  funext x
  show v.read (Elt Ideal) f _ = v.read (Elt Ideal) f _
  congr 1
  funext a
  refine Fin.ext ?_
  fin_cases a
  · rfl
  · show 128 + 1 * (x 1).val = 0 + 1 * (128 + (x 1).val)
    omega

/-- Where the row block's chunks lie: `N` keys go through the loop. -/
theorem place (i : grid0.Coords) (w : ℕ) (h : (i 2).val % 4 = w) : ∃ N, (i 2).val / 4 * 4096 = N ∧ N + 1024 * w = (i 2).val * 1024 ∧
    (4 * ((i 2).val / 4) + 0) * 1024 = N ∧ (4 * ((i 2).val / 4) + 1) * 1024 = N + 1024 ∧ (4 * ((i 2).val / 4) + 2) * 1024 = N + 1024 + 1024 ∧
    (4 * ((i 2).val / 4) + 3) * 1024 = N + 1024 + 1024 + 1024 ∧ N + 1024 * w + 1024 ≤ 16384 := by
  have hi : (i 2).val < 16 := (i 2).isLt
  generalize (i 2).val = a at *
  exact ⟨_, rfl, by omega, by omega, by omega, by omega, by omega, by omega⟩

/-- The second loop stores nothing. -/
theorem pb2_nil (𝒱 : Variants) (c : Dev nD) (bd : Option 𝒱.V) (i : grid0.Coords)
    (arg3 : Memref sig .tc .vmem S8x128 .f32) (harg3 : arg3.IsWhole)
    (arg4 : Memref sig .tc .vmem S1x128 .f32) (harg4 : arg4.IsWhole)
    (arg5 : Memref sig .tc .vmem S1x1024x128 .bf16) (harg5 : arg5.IsWhole)
    (arg6 : Memref sig .tc .vmem S1x16384x128 .bf16) (harg6 : arg6.IsWhole)
    (arg7 : Memref sig .tc .vmem S1x16384x128 .bf16) (harg7 : arg7.IsWhole)
    (arg8 : Memref sig .tc .vmem S1x1024x128 .bf16) (harg8 : arg8.IsWhole)
    (arg9 : Memref sig .tc .vmem S2048x128 .bf16) (harg9 : arg9.IsWhole)
    (arg10 : Memref sig .tc .vmem S2048x128 .f32) (harg10 : arg10.IsWhole)
    (arg11 : Memref sig .tc .vmem S2048x256 .f32) (harg11 : arg11.IsWhole)
    (arg12 : Memref sig .tc .vmem S2048x1024 .f32) (harg12 : arg12.IsWhole)
    (arg13 : Memref sig .tc .vmem S2048x1024 .f32) (harg13 : arg13.IsWhole)
    (arg2 v41 v56 : BitVec 32) (v67 : BitVec 1) (v68 v77 : BitVec 32)
    (X6 : BufTy.Contents (Elt Ideal) arg6.view.ty) (X7 : BufTy.Contents (Elt Ideal) arg7.view.ty) (X9 : BufTy.Contents (Elt Ideal) arg9.view.ty)
    (G10 : arg10.view.ty.Contents (Elt Ideal)) (G11 : arg11.view.ty.Contents (Elt Ideal)) (G12 : arg12.view.ty.Contents (Elt Ideal))
    (G13 : arg13.view.ty.Contents (Elt Ideal)) :
    pb_k0_t2 (F := Ideal) 𝒱 c bd i arg3 harg3 arg4 harg4 arg5 harg5 arg6 harg6 arg7 harg7 arg8 harg8 arg9 harg9 arg10 harg10 arg11 harg11 arg12 harg12 arg13 harg13 arg2 v41 v56 v67 v68 v77 X6 X7 X9 G10 G11 G12 G13
      (Scf.trips (k0_t2_loop i).lb (k0_t2_loop i).ub (k0_t2_loop i).st) = ([], [], [], []) := by
  rw [show Scf.trips (k0_t2_loop i).lb (k0_t2_loop i).ub (k0_t2_loop i).st = 0 from trips2_eq i]
  rfl

/-- The second loop makes no trip, so this one of its four lists of stores is empty. -/
theorem pb2_x (𝒱 : Variants) (c : Dev nD) (bd : Option 𝒱.V) (i : grid0.Coords)
    (arg3 : Memref sig .tc .vmem S8x128 .f32) (harg3 : arg3.IsWhole)
    (arg4 : Memref sig .tc .vmem S1x128 .f32) (harg4 : arg4.IsWhole)
    (arg5 : Memref sig .tc .vmem S1x1024x128 .bf16) (harg5 : arg5.IsWhole)
    (arg6 : Memref sig .tc .vmem S1x16384x128 .bf16) (harg6 : arg6.IsWhole)
    (arg7 : Memref sig .tc .vmem S1x16384x128 .bf16) (harg7 : arg7.IsWhole)
    (arg8 : Memref sig .tc .vmem S1x1024x128 .bf16) (harg8 : arg8.IsWhole)
    (arg9 : Memref sig .tc .vmem S2048x128 .bf16) (harg9 : arg9.IsWhole)
    (arg10 : Memref sig .tc .vmem S2048x128 .f32) (harg10 : arg10.IsWhole)
    (arg11 : Memref sig .tc .vmem S2048x256 .f32) (harg11 : arg11.IsWhole)
    (arg12 : Memref sig .tc .vmem S2048x1024 .f32) (harg12 : arg12.IsWhole)
    (arg13 : Memref sig .tc .vmem S2048x1024 .f32) (harg13 : arg13.IsWhole)
    (arg2 v41 v56 : BitVec 32) (v67 : BitVec 1) (v68 v77 : BitVec 32)
    (X6 : BufTy.Contents (Elt Ideal) arg6.view.ty) (X7 : BufTy.Contents (Elt Ideal) arg7.view.ty) (X9 : BufTy.Contents (Elt Ideal) arg9.view.ty)
    (G10 : arg10.view.ty.Contents (Elt Ideal)) (G11 : arg11.view.ty.Contents (Elt Ideal)) (G12 : arg12.view.ty.Contents (Elt Ideal))
    (G13 : arg13.view.ty.Contents (Elt Ideal)) :
    (pb_k0_t2 (F := Ideal) 𝒱 c bd i arg3 harg3 arg4 harg4 arg5 harg5 arg6 harg6 arg7 harg7 arg8 harg8 arg9 harg9 arg10 harg10 arg11 harg11 arg12 harg12 arg13 harg13 arg2 v41 v56 v67 v68 v77 X6 X7 X9 G10 G11 G12 G13
      (Scf.trips (k0_t2_loop i).lb (k0_t2_loop i).ub (k0_t2_loop i).st)).1 = [] := by
  rw [pb2_nil]

/-- The second loop makes no trip, so this one of its four lists of stores is empty. -/
theorem pb2_y (𝒱 : Variants) (c : Dev nD) (bd : Option 𝒱.V) (i : grid0.Coords)
    (arg3 : Memref sig .tc .vmem S8x128 .f32) (harg3 : arg3.IsWhole)
    (arg4 : Memref sig .tc .vmem S1x128 .f32) (harg4 : arg4.IsWhole)
    (arg5 : Memref sig .tc .vmem S1x1024x128 .bf16) (harg5 : arg5.IsWhole)
    (arg6 : Memref sig .tc .vmem S1x16384x128 .bf16) (harg6 : arg6.IsWhole)
    (arg7 : Memref sig .tc .vmem S1x16384x128 .bf16) (harg7 : arg7.IsWhole)
    (arg8 : Memref sig .tc .vmem S1x1024x128 .bf16) (harg8 : arg8.IsWhole)
    (arg9 : Memref sig .tc .vmem S2048x128 .bf16) (harg9 : arg9.IsWhole)
    (arg10 : Memref sig .tc .vmem S2048x128 .f32) (harg10 : arg10.IsWhole)
    (arg11 : Memref sig .tc .vmem S2048x256 .f32) (harg11 : arg11.IsWhole)
    (arg12 : Memref sig .tc .vmem S2048x1024 .f32) (harg12 : arg12.IsWhole)
    (arg13 : Memref sig .tc .vmem S2048x1024 .f32) (harg13 : arg13.IsWhole)
    (arg2 v41 v56 : BitVec 32) (v67 : BitVec 1) (v68 v77 : BitVec 32)
    (X6 : BufTy.Contents (Elt Ideal) arg6.view.ty) (X7 : BufTy.Contents (Elt Ideal) arg7.view.ty) (X9 : BufTy.Contents (Elt Ideal) arg9.view.ty)
    (G10 : arg10.view.ty.Contents (Elt Ideal)) (G11 : arg11.view.ty.Contents (Elt Ideal)) (G12 : arg12.view.ty.Contents (Elt Ideal))
    (G13 : arg13.view.ty.Contents (Elt Ideal)) :
    (pb_k0_t2 (F := Ideal) 𝒱 c bd i arg3 harg3 arg4 harg4 arg5 harg5 arg6 harg6 arg7 harg7 arg8 harg8 arg9 harg9 arg10 harg10 arg11 harg11 arg12 harg12 arg13 harg13 arg2 v41 v56 v67 v68 v77 X6 X7 X9 G10 G11 G12 G13
      (Scf.trips (k0_t2_loop i).lb (k0_t2_loop i).ub (k0_t2_loop i).st)).2.1 = [] := by
  rw [pb2_nil]

/-- The second loop makes no trip, so this one of its four lists of stores is empty. -/
theorem pb2_z (𝒱 : Variants) (c : Dev nD) (bd : Option 𝒱.V) (i : grid0.Coords)
    (arg3 : Memref sig .tc .vmem S8x128 .f32) (harg3 : arg3.IsWhole)
    (arg4 : Memref sig .tc .vmem S1x128 .f32) (harg4 : arg4.IsWhole)
    (arg5 : Memref sig .tc .vmem S1x1024x128 .bf16) (harg5 : arg5.IsWhole)
    (arg6 : Memref sig .tc .vmem S1x16384x128 .bf16) (harg6 : arg6.IsWhole)
    (arg7 : Memref sig .tc .vmem S1x16384x128 .bf16) (harg7 : arg7.IsWhole)
    (arg8 : Memref sig .tc .vmem S1x1024x128 .bf16) (harg8 : arg8.IsWhole)
    (arg9 : Memref sig .tc .vmem S2048x128 .bf16) (harg9 : arg9.IsWhole)
    (arg10 : Memref sig .tc .vmem S2048x128 .f32) (harg10 : arg10.IsWhole)
    (arg11 : Memref sig .tc .vmem S2048x256 .f32) (harg11 : arg11.IsWhole)
    (arg12 : Memref sig .tc .vmem S2048x1024 .f32) (harg12 : arg12.IsWhole)
    (arg13 : Memref sig .tc .vmem S2048x1024 .f32) (harg13 : arg13.IsWhole)
    (arg2 v41 v56 : BitVec 32) (v67 : BitVec 1) (v68 v77 : BitVec 32)
    (X6 : BufTy.Contents (Elt Ideal) arg6.view.ty) (X7 : BufTy.Contents (Elt Ideal) arg7.view.ty) (X9 : BufTy.Contents (Elt Ideal) arg9.view.ty)
    (G10 : arg10.view.ty.Contents (Elt Ideal)) (G11 : arg11.view.ty.Contents (Elt Ideal)) (G12 : arg12.view.ty.Contents (Elt Ideal))
    (G13 : arg13.view.ty.Contents (Elt Ideal)) :
    (pb_k0_t2 (F := Ideal) 𝒱 c bd i arg3 harg3 arg4 harg4 arg5 harg5 arg6 harg6 arg7 harg7 arg8 harg8 arg9 harg9 arg10 harg10 arg11 harg11 arg12 harg12 arg13 harg13 arg2 v41 v56 v67 v68 v77 X6 X7 X9 G10 G11 G12 G13
      (Scf.trips (k0_t2_loop i).lb (k0_t2_loop i).ub (k0_t2_loop i).st)).2.2.1 = [] := by
  rw [pb2_nil]

/-- The second loop makes no trip, so this one of its four lists of stores is empty. -/
theorem pb2_w (𝒱 : Variants) (c : Dev nD) (bd : Option 𝒱.V) (i : grid0.Coords)
    (arg3 : Memref sig .tc .vmem S8x128 .f32) (harg3 : arg3.IsWhole)
    (arg4 : Memref sig .tc .vmem S1x128 .f32) (harg4 : arg4.IsWhole)
    (arg5 : Memref sig .tc .vmem S1x1024x128 .bf16) (harg5 : arg5.IsWhole)
    (arg6 : Memref sig .tc .vmem S1x16384x128 .bf16) (harg6 : arg6.IsWhole)
    (arg7 : Memref sig .tc .vmem S1x16384x128 .bf16) (harg7 : arg7.IsWhole)
    (arg8 : Memref sig .tc .vmem S1x1024x128 .bf16) (harg8 : arg8.IsWhole)
    (arg9 : Memref sig .tc .vmem S2048x128 .bf16) (harg9 : arg9.IsWhole)
    (arg10 : Memref sig .tc .vmem S2048x128 .f32) (harg10 : arg10.IsWhole)
    (arg11 : Memref sig .tc .vmem S2048x256 .f32) (harg11 : arg11.IsWhole)
    (arg12 : Memref sig .tc .vmem S2048x1024 .f32) (harg12 : arg12.IsWhole)
    (arg13 : Memref sig .tc .vmem S2048x1024 .f32) (harg13 : arg13.IsWhole)
    (arg2 v41 v56 : BitVec 32) (v67 : BitVec 1) (v68 v77 : BitVec 32)
    (X6 : BufTy.Contents (Elt Ideal) arg6.view.ty) (X7 : BufTy.Contents (Elt Ideal) arg7.view.ty) (X9 : BufTy.Contents (Elt Ideal) arg9.view.ty)
    (G10 : arg10.view.ty.Contents (Elt Ideal)) (G11 : arg11.view.ty.Contents (Elt Ideal)) (G12 : arg12.view.ty.Contents (Elt Ideal))
    (G13 : arg13.view.ty.Contents (Elt Ideal)) :
    (pb_k0_t2 (F := Ideal) 𝒱 c bd i arg3 harg3 arg4 harg4 arg5 harg5 arg6 harg6 arg7 harg7 arg8 harg8 arg9 harg9 arg10 harg10 arg11 harg11 arg12 harg12 arg13 harg13 arg2 v41 v56 v67 v68 v77 X6 X7 X9 G10 G11 G12 G13
      (Scf.trips (k0_t2_loop i).lb (k0_t2_loop i).ub (k0_t2_loop i).st)).2.2.2 = [] := by
  rw [pb2_nil]

end Cert.Trip

end
-- ==== Proof.Exit.lean ====
/- What the four walks over the keys share: the words and offsets of the last chunks, the state in which the loop leaves
   the buffers, and the block written at the end. -/
module

public import proofs.«01_k».proof.Proof.RunA
public import proofs.«01_k».proof.Proof.Start

@[expose] public section

set_option maxRecDepth 16384
set_option maxHeartbeats 1000000

noncomputable section

namespace Cert.Trip

open Cert.KernelIdeal Cert.KernelIdeal.Gen Cert.Online Cert.Step
open Idealize.ShloMosaic

/-- The word of the first chunk after the loop: four for each of the loop's trips. Every walk computes this one. -/
def base (i : grid0.Coords) : BitVec 32 := Body.runA.sl.v95 i

/-- That word as a number. -/
theorem base_eq (i : grid0.Coords) : base i = BitVec.ofNat 32 (4 * ((i 2).val / 4)) := by
  obtain ⟨a, ha⟩ : ∃ a : Fin 16, (i 2).val = a.val := ⟨i 2, rfl⟩
  simp only [base, Body.runA.sl.v24, Body.runA.sl.v25, Body.runA.sl.v26, Body.runA.sl.v27, Body.runA.sl.v28, Body.runA.sl.v29, Body.runA.sl.v30, Body.runA.sl.v36, Body.runA.sl.v37, Body.runA.sl.v38, Body.runA.sl.v39, Body.runA.sl.v40, Body.runA.sl.v41, Body.runA.sl.v78, Body.runA.sl.v79, Body.runA.sl.v80, Body.runA.sl.v81, Body.runA.sl.v82, Body.runA.sl.v83, Body.runA.sl.v89, Body.runA.sl.v90, Body.runA.sl.v91, Body.runA.sl.v92, Body.runA.sl.v93, Body.runA.sl.v94, Body.runA.sl.v95, ha]
  clear ha
  revert a
  decide +kernel

/-- A chunk's word moved on by `j` chunks. -/
theorem plus {x : BitVec 32} {p : ℕ} (h : x = BitVec.ofNat 32 p) (j : ℕ) : Scalar.addi x (BitVec.ofNat 32 j) = BitVec.ofNat 32 (p + j) := by
  rw [h, BitVec.ofNat_add]
  rfl

/-- The word of a chunk's first key. -/
theorem word {x : BitVec 32} {p n : ℕ} (h : x = BitVec.ofNat 32 p) (e : p * 1024 = n) : Scalar.muli x 1024#32 = BitVec.ofNat 32 n := by
  rw [h, ← e, BitVec.ofNat_mul]
  rfl

/-- The offset of a chunk's first key. -/
theorem offs {x : BitVec 32} {p n : ℕ} (h : x = BitVec.ofNat 32 p) (e : p * 1024 = n) (hn : n + 1024 ≤ 16384) :
    (![0, (Scalar.indexCast (Scalar.muli x 1024#32) : Index).toNat, 0] : Fin 3 → ℕ) = ![0, n, 0] := by
  have k : (Scalar.indexCast (Scalar.muli x 1024#32) : Index).toNat = n := by
    rw [word h e]
    show (BitVec.ofNat 32 n).toNat = n
    rw [BitVec.toNat_ofNat]
    omega
  rw [k]

section

variable (c : Dev nD) (i : grid0.Coords)
  (arg3 : Memref sig .tc .vmem S8x128 .f32) (harg3 : arg3.IsWhole) (arg4 : Memref sig .tc .vmem S1x128 .f32) (harg4 : arg4.IsWhole)
  (arg5 : Memref sig .tc .vmem S1x1024x128 .bf16) (harg5 : arg5.IsWhole) (arg6 : Memref sig .tc .vmem S1x16384x128 .bf16) (harg6 : arg6.IsWhole)
  (arg7 : Memref sig .tc .vmem S1x16384x128 .bf16) (harg7 : arg7.IsWhole) (arg8 : Memref sig .tc .vmem S1x1024x128 .bf16) (harg8 : arg8.IsWhole)
  (arg9 : Memref sig .tc .vmem S2048x128 .bf16) (harg9 : arg9.IsWhole) (arg10 : Memref sig .tc .vmem S2048x128 .f32) (harg10 : arg10.IsWhole)
  (arg11 : Memref sig .tc .vmem S2048x256 .f32) (harg11 : arg11.IsWhole) (arg12 : Memref sig .tc .vmem S2048x1024 .f32) (harg12 : arg12.IsWhole)
  (arg13 : Memref sig .tc .vmem S2048x1024 .f32) (harg13 : arg13.IsWhole)
  (X3 : BufTy.Contents (Elt Ideal) arg3.view.ty) (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty) (f13 : BufTy.Contents (Elt Ideal) arg13.view.ty)
  {T : Fin 2 → Fin 1024 → ℕ → ℝ} {v : ℕ → Fin 256 → ℝ} {q0 q1 : Vec Ideal S1024x128 .bf16}

/-- The two maps' queries as they are staged. -/
def staged : List (View.Piece (Elt Ideal) S2048x128 .bf16) :=
  [⟨Rect.unit (s := S2048x128) ![1024, 0] S1024x128.size inb_S2048x128_S1024x128_1024_0, k0_pay192 (F := Ideal) (View.readAt (Elt Ideal) arg5.view (Rect.unit (s := S1x1024x128) ![0, 0, 0] S1x1024x128.size inb_S1x1024x128_S1x1024x128_0_0_0).toLoadRect X5)⟩,
    ⟨Rect.unit (s := S2048x128) ![0, 0] S1024x128.size inb_S2048x128_S1024x128_0_0, k0_pay191 (F := Ideal) (View.readAt (Elt Ideal) arg5.view (Rect.unit (s := S1x1024x128) ![0, 0, 0] S1x1024x128.size inb_S1x1024x128_S1x1024x128_0_0_0).toLoadRect X5)⟩]

/-- What a point is given: its two maps' queries, and the scores and values that its keys' and values' buffers hold. -/
structure Given (T : Fin 2 → Fin 1024 → ℕ → ℝ) (v : ℕ → Fin 256 → ℝ) (q0 q1 : Vec Ideal S1024x128 .bf16) : Prop where
  hq0 : k0_pay191 (F := Ideal) (View.readAt (Elt Ideal) arg5.view (Rect.unit (s := S1x1024x128) ![0, 0, 0] S1x1024x128.size inb_S1x1024x128_S1x1024x128_0_0_0).toLoadRect X5) = q0
  hq1 : k0_pay192 (F := Ideal) (View.readAt (Elt Ideal) arg5.view (Rect.unit (s := S1x1024x128) ![0, 0, 0] S1x1024x128.size inb_S1x1024x128_S1x1024x128_0_0_0).toLoadRect X5) = q1
  hK : KeysAt (fun h r k => (T h r k : EReal)) q0 q1 arg6 X6
  hV : ValsAt v arg7 X7

/-- What a walk leaves in the output block: the tail's arithmetic at each map's sums over the keys up to the row's own. -/
def Wrote (T : Fin 2 → Fin 1024 → ℕ → ℝ) (v : ℕ → Fin 256 → ℝ) (L : List (View.Piece (Elt Ideal) S1x1024x128 .bf16)) : Prop :=
  ∃ A0 A1 : Vec Ideal S1024x256 .f32, Done i T v A0 A1 ∧ L =
    [⟨Rect.unit (s := S1x1024x128) ![0, 0, 0] S1x1024x128.size inb_S1x1024x128_S1x1024x128_0_0_0, outBlk (View.readAt (Elt Ideal) arg3.view (Rect.unit (s := S8x128) ![0, 0] S8x128.size inb_S8x128_S8x128_0_0).toLoadRect X3)
      (View.readAt (Elt Ideal) arg4.view (Rect.unit (s := S1x128) ![0, 0] S1x128.size inb_S1x128_S1x128_0_0).toLoadRect X4) A0 A1⟩]

variable {i arg5 arg6 arg7 X5 X6 X7}

/-- The first map's queries, read back. -/
theorem Given.get0 (h : Given arg5 arg6 arg7 X5 X6 X7 T v q0 q1) :
    arg9.view.readCov (staged arg5 X5) (Rect.unit (s := S2048x128) ![0, 0] S1024x128.size inb_S2048x128_S1024x128_0_0).toLoadRect = q0 := by
  simp (disch := decide) only [staged, ↓ View.readCov_skip, ↓ View.readCov_cons_toLoadRect, h.hq0]

/-- The second map's queries, read back. -/
theorem Given.get1 (h : Given arg5 arg6 arg7 X5 X6 X7 T v q0 q1) :
    arg9.view.readCov (staged arg5 X5) (Rect.unit (s := S2048x128) ![1024, 0] S1024x128.size inb_S2048x128_S1024x128_1024_0).toLoadRect = q1 := by
  simp (disch := decide) only [staged, ↓ View.readCov_skip, ↓ View.readCov_cons_toLoadRect, h.hq1]

/-- The buffers as the loop leaves them, `N` keys folded in, whatever names the walk has for what it stored before. -/
theorem Given.exit (h : Given arg5 arg6 arg7 X5 X6 X7 T v q0 q1) {N : ℕ} (hN : (i 2).val / 4 * 4096 = N)
    (z1 z2 : BitVec 32) (z3 : BitVec 1) (z4 : BitVec 32) (H9 : List (View.Piece (Elt Ideal) S2048x128 .bf16)) (H10 : List (View.Piece (Elt Ideal) S2048x128 .f32))
    (H11 : List (View.Piece (Elt Ideal) S2048x256 .f32)) (H12 : List (View.Piece (Elt Ideal) S2048x1024 .f32)) (e9 : H9 = staged arg5 X5)
    (e10 : H10 = [⟨Rect.unit (s := S2048x128) ![0, 0] S2048x128.size inb_S2048x128_S2048x128_0_0, k0_pay193 (F := Ideal)⟩])
    (e11 : H11 = [⟨Rect.unit (s := S2048x256) ![0, 0] S2048x256.size inb_S2048x256_S2048x256_0_0, k0_pay194 (F := Ideal)⟩])
    (e12 : H12 =
      [⟨Rect.unit (s := S2048x1024) ![1024, 0] S1024x1024.size inb_S2048x1024_S1024x1024_1024_0, k0_pay197 (F := Ideal) (View.readAt (Elt Ideal) arg6.view (Rect.unit (s := S1x16384x128) ![0, 0, 0] S1x1024x128.size inb_S1x16384x128_S1x1024x128_0_0_0).toLoadRect X6)
          (arg9.view.readCov (staged arg5 X5) (Rect.unit (s := S2048x128) ![1024, 0] S1024x128.size inb_S2048x128_S1024x128_1024_0).toLoadRect)⟩,
        ⟨Rect.unit (s := S2048x1024) ![0, 0] S1024x1024.size inb_S2048x1024_S1024x1024_0_0, k0_pay196 (F := Ideal) (View.readAt (Elt Ideal) arg6.view (Rect.unit (s := S1x16384x128) ![0, 0, 0] S1x1024x128.size inb_S1x16384x128_S1x1024x128_0_0_0).toLoadRect X6)
          (arg9.view.readCov (staged arg5 X5) (Rect.unit (s := S2048x128) ![0, 0] S1024x128.size inb_S2048x128_S1024x128_0_0).toLoadRect)⟩]) :
    St N (fun h r k => (T h r k : EReal)) v arg10 arg11 arg12
      (arg10.view.writes (Elt Ideal) (arg10.view.writes (Elt Ideal) arg10.view.junk H10) (pb_k0_t1 (F := Ideal) Variants.none c none i arg3 harg3 arg4 harg4 arg5 harg5 arg6 harg6 arg7 harg7 arg8 harg8 arg9 harg9 arg10 harg10 arg11 harg11 arg12 harg12 arg13 harg13
        (BitVec.ofNat 32 (i 2).val) z1 z2 z3 z4 X6 X7 (arg9.view.writes (Elt Ideal) arg9.view.junk H9) (arg10.view.writes (Elt Ideal) arg10.view.junk H10) (arg11.view.writes (Elt Ideal) arg11.view.junk H11)
        (arg12.view.writes (Elt Ideal) arg12.view.junk H12) f13 (Scf.trips (k0_t1_loop i).lb (k0_t1_loop i).ub (k0_t1_loop i).st)).1)
      (arg11.view.writes (Elt Ideal) (arg11.view.writes (Elt Ideal) arg11.view.junk H11) (pb_k0_t1 (F := Ideal) Variants.none c none i arg3 harg3 arg4 harg4 arg5 harg5 arg6 harg6 arg7 harg7 arg8 harg8 arg9 harg9 arg10 harg10 arg11 harg11 arg12 harg12 arg13 harg13
        (BitVec.ofNat 32 (i 2).val) z1 z2 z3 z4 X6 X7 (arg9.view.writes (Elt Ideal) arg9.view.junk H9) (arg10.view.writes (Elt Ideal) arg10.view.junk H10) (arg11.view.writes (Elt Ideal) arg11.view.junk H11)
        (arg12.view.writes (Elt Ideal) arg12.view.junk H12) f13 (Scf.trips (k0_t1_loop i).lb (k0_t1_loop i).ub (k0_t1_loop i).st)).2.1)
      (arg12.view.writes (Elt Ideal) (arg12.view.writes (Elt Ideal) arg12.view.junk H12) (pb_k0_t1 (F := Ideal) Variants.none c none i arg3 harg3 arg4 harg4 arg5 harg5 arg6 harg6 arg7 harg7 arg8 harg8 arg9 harg9 arg10 harg10 arg11 harg11 arg12 harg12 arg13 harg13
        (BitVec.ofNat 32 (i 2).val) z1 z2 z3 z4 X6 X7 (arg9.view.writes (Elt Ideal) arg9.view.junk H9) (arg10.view.writes (Elt Ideal) arg10.view.junk H10) (arg11.view.writes (Elt Ideal) arg11.view.junk H11)
        (arg12.view.writes (Elt Ideal) arg12.view.junk H12) f13 (Scf.trips (k0_t1_loop i).lb (k0_t1_loop i).ub (k0_t1_loop i).st)).2.2.1) := by
  obtain ⟨xs, hxs, hks⟩ := h.hK.get (off := ![0, 0, 0]) (n := 0) rfl (by decide)
  rw [h.get0, h.get1, hxs] at e12
  rw [← (congrArg (· * 4096) (trips_eq i)).trans hN]
  subst e9 e10 e11 e12
  exact loop Variants.none c none i arg3 harg3 arg4 harg4 arg5 harg5 arg6 harg6 arg7 harg7 arg8 harg8 arg9 harg9 arg10 harg10 arg11 harg11 arg12 harg12 arg13 harg13
    (BitVec.ofNat 32 (i 2).val) z1 z2 z3 z4 X6 X7 _ _ _ _ f13 (S := fun h r k => (T h r k : EReal)) (v := v) (fun _ _ _ => EReal.coe_ne_top _) q0 q1 (h.get0 arg9) (h.get1 arg9)
    h.hK h.hV (start arg10 arg11 arg12 _ _ _ xs hks) _ (le_refl (k0_t1_loop i).trips)

/-- The block written from the sums that a walk ends with. -/
theorem wrote {L : List (View.Piece (Elt Ideal) S2048x256 .f32)}
    (h : Done i T v (arg11.view.readCov L (Rect.unit (s := S2048x256) ![0, 0] S1024x256.size inb_S2048x256_S1024x256_0_0).toLoadRect)
      (arg11.view.readCov L (Rect.unit (s := S2048x256) ![1024, 0] S1024x256.size inb_S2048x256_S1024x256_1024_0).toLoadRect))
    {x0 x1 y0 y1 : Vec Ideal S1024x128 .f32} {o0 o1 p0 p1}
    (hx0 : x0 = arg11.view.readCov L (Rect.unit (s := S2048x256) ![0, 0] S1024x128.size o0).toLoadRect)
    (hx1 : x1 = arg11.view.readCov L (Rect.unit (s := S2048x256) ![0, 128] S1024x128.size o1).toLoadRect)
    (hy0 : y0 = arg11.view.readCov L (Rect.unit (s := S2048x256) ![1024, 0] S1024x128.size p0).toLoadRect)
    (hy1 : y1 = arg11.view.readCov L (Rect.unit (s := S2048x256) ![1024, 128] S1024x128.size p1).toLoadRect)
    {l : Vec Ideal S8x128 .f32} {g : Vec Ideal S1x128 .f32}
    (hl : l = View.readAt (Elt Ideal) arg3.view (Rect.unit (s := S8x128) ![0, 0] S8x128.size inb_S8x128_S8x128_0_0).toLoadRect X3)
    (hg : g = View.readAt (Elt Ideal) arg4.view (Rect.unit (s := S1x128) ![0, 0] S1x128.size inb_S1x128_S1x128_0_0).toLoadRect X4) :
    Wrote i arg3 arg4 X3 X4 T v [⟨Rect.unit (s := S1x1024x128) ![0, 0, 0] S1x1024x128.size inb_S1x1024x128_S1x1024x128_0_0_0,
      k0_pay1 (k0_pay218 l) (k0_pay219 l x0 x1 y0 y1) (k0_pay220 l x0 x1 y0 y1) g⟩] := by
  refine ⟨_, _, h, ?_⟩
  subst hx0 hx1 hy0 hy1 hl hg
  have e0 := lanes0_read arg11.view (arg11.view.writes (Elt Ideal) arg11.view.junk L) 0 inb_S2048x256_S1024x256_0_0 o0 _ rfl
  have e1 := lanes1_read arg11.view (arg11.view.writes (Elt Ideal) arg11.view.junk L) 0 inb_S2048x256_S1024x256_0_0 o1 _ rfl
  have e2 := lanes0_read arg11.view (arg11.view.writes (Elt Ideal) arg11.view.junk L) 1024 inb_S2048x256_S1024x256_1024_0 p0 _ rfl
  have e3 := lanes1_read arg11.view (arg11.view.writes (Elt Ideal) arg11.view.junk L) 1024 inb_S2048x256_S1024x256_1024_0 p1 _ rfl
  unfold outBlk View.readCov
  rw [e0, e1, e2, e3]

end

end Cert.Trip

end
-- ==== Proof.Walks.lean ====
/- The four walks over the keys, one for each number of chunks that the loop leaves over: what each writes. -/
module

public import proofs.«01_k».proof.Proof.Exit
public import proofs.«01_k».proof.Proof.RunB
public import proofs.«01_k».proof.Proof.RunC
public import proofs.«01_k».proof.Proof.RunD

@[expose] public section

set_option maxRecDepth 16384
set_option maxHeartbeats 4000000

noncomputable section

namespace Cert.Trip

open Cert.KernelIdeal Cert.KernelIdeal.Gen Cert.Online Cert.Step
open Idealize.ShloMosaic

variable (c : Dev nD) (i : grid0.Coords)
  (arg3 : Memref sig .tc .vmem S8x128 .f32) (harg3 : arg3.IsWhole) (arg4 : Memref sig .tc .vmem S1x128 .f32) (harg4 : arg4.IsWhole)
  (arg5 : Memref sig .tc .vmem S1x1024x128 .bf16) (harg5 : arg5.IsWhole) (arg6 : Memref sig .tc .vmem S1x16384x128 .bf16) (harg6 : arg6.IsWhole)
  (arg7 : Memref sig .tc .vmem S1x16384x128 .bf16) (harg7 : arg7.IsWhole) (arg8 : Memref sig .tc .vmem S1x1024x128 .bf16) (harg8 : arg8.IsWhole)
  (arg9 : Memref sig .tc .vmem S2048x128 .bf16) (harg9 : arg9.IsWhole) (arg10 : Memref sig .tc .vmem S2048x128 .f32) (harg10 : arg10.IsWhole)
  (arg11 : Memref sig .tc .vmem S2048x256 .f32) (harg11 : arg11.IsWhole) (arg12 : Memref sig .tc .vmem S2048x1024 .f32) (harg12 : arg12.IsWhole)
  (arg13 : Memref sig .tc .vmem S2048x1024 .f32) (harg13 : arg13.IsWhole)
  (X3 : BufTy.Contents (Elt Ideal) arg3.view.ty) (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty) (f9 : BufTy.Contents (Elt Ideal) arg9.view.ty)
  (f10 : BufTy.Contents (Elt Ideal) arg10.view.ty) (f11 : BufTy.Contents (Elt Ideal) arg11.view.ty) (f12 : BufTy.Contents (Elt Ideal) arg12.view.ty)
  (f13 : BufTy.Contents (Elt Ideal) arg13.view.ty) {T : Fin 2 → Fin 1024 → ℕ → ℝ} {v : ℕ → Fin 256 → ℝ} {q0 q1 : Vec Ideal S1024x128 .bf16}

/-- No chunk is left over before the row block's own. -/
theorem outA (G : Given arg5 arg6 arg7 X5 X6 X7 T v q0 q1) (hc0 : cond0_0 i) (hc1 : ¬cond0_1 i) (hc2 : ¬cond0_2 i) (hc3 : ¬cond0_3 i) (hw : (i 2).val % 4 = 0) :
    Wrote i arg3 arg4 X3 X4 T v ((Body.runA (F := Ideal) c i arg3 harg3 arg4 harg4 arg5 harg5 arg6 harg6 arg7 harg7 arg8 harg8 arg9 harg9 arg10 harg10 arg11 harg11 arg12 harg12 arg13 harg13 hc0 hc1 hc2 hc3 X3 X4 X5 X6 X7).1 f9 f10 f11 f12 f13) := by
  obtain ⟨N, hN, hO, n0, n1, n2, n3, hle⟩ := place i 0 hw
  obtain ⟨y0, hy0, hv0⟩ := G.hV.get (off := k0_off5 i) (offs (plus (base_eq i) 0) n0 (by omega)) (by omega)
  obtain ⟨m0, m1, a0, a1, b0, b1, hm0, hm1, ha0, ha1, hb0, hb1, i0, i1, s0, s1⟩ := (G.exit c arg3 harg3 arg4 harg4 harg5 harg6 harg7 arg8 harg8 arg9 harg9 arg10 harg10 arg11 harg11 arg12 harg12 arg13 harg13 f13 hN
    (Body.runA.sl.v41 i) (Body.runA.sl.v56 i) (Body.runA.sl.v67 i) (Body.runA.sl.v68 i) (Body.runA.sl.HS0_2 (F := Ideal) arg5 X5) (Body.runA.sl.HS1_1 (F := Ideal)) (Body.runA.sl.HS2_1 (F := Ideal)) (Body.runA.sl.HS3_2 (F := Ideal) arg5 arg6 arg9 X5 X6) rfl rfl rfl rfl).elim
  have W : Scalar.muli (Scalar.addi (Body.runA.sl.v95 i) 0#32) 1024#32 = BitVec.ofNat 32 N := word (plus (base_eq i) 0) n0
  refine wrote (i := i) arg3 arg4 arg11 X3 X4 (L := Body.runA.sl.HS2_2 (F := Ideal) c i arg3 harg3 arg4 harg4 arg5 harg5 arg6 harg6 arg7 harg7 arg8 harg8 arg9 harg9 arg10 harg10 arg11 harg11 arg12 harg12 arg13 harg13 hc0 X5 X6 X7 f13) ⟨?_, ?_⟩ rfl rfl rfl rfl rfl rfl
  all_goals
    simp -proj (disch := decide) only [Body.runA.sl.HS1_1_1, Body.runA.sl.HS2_1_1, Body.runA.sl.HS2_2, Body.runA.sl.r, Body.runA.sl.r_1, Body.runA.sl.v168, Body.runA.sl.v179, Body.runA.sl.v194, Body.runA.sl.v201, Body.runA.sl.v212, Body.runA.sl.v227,
      ↓ View.readCov_skip, ↓ View.readCov_cons_toLoadRect, pb2_x, pb2_y, pb2_z, pb2_w, List.nil_append, readCov_append, readAt_hit, readAt_skip,
      p96, p99, p202, p206, hm0, hm1, ha0, ha1, hb0, hb1, hy0]
    rw [← hO]
  · exact ⟨_, consume (InvH.low hO i0) (low_ne_top i (T 0)) (masked_low hO W s0) hv0⟩
  · exact ⟨_, consume (InvH.low hO i1) (low_ne_top i (T 1)) (masked_low hO W s1) hv0⟩

/-- A chunk that is not masked folded in: its scores are real numbers. -/
theorem more {S : Fin 1024 → ℕ → ℝ} {n : ℕ} {m : Vec Ideal S1024x128 .f32} {a : Vec Ideal S1024x256 .f32} {x : Vec Ideal S1x1024x128 .bf16} {sb : Vec Ideal S1024x1024 .f32}
    (h : InvH n (fun r k => (S r k : EReal)) v m a) (hs : ∀ r k : Fin 1024, sb (ix2 r k) = (S r (n + k.val) : EReal)) (hx : Vals n v x) :
    InvH (n + 1024) (fun r k => (S r k : EReal)) v (mNext m sb) (aNext m (mNext m sb) sb (vOnes x) a) :=
  consume h (fun _ _ => EReal.coe_ne_top _) hs hx

/-- One chunk is left over before the row block's own. -/
theorem outB (G : Given arg5 arg6 arg7 X5 X6 X7 T v q0 q1) (hc0 : ¬cond0_0 i) (hc1 : cond0_1 i) (hc2 : ¬cond0_2 i) (hc3 : ¬cond0_3 i) (hw : (i 2).val % 4 = 1) :
    Wrote i arg3 arg4 X3 X4 T v ((Body.runB (F := Ideal) c i arg3 harg3 arg4 harg4 arg5 harg5 arg6 harg6 arg7 harg7 arg8 harg8 arg9 harg9 arg10 harg10 arg11 harg11 arg12 harg12 arg13 harg13 hc0 hc1 hc2 hc3 X3 X4 X5 X6 X7).1 f9 f10 f11 f12 f13) := by
  obtain ⟨N, hN, hO, n0, n1, n2, n3, hle⟩ := place i 1 hw
  obtain ⟨y0, hy0, hv0⟩ := G.hV.get (off := k0_off7 i 0#32) (offs (plus (base_eq i) 0) n0 (by omega)) (by omega)
  obtain ⟨y1, hy1, hv1⟩ := G.hV.get (off := k0_off7 i 1#32) (offs (plus (base_eq i) 1) n1 (by omega)) (by omega)
  obtain ⟨x0, hx0, hk0⟩ := G.hK.get (off := k0_off6 i) (offs (plus (plus (base_eq i) 0) 1) n1 (by omega)) (by omega)
  have hz0 : Body.runB.sl.v167 (F := Ideal) arg5 arg9 X5 = q0 := G.get0 arg9
  have hz1 : Body.runB.sl.v172 (F := Ideal) arg5 arg9 X5 = q1 := G.get1 arg9
  obtain ⟨m0, m1, a0, a1, b0, b1, hm0, hm1, ha0, ha1, hb0, hb1, i0, i1, s0, s1⟩ := (G.exit c arg3 harg3 arg4 harg4 harg5 harg6 harg7 arg8 harg8 arg9 harg9 arg10 harg10 arg11 harg11 arg12 harg12 arg13 harg13 f13 hN
    (Body.runB.sl.v41 i) (Body.runB.sl.v56 i) (Body.runB.sl.v67 i) (Body.runB.sl.v68 i) (Body.runB.sl.HS0_2 (F := Ideal) arg5 X5) (Body.runB.sl.HS1_1 (F := Ideal)) (Body.runB.sl.HS2_1 (F := Ideal)) (Body.runB.sl.HS3_2 (F := Ideal) arg5 arg6 arg9 X5 X6) rfl rfl rfl rfl).elim
  have W : Scalar.muli (Scalar.addi (Body.runB.sl.v95 i) 1#32) 1024#32 = BitVec.ofNat 32 (N + 1024) := word (plus (base_eq i) 1) n1
  refine wrote (i := i) arg3 arg4 arg11 X3 X4 (L := Body.runB.sl.HS2_4 (F := Ideal) c i arg3 harg3 arg4 harg4 arg5 harg5 arg6 harg6 arg7 harg7 arg8 harg8 arg9 harg9 arg10 harg10 arg11 harg11 arg12 harg12 arg13 harg13 hc1 X5 X6 X7 f13) ⟨?_, ?_⟩ rfl rfl rfl rfl rfl rfl
  all_goals
    simp -proj (disch := decide) only [Body.runB.sl.HS1_1_1, Body.runB.sl.HS1_2, Body.runB.sl.HS1_3, Body.runB.sl.HS2_1_1, Body.runB.sl.HS2_2, Body.runB.sl.HS2_3, Body.runB.sl.HS2_4, Body.runB.sl.HS4_2, Body.runB.sl.r, Body.runB.sl.r_1, Body.runB.sl.r_2, Body.runB.sl.r_3, Body.runB.sl.r_4, Body.runB.sl.r_5, Body.runB.sl.v185, Body.runB.sl.v186, Body.runB.sl.v201, Body.runB.sl.v208, Body.runB.sl.v209, Body.runB.sl.v224, Body.runB.sl.v239, Body.runB.sl.v250, Body.runB.sl.v265, Body.runB.sl.v272, Body.runB.sl.v283, Body.runB.sl.v298,
      ↓ View.readCov_skip, ↓ View.readCov_cons_toLoadRect, pb2_x, pb2_y, pb2_z, pb2_w, List.nil_append, readCov_append, readAt_hit, readAt_skip,
      p102, p103, p104, p107, p108, p110, p111, p112, p115, p207, p211, hm0, hm1, ha0, ha1, hb0, hb1, hy0, hy1, hx0, hz0, hz1]
    rw [← hO]
  · exact ⟨_, consume (InvH.low hO (more i0 s0 hv0)) (low_ne_top i (T 0)) (masked_low hO W hk0.1) hv1⟩
  · exact ⟨_, consume (InvH.low hO (more i1 s1 hv0)) (low_ne_top i (T 1)) (masked_low hO W hk0.2) hv1⟩

/-- Two chunks are left over before the row block's own. -/
theorem outC (G : Given arg5 arg6 arg7 X5 X6 X7 T v q0 q1) (hc0 : ¬cond0_0 i) (hc1 : ¬cond0_1 i) (hc2 : cond0_2 i) (hc3 : ¬cond0_3 i) (hw : (i 2).val % 4 = 2) :
    Wrote i arg3 arg4 X3 X4 T v ((Body.runC (F := Ideal) c i arg3 harg3 arg4 harg4 arg5 harg5 arg6 harg6 arg7 harg7 arg8 harg8 arg9 harg9 arg10 harg10 arg11 harg11 arg12 harg12 arg13 harg13 hc0 hc1 hc2 hc3 X3 X4 X5 X6 X7).1 f9 f10 f11 f12 f13) := by
  obtain ⟨N, hN, hO, n0, n1, n2, n3, hle⟩ := place i 2 hw
  obtain ⟨y0, hy0, hv0⟩ := G.hV.get (off := k0_off9 i 0#32) (offs (plus (base_eq i) 0) n0 (by omega)) (by omega)
  obtain ⟨y1, hy1, hv1⟩ := G.hV.get (off := k0_off9 i 1#32) (offs (plus (base_eq i) 1) n1 (by omega)) (by omega)
  obtain ⟨y2, hy2, hv2⟩ := G.hV.get (off := k0_off9 i 2#32) (offs (plus (base_eq i) 2) n2 (by omega)) (by omega)
  obtain ⟨x0, hx0, hk0⟩ := G.hK.get (off := k0_off8 i 0#32) (offs (plus (plus (base_eq i) 0) 1) n1 (by omega)) (by omega)
  obtain ⟨x1, hx1, hk1⟩ := G.hK.get (off := k0_off8 i 1#32) (offs (plus (plus (base_eq i) 1) 1) n2 (by omega)) (by omega)
  have hz0 : Body.runC.sl.v167 (F := Ideal) arg5 arg9 X5 = q0 := G.get0 arg9
  have hz1 : Body.runC.sl.v172 (F := Ideal) arg5 arg9 X5 = q1 := G.get1 arg9
  obtain ⟨m0, m1, a0, a1, b0, b1, hm0, hm1, ha0, ha1, hb0, hb1, i0, i1, s0, s1⟩ := (G.exit c arg3 harg3 arg4 harg4 harg5 harg6 harg7 arg8 harg8 arg9 harg9 arg10 harg10 arg11 harg11 arg12 harg12 arg13 harg13 f13 hN
    (Body.runC.sl.v41 i) (Body.runC.sl.v56 i) (Body.runC.sl.v67 i) (Body.runC.sl.v68 i) (Body.runC.sl.HS0_2 (F := Ideal) arg5 X5) (Body.runC.sl.HS1_1 (F := Ideal)) (Body.runC.sl.HS2_1 (F := Ideal)) (Body.runC.sl.HS3_2 (F := Ideal) arg5 arg6 arg9 X5 X6) rfl rfl rfl rfl).elim
  have W : Scalar.muli (Scalar.addi (Body.runC.sl.v95 i) 2#32) 1024#32 = BitVec.ofNat 32 (N + 1024 + 1024) := word (plus (base_eq i) 2) n2
  refine wrote (i := i) arg3 arg4 arg11 X3 X4 (L := Body.runC.sl.HS2_6 (F := Ideal) c i arg3 harg3 arg4 harg4 arg5 harg5 arg6 harg6 arg7 harg7 arg8 harg8 arg9 harg9 arg10 harg10 arg11 harg11 arg12 harg12 arg13 harg13 hc2 X5 X6 X7 f13) ⟨?_, ?_⟩ rfl rfl rfl rfl rfl rfl
  all_goals
    simp -proj (disch := decide) only [Body.runC.sl.HS1_1_1, Body.runC.sl.HS1_2, Body.runC.sl.HS1_3, Body.runC.sl.HS1_4, Body.runC.sl.HS1_5, Body.runC.sl.HS2_1_1, Body.runC.sl.HS2_2, Body.runC.sl.HS2_3, Body.runC.sl.HS2_4, Body.runC.sl.HS2_5, Body.runC.sl.HS2_6, Body.runC.sl.HS3_2_1, Body.runC.sl.HS4_2, Body.runC.sl.r, Body.runC.sl.r_1, Body.runC.sl.r_2, Body.runC.sl.r_3, Body.runC.sl.r_4, Body.runC.sl.r_5, Body.runC.sl.r_6, Body.runC.sl.r_7, Body.runC.sl.r_8, Body.runC.sl.r_9, Body.runC.sl.v185, Body.runC.sl.v186, Body.runC.sl.v201, Body.runC.sl.v208, Body.runC.sl.v209, Body.runC.sl.v224, Body.runC.sl.v256, Body.runC.sl.v257, Body.runC.sl.v272, Body.runC.sl.v279, Body.runC.sl.v280, Body.runC.sl.v295, Body.runC.sl.v310, Body.runC.sl.v321, Body.runC.sl.v336, Body.runC.sl.v343, Body.runC.sl.v354, Body.runC.sl.v369,
      ↓ View.readCov_skip, ↓ View.readCov_cons_toLoadRect, pb2_x, pb2_y, pb2_z, pb2_w, List.nil_append, readCov_append, readAt_hit, readAt_skip,
      p118, p119, p120, p123, p124, p126, p127, p129, p130, p131, p134, p135, p137, p139, p140, p143, p212, p216,
      hm0, hm1, ha0, ha1, hb0, hb1, hy0, hy1, hy2, hx0, hx1, hz0, hz1]
    rw [← hO]
  · exact ⟨_, consume (InvH.low hO (more (more i0 s0 hv0) hk0.1 hv1)) (low_ne_top i (T 0)) (masked_low hO W hk1.1) hv2⟩
  · exact ⟨_, consume (InvH.low hO (more (more i1 s1 hv0) hk0.2 hv1)) (low_ne_top i (T 1)) (masked_low hO W hk1.2) hv2⟩

/-- Three chunks are left over before the row block's own. -/
theorem outD (G : Given arg5 arg6 arg7 X5 X6 X7 T v q0 q1) (hc0 : ¬cond0_0 i) (hc1 : ¬cond0_1 i) (hc2 : ¬cond0_2 i) (hc3 : cond0_3 i) (hw : (i 2).val % 4 = 3) :
    Wrote i arg3 arg4 X3 X4 T v ((Body.runD (F := Ideal) c i arg3 harg3 arg4 harg4 arg5 harg5 arg6 harg6 arg7 harg7 arg8 harg8 arg9 harg9 arg10 harg10 arg11 harg11 arg12 harg12 arg13 harg13 hc0 hc1 hc2 hc3 X3 X4 X5 X6 X7).1 f9 f10 f11 f12 f13) := by
  obtain ⟨N, hN, hO, n0, n1, n2, n3, hle⟩ := place i 3 hw
  obtain ⟨y0, hy0, hv0⟩ := G.hV.get (off := k0_off11 i 0#32) (offs (plus (base_eq i) 0) n0 (by omega)) (by omega)
  obtain ⟨y1, hy1, hv1⟩ := G.hV.get (off := k0_off11 i 1#32) (offs (plus (base_eq i) 1) n1 (by omega)) (by omega)
  obtain ⟨y2, hy2, hv2⟩ := G.hV.get (off := k0_off11 i 2#32) (offs (plus (base_eq i) 2) n2 (by omega)) (by omega)
  obtain ⟨y3, hy3, hv3⟩ := G.hV.get (off := k0_off11 i 3#32) (offs (plus (base_eq i) 3) n3 (by omega)) (by omega)
  obtain ⟨x0, hx0, hk0⟩ := G.hK.get (off := k0_off10 i 0#32) (offs (plus (plus (base_eq i) 0) 1) n1 (by omega)) (by omega)
  obtain ⟨x1, hx1, hk1⟩ := G.hK.get (off := k0_off10 i 1#32) (offs (plus (plus (base_eq i) 1) 1) n2 (by omega)) (by omega)
  obtain ⟨x2, hx2, hk2⟩ := G.hK.get (off := k0_off10 i 2#32) (offs (plus (plus (base_eq i) 2) 1) n3 (by omega)) (by omega)
  have hz0 : Body.runD.sl.v167 (F := Ideal) arg5 arg9 X5 = q0 := G.get0 arg9
  have hz1 : Body.runD.sl.v172 (F := Ideal) arg5 arg9 X5 = q1 := G.get1 arg9
  obtain ⟨m0, m1, a0, a1, b0, b1, hm0, hm1, ha0, ha1, hb0, hb1, i0, i1, s0, s1⟩ := (G.exit c arg3 harg3 arg4 harg4 harg5 harg6 harg7 arg8 harg8 arg9 harg9 arg10 harg10 arg11 harg11 arg12 harg12 arg13 harg13 f13 hN
    (Body.runD.sl.v41 i) (Body.runD.sl.v56 i) (Body.runD.sl.v67 i) (Body.runD.sl.v68 i) (Body.runD.sl.HS0_2 (F := Ideal) arg5 X5) (Body.runD.sl.HS1_1 (F := Ideal)) (Body.runD.sl.HS2_1 (F := Ideal)) (Body.runD.sl.HS3_2 (F := Ideal) arg5 arg6 arg9 X5 X6) rfl rfl rfl rfl).elim
  have W : Scalar.muli (Scalar.addi (Body.runD.sl.v95 i) 3#32) 1024#32 = BitVec.ofNat 32 (N + 1024 + 1024 + 1024) := word (plus (base_eq i) 3) n3
  refine wrote (i := i) arg3 arg4 arg11 X3 X4 (L := Body.runD.sl.HS2_8 (F := Ideal) c i arg3 harg3 arg4 harg4 arg5 harg5 arg6 harg6 arg7 harg7 arg8 harg8 arg9 harg9 arg10 harg10 arg11 harg11 arg12 harg12 arg13 harg13 hc3 X5 X6 X7 f13) ⟨?_, ?_⟩ rfl rfl rfl rfl rfl rfl
  all_goals
    simp -proj (disch := decide) only [Body.runD.sl.HS1_1_1, Body.runD.sl.HS1_2, Body.runD.sl.HS1_3, Body.runD.sl.HS1_4, Body.runD.sl.HS1_5, Body.runD.sl.HS1_6, Body.runD.sl.HS1_7, Body.runD.sl.HS2_1_1, Body.runD.sl.HS2_2, Body.runD.sl.HS2_3, Body.runD.sl.HS2_4, Body.runD.sl.HS2_5, Body.runD.sl.HS2_6, Body.runD.sl.HS2_7, Body.runD.sl.HS2_8, Body.runD.sl.HS3_2_1, Body.runD.sl.HS4_2, Body.runD.sl.HS4_4, Body.runD.sl.r, Body.runD.sl.r_1, Body.runD.sl.r_10, Body.runD.sl.r_11, Body.runD.sl.r_12, Body.runD.sl.r_13, Body.runD.sl.r_2, Body.runD.sl.r_3, Body.runD.sl.r_4, Body.runD.sl.r_5, Body.runD.sl.r_6, Body.runD.sl.r_7, Body.runD.sl.r_8, Body.runD.sl.r_9, Body.runD.sl.v185, Body.runD.sl.v186, Body.runD.sl.v201, Body.runD.sl.v208, Body.runD.sl.v209, Body.runD.sl.v224, Body.runD.sl.v256, Body.runD.sl.v257, Body.runD.sl.v272, Body.runD.sl.v279, Body.runD.sl.v280, Body.runD.sl.v295, Body.runD.sl.v327, Body.runD.sl.v328, Body.runD.sl.v343, Body.runD.sl.v350, Body.runD.sl.v351, Body.runD.sl.v366, Body.runD.sl.v381, Body.runD.sl.v392, Body.runD.sl.v407, Body.runD.sl.v414, Body.runD.sl.v425, Body.runD.sl.v440,
      ↓ View.readCov_skip, ↓ View.readCov_cons_toLoadRect, pb2_x, pb2_y, pb2_z, pb2_w, List.nil_append, readCov_append, readAt_hit, readAt_skip,
      p146, p147, p148, p151, p152, p154, p155, p157, p158, p159, p162, p163, p165, p167, p169, p170, p171, p173, p174, p176, p178, p179, p182, p184, p188,
      hm0, hm1, ha0, ha1, hb0, hb1, hy0, hy1, hy2, hy3, hx0, hx1, hx2, hz0, hz1]
    rw [← hO]
  · exact ⟨_, consume (InvH.low hO (more (more (more i0 s0 hv0) hk0.1 hv1) hk1.1 hv2)) (low_ne_top i (T 0)) (masked_low hO W hk2.1) hv3⟩
  · exact ⟨_, consume (InvH.low hO (more (more (more i1 s1 hv0) hk0.2 hv1) hk1.2 hv2)) (low_ne_top i (T 1)) (masked_low hO W hk2.2) hv3⟩

end Cert.Trip

end
-- ==== Proof.PointOut.lean ====
/- What each grid point's run writes, whichever of the four walks over the keys it takes. -/
module

public import proofs.«01_k».proof.Proof.Launched
public import proofs.«01_k».proof.Proof.Walks

@[expose] public section

set_option maxRecDepth 16384
set_option maxHeartbeats 1000000

noncomputable section

namespace Cert.PointOut

open Cert.KernelIdeal Cert.KernelIdeal.Gen Cert.Body Cert.Trip
open Idealize.ShloMosaic Idealize.ShloMosaic.TcCoe Idealize.ShloMosaic.Pipeline

variable (m : (ℓ : Loc nD τ sig) → Buf (Elt Ideal) ℓ) (c : Dev nD)

/-- A point's place along the last axis has the point's remainder by four. -/
theorem mod_four (t : Fin cfg0.N) : (grid0.coords t 2).val % 4 = t.val % 4 := by
  revert t
  decide +kernel

/-- The block that point `t`'s run writes. -/
theorem runAt_out (t : Fin cfg0.N) (f9 : BufTy.Contents (Elt Ideal) (scM0_0).view.ty) (f10 : BufTy.Contents (Elt Ideal) (scM0_1).view.ty) (f11 : BufTy.Contents (Elt Ideal) (scM0_2).view.ty)
    (f12 : BufTy.Contents (Elt Ideal) (scM0_3).view.ty) (f13 : BufTy.Contents (Elt Ideal) (scM0_4).view.ty) {T : Fin 2 → Fin 1024 → ℕ → ℝ} {v : ℕ → Fin 256 → ℝ} {q0 q1 : Vec Ideal S1024x128 .bf16}
    (G : Given (ms0_2 t) (ms0_3 t) (ms0_4 t) ((hs0_2 t).unread (iblk m c 2 t)) ((hs0_3 t).unread (iblk m c 3 t)) ((hs0_4 t).unread (iblk m c 4 t)) T v q0 q1) :
    Wrote (grid0.coords t) (ms0_0 t) (ms0_1 t) ((hs0_0 t).unread (iblk m c 0 t)) ((hs0_1 t).unread (iblk m c 1 t)) T v ((runAt m c t).1 f9 f10 f11 f12 f13) := by
  have hm := mod_four t
  unfold runAt
  by_cases h0 : t.val % 4 = 0
  · rw [dif_pos h0]
    exact outA c (grid0.coords t) _ _ _ _ _ _ _ _ _ _ _ _ _ _ _ _ _ _ _ _ _ _ _ _ _ _ _ f9 f10 f11 f12 f13 G _ _ _ _ (hm.trans h0)
  rw [dif_neg h0]
  by_cases h1 : t.val % 4 = 1
  · rw [dif_pos h1]
    exact outB c (grid0.coords t) _ _ _ _ _ _ _ _ _ _ _ _ _ _ _ _ _ _ _ _ _ _ _ _ _ _ _ f9 f10 f11 f12 f13 G _ _ _ _ (hm.trans h1)
  rw [dif_neg h1]
  by_cases h2 : t.val % 4 = 2
  · rw [dif_pos h2]
    exact outC c (grid0.coords t) _ _ _ _ _ _ _ _ _ _ _ _ _ _ _ _ _ _ _ _ _ _ _ _ _ _ _ f9 f10 f11 f12 f13 G _ _ _ _ (hm.trans h2)
  rw [dif_neg h2]
  have h3 : t.val % 4 = 3 := by omega
  exact outD c (grid0.coords t) _ _ _ _ _ _ _ _ _ _ _ _ _ _ _ _ _ _ _ _ _ _ _ _ _ _ _ f9 f10 f11 f12 f13 G _ _ _ _ (hm.trans h3)

end Cert.PointOut

end
-- ==== Proof.Host.lean ====
/- The kernel's operands as its host code packs them, and the block it writes, read at an index. -/
module

public import proofs.«01_k».proof.Proof.Start
public import Idealize.ShloMosaic.Lib.StableHlo.Run
public import Idealize.ShloMosaic.Lib.Routing.OpsSet
public import proofs.«01_k».proof.Proof.Gen.KernelIdeal.Frame.Runs

@[expose] public section

set_option maxRecDepth 16384
set_option maxHeartbeats 2000000

noncomputable section

namespace Cert.Host

open Cert.KernelIdeal Cert.KernelIdeal.Gen
open Idealize.ShloMosaic Idealize.ShloMosaic.TcCoe

variable (m : (ℓ : Loc nD τ sig) → Buf (Elt Ideal) ℓ) (c : Dev nD)

/-- The scale of the queries. -/
def scale : FVec Ideal S_ .f32 := Host.divf (constant (F := Ideal) S_ .f32 0x3E000000#32) (Host.log (constant (F := Ideal) S_ .f32 0x40000000#32))

/-- The first packed array: scaled queries, keys, the rest. -/
def packA (q k : FVec Ideal S2x16384x512 .f32) (r : FVec Ideal S2x16384x1024 .f32) : FVec Ideal S2x16384x2048 .bf16 :=
  truncf .bf16 (concatenate S2x16384x2048 2 [⟨S2x16384x512, mulf q (broadcastInDim S2x16384x512 ![] bcast_S_S2x16384x512 scale)⟩, ⟨S2x16384x512, k⟩, ⟨S2x16384x1024, r⟩] concatenates_S2x16384x512_S2x16384x512_S2x16384x1024_S2x16384x2048_d2) bitsLt_bf16_f32

/-- The second packed array: gate, values, the rest. -/
def packB (g : FVec Ideal S2x16384x1024 .f32) (v : FVec Ideal S2x16384x512 .f32) (r : FVec Ideal S2x16384x1024 .f32) : FVec Ideal S2x16384x2560 .bf16 :=
  truncf .bf16 (concatenate S2x16384x2560 2 [⟨S2x16384x1024, g⟩, ⟨S2x16384x512, v⟩, ⟨S2x16384x1024, r⟩] concatenates_S2x16384x1024_S2x16384x512_S2x16384x1024_S2x16384x2560_d2) bitsLt_bf16_f32

/-- The first packed operand at the call. -/
theorem V_A : V m c main_v5 = packA (m ((c : Thread nD τ).loc main_arg0)) (m ((c : Thread nD τ).loc main_arg1)) (m ((c : Thread nD τ).loc main_arg3)) := by
  unfold V
  simp only [hostOps0]
  after_results_simp <;> rfl

/-- The second packed operand at the call. -/
theorem V_B : V m c main_v7 = packB (m ((c : Thread nD τ).loc main_arg4)) (m ((c : Thread nD τ).loc main_arg2)) (m ((c : Thread nD τ).loc main_arg5)) := by
  unfold V
  simp only [hostOps0]
  after_results_simp <;> rfl

/-- The gains' row at the call. -/
theorem V_g : V m c main_v28 = shapeCast S1x128 (m ((c : Thread nD τ).loc main_arg11)) shapeCasts_S128_S1x128 := by
  unfold V
  simp only [hostOps0]
  after_results_simp <;> rfl

/-- The packed queries' column `l` is the scaled query's. -/
theorem packA_q (q k : FVec Ideal S2x16384x512 .f32) (r : FVec Ideal S2x16384x1024 .f32) (b : Fin 2) (s : Fin 16384) (l : Fin 2048) (o : Fin 512) (h : l.val = o.val) :
    packA q k r (ix3 b s l) = q (ix3 b s o) * scale ix0 := by
  have hl : l.val < 512 := lt_of_eq_of_lt h o.isLt
  obtain rfl : o = ⟨l.val, hl⟩ := Fin.ext h.symm
  pointwise [packA]
  rw [dif_pos hl]

/-- The packed keys' column `512 + o` is the key's `o`. -/
theorem packA_k (q k : FVec Ideal S2x16384x512 .f32) (r : FVec Ideal S2x16384x1024 .f32) (b : Fin 2) (s : Fin 16384) (l : Fin 2048) (o : Fin 512) (h : l.val = 512 + o.val) :
    packA q k r (ix3 b s l) = k (ix3 b s o) := by
  have ho := o.isLt
  have h1 : ¬ l.val < 512 := by omega
  have h2 : l.val - 512 < 512 := by omega
  obtain rfl : o = ⟨l.val - 512, h2⟩ := Fin.ext (by show o.val = l.val - 512; omega)
  pointwise [packA]
  rw [dif_neg h1, dif_pos h2]

/-- The packed values' column `1024 + o` is the value's `o`. -/
theorem packB_v (g : FVec Ideal S2x16384x1024 .f32) (v : FVec Ideal S2x16384x512 .f32) (r : FVec Ideal S2x16384x1024 .f32) (b : Fin 2) (s : Fin 16384) (l : Fin 2560) (o : Fin 512) (h : l.val = 1024 + o.val) :
    packB g v r (ix3 b s l) = v (ix3 b s o) := by
  have ho := o.isLt
  have h1 : ¬ l.val < 1024 := by omega
  have h2 : l.val - 1024 < 512 := by omega
  obtain rfl : o = ⟨l.val - 1024, h2⟩ := Fin.ext (by show o.val = l.val - 1024; omega)
  pointwise [packB]
  rw [dif_neg h1, dif_pos h2]

/-- The query's scale is an eighth over the natural logarithm of two. -/
theorem scale_at : scale ix0 = ((1 / 8 / Real.log 2 : ℝ) : EReal) := by
  have h8 : Ideal.ofBits .f32 0x3E000000#32 = ((1 / 8 : ℝ) : EReal) := by
    simp [Ideal.ofBits, Ideal.ieee]
    rw [← EReal.coe_mul]
    norm_num
  have h2 : Ideal.ofBits .f32 0x40000000#32 = ((2 : ℝ) : EReal) := by
    simp [Ideal.ofBits, Ideal.ieee]
    try rw [← EReal.coe_mul]
    try norm_num
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  have hne : Real.log 2 ≠ 0 := (Real.log_pos one_lt_two).ne'
  pointwise [scale]
  rw [h8, h2, hl, Ideal.div_coe hne, ← EReal.coe_mul]
  congr 1
  ring

/-- Row `n` of the packed scalars set to a vector of 64. -/
def setRow (n : BitVec 32) (x : FVec Ideal S8x128 .f32) (u : FVec Ideal S64 .f32) : FVec Ideal S8x128 .f32 :=
  Host.scatter scatter_S8x128_S2_S64_0_0_01_0 (fun _ b => b) x (concatenate S2 0 [⟨S1, broadcastInDim S1 ![] bcast_S_S1 (constantI S_ 32 n)⟩, ⟨S1, broadcastInDim S1 ![] bcast_S_S1 (constantI S_ 32 0#32)⟩] concatenates_S1_S1_S2_d0) u

/-- The packed scalars: four rows of 64 and one row of one number. -/
def lamRows (a b e d : FVec Ideal S64 .f32) (l : FVec Ideal S1 .f32) : FVec Ideal S8x128 .f32 :=
  Host.scatter scatter_S8x128_S1_S128_0_0_0_0 (fun _ b => b)
    (setRow 3#32 (setRow 2#32 (setRow 1#32 (setRow 0#32 (broadcastInDim S8x128 ![] bcast_S_S8x128 (constant (F := Ideal) S_ .f32 0x00000000#32)) a) b) e) d)
    (broadcastInDim S1 ![] bcast_S_S1 (constantI S_ 32 4#32)) (broadcastInDim S128 ![0] bcast_S1_S128_0 l)

/-- The block of small rows at the call. -/
theorem V_lam : V m c main_v27 = lamRows (m ((c : Thread nD τ).loc main_arg6)) (m ((c : Thread nD τ).loc main_arg7)) (m ((c : Thread nD τ).loc main_arg8)) (m ((c : Thread nD τ).loc main_arg9)) (m ((c : Thread nD τ).loc main_arg10)) := by
  unfold V
  simp only [hostOps0]
  after_results_simp <;> rfl

/-- Entry `k` of a row written at row `n` lands at row `n`, lane `k`. -/
theorem lands (n : Fin 4) (k : Fin 64) : (scatter_S8x128_S2_S64_0_0_01_0).resultIdx? (ix1 k : S64.Idx)
    (concatenate S2 0 [⟨S1, broadcastInDim S1 ![] bcast_S_S1 (constantI S_ 32 (BitVec.ofNat 32 n.val))⟩, ⟨S1, broadcastInDim S1 ![] bcast_S_S1 (constantI S_ 32 0#32)⟩] concatenates_S1_S1_S2_d0)
    = some (ix2 (⟨n.val, by omega⟩ : Fin 8) (⟨k.val, by omega⟩ : Fin 128)) := by
  revert n k
  decide +kernel

/-- Lane `k` of the last row written lands at row four, lane `k`. -/
theorem lands_last (k : Fin 128) : (scatter_S8x128_S1_S128_0_0_0_0).resultIdx? (ix1 k : S128.Idx)
    (broadcastInDim S1 ![] bcast_S_S1 (constantI S_ 32 4#32)) = some (ix2 (4 : Fin 8) k) := by
  revert k
  decide +kernel

/-- A row that is set, read at an index. -/
theorem setRow_at (n : Fin 4) (x : FVec Ideal S8x128 .f32) (u : FVec Ideal S64 .f32) (r : Fin 8) (l : Fin 128) :
    setRow (BitVec.ofNat 32 n.val) x u (ix2 r l) = if h : r.val = n.val ∧ l.val < 64 then u (ix1 ⟨l.val, h.2⟩) else x (ix2 r l) := by
  by_cases h : r.val = n.val ∧ l.val < 64
  · rw [dif_pos h]
    refine Routing.scatter_set_hit _ _ _ _ _ _ (fun k hk => ?_) (ix1 ⟨l.val, h.2⟩) ?_
    · obtain ⟨k, rfl⟩ : ∃ k' : Fin 64, k = ix1 k' := ⟨k 0, eq_ix1 k⟩
      rw [lands] at hk
      have hh := congrFun (Option.some.inj hk) 1
      exact congrArg (fun e => u (ix1 e)) (Fin.ext (show k.val = l.val from congrArg Fin.val hh))
    · rw [lands]
      exact congrArg some (congrArg₂ ix2 (Fin.ext h.1.symm) rfl)
  · rw [dif_neg h]
    refine Routing.scatter_set_miss _ _ _ _ _ fun k hk => h ?_
    obtain ⟨k, rfl⟩ : ∃ k' : Fin 64, k = ix1 k' := ⟨k 0, eq_ix1 k⟩
    rw [lands] at hk
    have h0 := congrArg Fin.val (congrFun (Option.some.inj hk) 0)
    have h1 := congrArg Fin.val (congrFun (Option.some.inj hk) 1)
    exact ⟨h0.symm, lt_of_eq_of_lt h1.symm k.isLt⟩

/-- The last row set, read at an index. -/
theorem setLast_at (x : FVec Ideal S8x128 .f32) (u : FVec Ideal S128 .f32) (r : Fin 8) (l : Fin 128) :
    Host.scatter scatter_S8x128_S1_S128_0_0_0_0 (fun _ b => b) x (broadcastInDim S1 ![] bcast_S_S1 (constantI S_ 32 4#32)) u (ix2 r l) = if r = 4 then u (ix1 l) else x (ix2 r l) := by
  by_cases h : r = 4
  · rw [if_pos h]
    refine Routing.scatter_set_hit _ _ _ _ _ _ (fun k hk => ?_) (ix1 l) ?_
    · obtain ⟨k, rfl⟩ : ∃ k' : Fin 128, k = ix1 k' := ⟨k 0, eq_ix1 k⟩
      rw [lands_last] at hk
      have hh := congrFun (Option.some.inj hk) 1
      exact congrArg (fun e => u (ix1 e)) hh
    · rw [lands_last, h]
  · rw [if_neg h]
    refine Routing.scatter_set_miss _ _ _ _ _ fun k hk => h ?_
    obtain ⟨k, rfl⟩ : ∃ k' : Fin 128, k = ix1 k' := ⟨k 0, eq_ix1 k⟩
    rw [lands_last] at hk
    exact (congrFun (Option.some.inj hk) 0).symm

/-- The packed scalars at an index: a row of 64 padded by zeros, or the one number. -/
theorem lamRows_at (a b e d : FVec Ideal S64 .f32) (l : FVec Ideal S1 .f32) (x : Fin 128) :
    lamRows a b e d l (ix2 0 x) = (if h : x.val < 64 then a (ix1 ⟨x.val, h⟩) else 0)
    ∧ lamRows a b e d l (ix2 1 x) = (if h : x.val < 64 then b (ix1 ⟨x.val, h⟩) else 0)
    ∧ lamRows a b e d l (ix2 2 x) = (if h : x.val < 64 then e (ix1 ⟨x.val, h⟩) else 0)
    ∧ lamRows a b e d l (ix2 3 x) = (if h : x.val < 64 then d (ix1 ⟨x.val, h⟩) else 0)
    ∧ lamRows a b e d l (ix2 4 x) = l (ix1 0) := by
  have s0 : ∀ (x : FVec Ideal S8x128 .f32) (u : FVec Ideal S64 .f32) (r : Fin 8) (l : Fin 128), setRow 0#32 x u (ix2 r l) = if h : r.val = 0 ∧ l.val < 64 then u (ix1 ⟨l.val, h.2⟩) else x (ix2 r l) := setRow_at 0
  have s1 : ∀ (x : FVec Ideal S8x128 .f32) (u : FVec Ideal S64 .f32) (r : Fin 8) (l : Fin 128), setRow 1#32 x u (ix2 r l) = if h : r.val = 1 ∧ l.val < 64 then u (ix1 ⟨l.val, h.2⟩) else x (ix2 r l) := setRow_at 1
  have s2 : ∀ (x : FVec Ideal S8x128 .f32) (u : FVec Ideal S64 .f32) (r : Fin 8) (l : Fin 128), setRow 2#32 x u (ix2 r l) = if h : r.val = 2 ∧ l.val < 64 then u (ix1 ⟨l.val, h.2⟩) else x (ix2 r l) := setRow_at 2
  have s3 : ∀ (x : FVec Ideal S8x128 .f32) (u : FVec Ideal S64 .f32) (r : Fin 8) (l : Fin 128), setRow 3#32 x u (ix2 r l) = if h : r.val = 3 ∧ l.val < 64 then u (ix1 ⟨l.val, h.2⟩) else x (ix2 r l) := setRow_at 3
  have z : ∀ (r : Fin 8) (x : Fin 128), broadcastInDim S8x128 ![] bcast_S_S8x128 (constant (F := Ideal) S_ .f32 0x00000000#32) (ix2 r x) = 0 := by
    intro r x
    pointwise []
  have w : broadcastInDim S128 ![0] bcast_S1_S128_0 l (ix1 x) = l (ix1 0) := by
    pointwise []
  unfold lamRows
  refine ⟨?_, ?_, ?_, ?_, ?_⟩
  · rw [setLast_at, if_neg (by decide), s3, dif_neg (fun h => absurd h.1 (by decide)), s2, dif_neg (fun h => absurd h.1 (by decide)), s1, dif_neg (fun h => absurd h.1 (by decide)), s0, z]
    by_cases h : x.val < 64
    · rw [dif_pos h, dif_pos ⟨rfl, h⟩]
    · rw [dif_neg h, dif_neg fun q => h q.2]
  · rw [setLast_at, if_neg (by decide), s3, dif_neg (fun h => absurd h.1 (by decide)), s2, dif_neg (fun h => absurd h.1 (by decide)), s1, s0, z]
    by_cases h : x.val < 64
    · rw [dif_pos h, dif_pos ⟨rfl, h⟩]
    · rw [dif_neg h, dif_neg fun q => h q.2, dif_neg fun q => h q.2]
  · rw [setLast_at, if_neg (by decide), s3, dif_neg (fun h => absurd h.1 (by decide)), s2, s1, s0, z]
    by_cases h : x.val < 64
    · rw [dif_pos h, dif_pos ⟨rfl, h⟩]
    · rw [dif_neg h, dif_neg fun q => h q.2, dif_neg fun q => h q.2, dif_neg fun q => h q.2]
  · rw [setLast_at, if_neg (by decide), s3, s2, s1, s0, z]
    by_cases h : x.val < 64
    · rw [dif_pos h, dif_pos ⟨rfl, h⟩]
    · rw [dif_neg h, dif_neg fun q => h q.2, dif_neg fun q => h q.2, dif_neg fun q => h q.2, dif_neg fun q => h q.2]
  · rw [setLast_at, if_pos rfl, w]

/-- The weight of the second softmax, from the packed scalars. -/
def lamK (l : Vec Ideal S8x128 .f32) : EReal :=
  Ideal.exp (∑ x : Fin 128, l (ix2 0 x) * l (ix2 1 x)) - Ideal.exp (∑ x : Fin 128, l (ix2 2 x) * l (ix2 3 x)) + l (ix2 4 0)

/-- The difference of the two softmaxes' rows, at a lane. -/
def diffK (l : Vec Ideal S8x128 .f32) (A0 A1 : Vec Ideal S1024x256 .f32) (r : Fin 1024) (e : Fin 128) : EReal :=
  Ideal.div (A0 (ix2 r ⟨e.val, by omega⟩)) (A0 (ix2 r ⟨128 + e.val, by omega⟩)) - lamK l * Ideal.div (A1 (ix2 r ⟨e.val, by omega⟩)) (A1 (ix2 r ⟨128 + e.val, by omega⟩))

/-- The block a step writes, at an index. -/
theorem outBlk_at (l : Vec Ideal S8x128 .f32) (g : Vec Ideal S1x128 .f32) (A0 A1 : Vec Ideal S1024x256 .f32) (r : Fin 1024) (e : Fin 128) :
    Trip.outBlk l g A0 A1 (ix3 0 r e) = diffK l A0 A1 r e
      * Ideal.rsqrt (Ideal.div (∑ x, diffK l A0 A1 r x * diffK l A0 A1 r x) (Ideal.ofBits .f32 0x43000000#32) + Ideal.ofBits .f32 0x3727C5AC#32)
      * g (ix2 0 e) * (1 - l (ix2 4 0)) := by
  pointwise [Trip.outBlk, k0_pay1, k0_pay217, k0_pay218, k0_pay219, k0_pay220, Trip.lanes0, Trip.lanes1]
  rfl

end Cert.Host

end
-- ==== Proof.Blocks.lean ====
/- The blocks a grid point reads, at an index. -/
module

public import proofs.«01_k».proof.Proof.Host
public import Idealize.ShloMosaic.Lib.Pipeline.ValueKit

@[expose] public section

set_option maxRecDepth 16384
set_option maxHeartbeats 1000000

noncomputable section

namespace Cert.Blocks

open Cert.KernelIdeal Cert.KernelIdeal.Gen
open Idealize.ShloMosaic Idealize.ShloMosaic.TcCoe Idealize.ShloMosaic.Pipeline

variable (m : (ℓ : Loc nD τ sig) → Buf (Elt Ideal) ℓ) (c : Dev nD)

/-- The windows' block indices at a grid point. -/
theorem idx (i : grid0.Coords) : cc0_transform_0 i = ![0, 0] ∧ cc0_transform_1 i = ![0, 0] ∧ cc0_transform_2 i = ![(i 0).val, (i 2).val, (i 1).val]
    ∧ cc0_transform_3 i = ![(i 0).val, 0, 4 + (i 1).val] ∧ cc0_transform_4 i = ![(i 0).val, 0, 8 + (i 1).val] ∧ cc0_transform_5 i = ![(i 0).val, (i 2).val, (i 1).val] := by
  obtain ⟨a, ha⟩ : ∃ a : Fin 2, (i 0).val = a.val := ⟨i 0, rfl⟩
  obtain ⟨b, hb⟩ : ∃ a : Fin 4, (i 1).val = a.val := ⟨i 1, rfl⟩
  obtain ⟨d, hd⟩ : ∃ a : Fin 16, (i 2).val = a.val := ⟨i 2, rfl⟩
  unfold cc0_transform_0 cc0_transform_1 cc0_transform_2 cc0_transform_3 cc0_transform_4 cc0_transform_5
  rw [ha, hb, hd]
  clear ha hb hd
  revert a b d
  decide +kernel

/-- The windows' block indices at point `t`. -/
theorem index_at (t : Fin cfg0.N) : win0_0.index t = ![0, 0] ∧ win0_1.index t = ![0, 0] ∧ win0_2.index t = ![(grid0.coords t 0).val, (grid0.coords t 2).val, (grid0.coords t 1).val]
    ∧ win0_3.index t = ![(grid0.coords t 0).val, 0, 4 + (grid0.coords t 1).val] ∧ win0_4.index t = ![(grid0.coords t 0).val, 0, 8 + (grid0.coords t 1).val]
    ∧ win0_5.index t = ![(grid0.coords t 0).val, (grid0.coords t 2).val, (grid0.coords t 1).val] := idx (grid0.coords t)

/-- The block of small rows is the whole array. -/
theorem blk0 (t : Fin cfg0.N) (x : Fin 8) (l : Fin 128) : iblk m c 0 t (ix2 x l) = V m c main_v27 (ix2 x l) := by
  blk_ext [iblk, index_at t]

/-- The block of gains is the whole array. -/
theorem blk1 (t : Fin cfg0.N) (l : Fin 128) : iblk m c 1 t (ix2 0 l) = V m c main_v28 (ix2 0 l) := by
  blk_ext [iblk, index_at t]

/-- A query block's entry. -/
theorem blk2 (t : Fin cfg0.N) (r : Fin 1024) (l : Fin 128) (b : Fin 2) (s : Fin 16384) (o : Fin 2048) (hb : b.val = (grid0.coords t 0).val)
    (hs : s.val = (grid0.coords t 2).val * 1024 + r.val) (ho : o.val = (grid0.coords t 1).val * 128 + l.val) :
    iblk m c 2 t (ix3 0 r l) = V m c main_v5 (ix3 b s o) := by
  blk_ext [iblk, index_at t]

/-- A key block's entry. -/
theorem blk3 (t : Fin cfg0.N) (s : Fin 16384) (l : Fin 128) (b : Fin 2) (o : Fin 2048) (hb : b.val = (grid0.coords t 0).val)
    (ho : o.val = (4 + (grid0.coords t 1).val) * 128 + l.val) :
    iblk m c 3 t (ix3 0 s l) = V m c main_v5 (ix3 b s o) := by
  blk_ext [iblk, index_at t]

/-- A value block's entry. -/
theorem blk4 (t : Fin cfg0.N) (s : Fin 16384) (l : Fin 128) (b : Fin 2) (o : Fin 2560) (hb : b.val = (grid0.coords t 0).val)
    (ho : o.val = (8 + (grid0.coords t 1).val) * 128 + l.val) :
    iblk m c 4 t (ix3 0 s l) = V m c main_v7 (ix3 b s o) := by
  blk_ext [iblk, index_at t]

/-- The first map's queries: the lower lanes. -/
theorem pay191_at (x : Vec Ideal S1x1024x128 .bf16) (r : Fin 1024) (l : Fin 128) : k0_pay191 (F := Ideal) x (ix2 r l) = if l.val < 64 then x (ix3 0 r l) else 0 := by
  have e : IntOp.cmpi .slt (BitVec.ofNat 32 l.val) 64#32 = BitVec.ofBool (decide (l.val < 64)) := by
    revert l
    decide +kernel
  pointwise [k0_pay191, k0_pay189, k0_pay190]
  rw [e]
  by_cases h : l.val < 64
  · rw [if_pos h, decide_eq_true h]
    rfl
  · rw [if_neg h, decide_eq_false h]
    rfl

/-- The second map's queries: the upper lanes. -/
theorem pay192_at (x : Vec Ideal S1x1024x128 .bf16) (r : Fin 1024) (l : Fin 128) : k0_pay192 (F := Ideal) x (ix2 r l) = if 64 ≤ l.val then x (ix3 0 r l) else 0 := by
  have e : IntOp.cmpi .sge (BitVec.ofNat 32 l.val) 64#32 = BitVec.ofBool (decide (64 ≤ l.val)) := by
    revert l
    decide +kernel
  pointwise [k0_pay192, k0_pay189, k0_pay190]
  rw [e]
  by_cases h : 64 ≤ l.val
  · rw [if_pos h, decide_eq_true h]
    rfl
  · rw [if_neg h, decide_eq_false h]
    rfl

end Cert.Blocks

end
-- ==== Proof.Spec.lean ====
/- The differential attention of finite queries, keys and values, as real numbers, and the norm over its lanes. -/
module

public import Idealize.ShloMosaic.PureOps.Ideal

@[expose] public section

noncomputable section

namespace Cert.Spec

open Idealize.ShloMosaic

/-- Lane `d` of head `h`'s map `p`. -/
def lane (h : Fin 4) (p : Fin 2) (d : Fin 64) : Fin 512 := ⟨h.val * 128 + p.val * 64 + d.val, by omega⟩

/-- Lane `e` of head `h`'s values. -/
def vlane (h : Fin 4) (e : Fin 128) : Fin 512 := ⟨h.val * 128 + e.val, by omega⟩

/-- The score of query `i` against key `j` in map `p` of head `h`. -/
def sc (Q K : Fin 2 → Fin 16384 → Fin 512 → ℝ) (b : Fin 2) (h : Fin 4) (p : Fin 2) (i j : Fin 16384) : ℝ :=
  (∑ d : Fin 64, Q b i (lane h p d) * K b j (lane h p d)) * (1 / 8)

/-- The softmax's weight of key `j`, before it is divided by the row's sum: nothing for a key past the query. -/
def w (Q K : Fin 2 → Fin 16384 → Fin 512 → ℝ) (b : Fin 2) (h : Fin 4) (p : Fin 2) (i j : Fin 16384) : ℝ :=
  if j ≤ i then Real.exp (sc Q K b h p i j) else 0

/-- Softmax attention of query `i` in map `p` of head `h`, at lane `e` of the values. -/
def att (Q K V : Fin 2 → Fin 16384 → Fin 512 → ℝ) (b : Fin 2) (h : Fin 4) (p : Fin 2) (i : Fin 16384) (e : Fin 128) : ℝ :=
  (∑ j, w Q K b h p i j * V b j (vlane h e)) / ∑ j, w Q K b h p i j

/-- The second map's factor. -/
def lam (A B C D : Fin 64 → ℝ) (L : ℝ) : ℝ := Real.exp (∑ x, A x * B x) - Real.exp (∑ x, C x * D x) + L

/-- The difference of the two maps. -/
def da (Q K V : Fin 2 → Fin 16384 → Fin 512 → ℝ) (A B C D : Fin 64 → ℝ) (L : ℝ) (b : Fin 2) (h : Fin 4) (i : Fin 16384) (e : Fin 128) : ℝ :=
  att Q K V b h 0 i e - lam A B C D L * att Q K V b h 1 i e

/-- The norm over a head's lanes with its gains. -/
def tail (a : Fin 128 → ℝ) (L : ℝ) (g : Fin 128 → EReal) (e : Fin 128) : EReal :=
  (a e : EReal) * Ideal.rsqrt (Ideal.div (∑ x, (a x : EReal) * (a x : EReal)) (Ideal.ofBits .f32 0x43000000#32) + Ideal.ofBits .f32 0x3727C5AC#32) * g e * (1 - (L : EReal))

/-- The layer's differential attention, at head `h` and lane `e`. -/
def out (Q K V : Fin 2 → Fin 16384 → Fin 512 → ℝ) (A B C D : Fin 64 → ℝ) (L : ℝ) (g : Fin 128 → EReal) (b : Fin 2) (i : Fin 16384) (h : Fin 4) (e : Fin 128) : EReal :=
  tail (da Q K V A B C D L b h i) L g e

end Cert.Spec

end
-- ==== Proof.PointValue.lean ====
/- The block that each grid point writes, on finite queries, keys and values. -/
module

public import proofs.«01_k».proof.Proof.PointOut
public import proofs.«01_k».proof.Proof.Blocks
public import proofs.«01_k».proof.Proof.Spec
public import Idealize.ShloMosaic.Lib.VecWindow
public import Idealize.ShloMosaic.Lib.WholeRead

@[expose] public section

set_option maxRecDepth 16384
set_option maxHeartbeats 1000000

noncomputable section

namespace Cert.PointValue

open Cert.KernelIdeal Cert.KernelIdeal.Gen Cert.Body Cert.Trip Cert.Online Cert.Step
open Idealize.ShloMosaic Idealize.ShloMosaic.TcCoe Idealize.ShloMosaic.Pipeline

/-- A sum over the lanes of a head, where only the lower half counts. -/
theorem sum_lower (f : Fin 128 → EReal) : (∑ l : Fin 128, (if l.val < 64 then f l else 0)) = ∑ d : Fin 64, f ⟨d.val, by omega⟩ := by
  rw [show (∑ l : Fin 128, (if l.val < 64 then f l else 0)) = ∑ l : Fin (64 + 64), (if l.val < 64 then f l else 0) from rfl, Fin.sum_univ_add]
  have h1 : ∀ d : Fin 64, (if (Fin.castAdd 64 d).val < 64 then f (Fin.castAdd 64 d) else 0) = f ⟨d.val, by omega⟩ := fun d => by
    rw [if_pos (by rw [Fin.val_castAdd]; exact d.isLt)]
    rfl
  have h2 : ∀ d : Fin 64, (if (Fin.natAdd 64 d).val < 64 then f (Fin.natAdd 64 d) else 0) = 0 := fun d =>
    if_neg (by rw [Fin.val_natAdd]; omega)
  rw [Finset.sum_congr rfl fun d _ => h1 d, Finset.sum_congr rfl fun d _ => h2 d, Finset.sum_const_zero, add_zero]

/-- A sum over the lanes of a head, where only the upper half counts. -/
theorem sum_upper (f : Fin 128 → EReal) : (∑ l : Fin 128, (if 64 ≤ l.val then f l else 0)) = ∑ d : Fin 64, f ⟨64 + d.val, by omega⟩ := by
  rw [show (∑ l : Fin 128, (if 64 ≤ l.val then f l else 0)) = ∑ l : Fin (64 + 64), (if 64 ≤ l.val then f l else 0) from rfl, Fin.sum_univ_add]
  have h1 : ∀ d : Fin 64, (if 64 ≤ (Fin.castAdd 64 d).val then f (Fin.castAdd 64 d) else 0) = 0 := fun d =>
    if_neg (by rw [Fin.val_castAdd]; omega)
  have h2 : ∀ d : Fin 64, (if 64 ≤ (Fin.natAdd 64 d).val then f (Fin.natAdd 64 d) else 0) = f ⟨64 + d.val, by omega⟩ := fun d => by
    rw [if_pos (by rw [Fin.val_natAdd]; omega)]
    rfl
  rw [Finset.sum_congr rfl fun d _ => h1 d, Finset.sum_congr rfl fun d _ => h2 d, Finset.sum_const_zero, zero_add]

/-- Weights of the keys up to a row's own, summed over a longer range: the keys past the row weigh nothing. -/
theorem sum_low {N n i : ℕ} (hn : n ≤ N) (hi : i < n) (S : Fin N → ℝ) (s : ℕ → EReal) (hs : ∀ (k : ℕ) (hk : k < N), s k = if k ≤ i then ((S ⟨k, hk⟩ / Real.log 2 : ℝ) : EReal) else ⊥)
    (f : Fin N → ℝ) (g : ℕ → ℝ) (hg : ∀ (k : ℕ) (hk : k < N), g k = f ⟨k, hk⟩) :
    (∑ k ∈ Finset.range n, wt (s k) 0 * g k) = ∑ j : Fin N, (if j.val ≤ i then Real.exp (S j) else 0) * f j := by
  have h1 : (∑ k ∈ Finset.range n, wt (s k) 0 * g k) = ∑ k ∈ Finset.range N, wt (s k) 0 * g k := by
    refine Finset.sum_subset (Finset.range_subset_range.2 hn) fun k hk hk' => ?_
    rw [Finset.mem_range] at hk hk'
    rw [hs k hk, if_neg (by omega), wt_bot, zero_mul]
  rw [h1, Finset.sum_range]
  refine Finset.sum_congr rfl fun j _ => ?_
  rw [hs j.val j.isLt, hg j.val j.isLt]
  by_cases h : j.val ≤ i
  · rw [if_pos h, if_pos h, wt_log_two]
  · rw [if_neg h, if_neg h, wt_bot]

variable (m : (ℓ : Loc nD τ sig) → Buf (Elt Ideal) ℓ) (c : Dev nD)

/-- The batch of a point. -/
def bOf (t : Fin cfg0.N) : Fin 2 := grid0.coords t 0
/-- The head of a point. -/
def hOf (t : Fin cfg0.N) : Fin 4 := grid0.coords t 1
/-- The query of row `r` of a point. -/
def row (t : Fin cfg0.N) (r : Fin 1024) : Fin 16384 := ⟨(grid0.coords t 2).val * 1024 + r.val, by
  have h : (grid0.coords t 2).val < 16 := (grid0.coords t 2).isLt
  omega⟩

/-- The scores that the kernel computes, in powers of two. -/
def T (Q K : Fin 2 → Fin 16384 → Fin 512 → ℝ) (t : Fin cfg0.N) (p : Fin 2) (r : Fin 1024) (k : ℕ) : ℝ :=
  if hk : k < 16384 then Spec.sc Q K (bOf t) (hOf t) p (row t r) ⟨k, hk⟩ / Real.log 2 else 0

/-- The values with the lanes of ones. -/
def vv (W : Fin 2 → Fin 16384 → Fin 512 → ℝ) (t : Fin cfg0.N) (k : ℕ) (e : Fin 256) : ℝ :=
  if he : e.val < 128 then (if hk : k < 16384 then W (bOf t) ⟨k, hk⟩ (Spec.vlane (hOf t) ⟨e.val, he⟩) else 0) else 1

/-- The finite arguments as the region finds them. -/
structure Args (Q K W : Fin 2 → Fin 16384 → Fin 512 → ℝ) (A B C D : Fin 64 → ℝ) (L : ℝ) : Prop where
  hq : ∀ b s o, m ((c : Thread nD τ).loc main_arg0) (ix3 b s o) = (Q b s o : EReal)
  hk : ∀ b s o, m ((c : Thread nD τ).loc main_arg1) (ix3 b s o) = (K b s o : EReal)
  hv : ∀ b s o, m ((c : Thread nD τ).loc main_arg2) (ix3 b s o) = (W b s o : EReal)
  ha : ∀ x, m ((c : Thread nD τ).loc main_arg6) (ix1 x) = (A x : EReal)
  hb : ∀ x, m ((c : Thread nD τ).loc main_arg7) (ix1 x) = (B x : EReal)
  hc : ∀ x, m ((c : Thread nD τ).loc main_arg8) (ix1 x) = (C x : EReal)
  hd : ∀ x, m ((c : Thread nD τ).loc main_arg9) (ix1 x) = (D x : EReal)
  hl : m ((c : Thread nD τ).loc main_arg10) (ix1 0) = (L : EReal)

variable {m c}
variable {Q K W : Fin 2 → Fin 16384 → Fin 512 → ℝ} {A B C D : Fin 64 → ℝ} {L : ℝ}

/-- The column of a packed array that holds lane `l` of the point's head. -/
theorem lane_val (t : Fin cfg0.N) (l : Fin 128) : (Spec.vlane (hOf t) l).val = (grid0.coords t 1).val * 128 + l.val := rfl

/-- A query block's entry on finite arguments. -/
theorem q_entry (H : Args m c Q K W A B C D L) (t : Fin cfg0.N) (r : Fin 1024) (l : Fin 128) :
    iblk m c 2 t (ix3 0 r l) = ((Q (bOf t) (row t r) (Spec.vlane (hOf t) l) * (1 / 8 / Real.log 2) : ℝ) : EReal) := by
  have hv := (Spec.vlane (hOf t) l).isLt
  rw [Blocks.blk2 m c t r l (bOf t) (row t r) ⟨(Spec.vlane (hOf t) l).val, by omega⟩ rfl rfl (lane_val t l), Host.V_A, Host.packA_q _ _ _ _ _ _ (Spec.vlane (hOf t) l) rfl,
    Host.scale_at, H.hq, ← EReal.coe_mul]

/-- A key block's entry on finite arguments. -/
theorem k_entry (H : Args m c Q K W A B C D L) (t : Fin cfg0.N) (s : Fin 16384) (l : Fin 128) :
    iblk m c 3 t (ix3 0 s l) = ((K (bOf t) s (Spec.vlane (hOf t) l) : ℝ) : EReal) := by
  have hv := (Spec.vlane (hOf t) l).isLt
  have he := lane_val t l
  rw [Blocks.blk3 m c t s l (bOf t) ⟨512 + (Spec.vlane (hOf t) l).val, by omega⟩ rfl (by show 512 + (Spec.vlane (hOf t) l).val = _; rw [he]; omega), Host.V_A,
    Host.packA_k _ _ _ _ _ _ (Spec.vlane (hOf t) l) rfl, H.hk]

/-- A value block's entry on finite arguments. -/
theorem v_entry (H : Args m c Q K W A B C D L) (t : Fin cfg0.N) (s : Fin 16384) (l : Fin 128) :
    iblk m c 4 t (ix3 0 s l) = ((W (bOf t) s (Spec.vlane (hOf t) l) : ℝ) : EReal) := by
  have hv := (Spec.vlane (hOf t) l).isLt
  have he := lane_val t l
  rw [Blocks.blk4 m c t s l (bOf t) ⟨1024 + (Spec.vlane (hOf t) l).val, by omega⟩ rfl (by show 1024 + (Spec.vlane (hOf t) l).val = _; rw [he]; omega), Host.V_B,
    Host.packB_v _ _ _ _ _ _ (Spec.vlane (hOf t) l) rfl, H.hv]

/-- The two maps' scores from the scaled queries and the keys. -/
theorem score_real (t : Fin cfg0.N) (p : Fin 2) (r : Fin 1024) (k : Fin 16384) (l : Fin 64 → Fin 128) (hl : ∀ d, (l d).val = p.val * 64 + d.val) :
    (∑ d : Fin 64, ((Q (bOf t) (row t r) (Spec.vlane (hOf t) (l d)) * (1 / 8 / Real.log 2) : ℝ) : EReal) * ((K (bOf t) k (Spec.vlane (hOf t) (l d)) : ℝ) : EReal))
      = ((Spec.sc Q K (bOf t) (hOf t) p (row t r) k / Real.log 2 : ℝ) : EReal) := by
  have e : ∀ d, Spec.vlane (hOf t) (l d) = Spec.lane (hOf t) p d := fun d => Fin.ext (by
    show (hOf t).val * 128 + (l d).val = (hOf t).val * 128 + p.val * 64 + d.val
    rw [hl]
    omega)
  simp only [e, ← EReal.coe_mul, ← coe_sum]
  refine congrArg (fun x : ℝ => (x : EReal)) ?_
  rw [Spec.sc, Finset.sum_mul, Finset.sum_div]
  exact Finset.sum_congr rfl fun d _ => by ring

/-- The block a whole load of the queries reads. -/
def qBlk (m : (ℓ : Loc nD τ sig) → Buf (Elt Ideal) ℓ) (c : Dev nD) (t : Fin cfg0.N) : Vec Ideal S1x1024x128 .bf16 :=
  View.readAt (Elt Ideal) (ms0_2 t).view (Rect.unit (s := S1x1024x128) ![0, 0, 0] S1x1024x128.size inb_S1x1024x128_S1x1024x128_0_0_0).toLoadRect ((hs0_2 t).unread (iblk m c 2 t))

/-- The queries' load on finite arguments. -/
theorem qBlk_at (H : Args m c Q K W A B C D L) (t : Fin cfg0.N) (r : Fin 1024) (l : Fin 128) :
    qBlk m c t (ix3 0 r l) = ((Q (bOf t) (row t r) (Spec.vlane (hOf t) l) * (1 / 8 / Real.log 2) : ℝ) : EReal) := by
  unfold qBlk
  rw [(hs0_2 t).readAt_unread, ← q_entry H t r l]
  refine congrArg (iblk m c 2 t) ?_
  funext a
  refine Fin.ext ?_
  fin_cases a <;> simp [Rect.unit, LoadRect.idx, Rect.toLoadRect]

/-- The keys' buffer gives the two maps' scores, chunk by chunk. -/
theorem keysAt (H : Args m c Q K W A B C D L) (t : Fin cfg0.N) :
    KeysAt (fun h r k => (T Q K t h r k : EReal)) (k0_pay191 (F := Ideal) (qBlk m c t)) (k0_pay192 (F := Ideal) (qBlk m c t)) (ms0_3 t) ((hs0_3 t).unread (iblk m c 3 t)) := by
  intro n off inb ho
  subst ho
  have hn : n + 1024 ≤ 16384 := inb 1
  have hk : ∀ (cc : Fin 1024) (l : Fin 128), View.readAt (Elt Ideal) (ms0_3 t).view (Rect.unit (s := S1x16384x128) ![0, n, 0] S1x1024x128.size inb).toLoadRect ((hs0_3 t).unread (iblk m c 3 t)) (ix3 0 cc l)
      = ((K (bOf t) ⟨n + cc.val, by omega⟩ (Spec.vlane (hOf t) l) : ℝ) : EReal) := fun cc l => by
    rw [(hs0_3 t).readAt_unread, ← k_entry H t ⟨n + cc.val, by omega⟩ l]
    refine congrArg (iblk m c 3 t) ?_
    funext a
    refine Fin.ext ?_
    fin_cases a <;> simp [Rect.unit, LoadRect.idx, Rect.toLoadRect]
  have hT : ∀ p r (cc : Fin 1024), (T Q K t p r (n + cc.val) : EReal) = ((Spec.sc Q K (bOf t) (hOf t) p (row t r) ⟨n + cc.val, by omega⟩ / Real.log 2 : ℝ) : EReal) := fun p r cc => by
    rw [T, dif_pos (by omega)]
  refine ⟨fun r cc => ?_, fun r cc => ?_⟩
  · rw [produce_apply]
    show _ = (T Q K t 0 r (n + cc.val) : EReal)
    rw [hT, ← score_real t 0 r ⟨n + cc.val, by omega⟩ (fun d => ⟨d.val, by omega⟩) (fun d => by show d.val = 0 * 64 + d.val; omega), ← sum_lower fun l : Fin 128 => ((Q (bOf t) (row t r) (Spec.vlane (hOf t) l) * (1 / 8 / Real.log 2) : ℝ) : EReal) * ((K (bOf t) ⟨n + cc.val, by omega⟩ (Spec.vlane (hOf t) l) : ℝ) : EReal)]
    refine Finset.sum_congr rfl fun l _ => ?_
    rw [Blocks.pay191_at, hk, qBlk_at H]
    by_cases h : l.val < 64
    · rw [if_pos h, if_pos h]
    · rw [if_neg h, if_neg h, zero_mul]
  · rw [produce_apply]
    show _ = (T Q K t 1 r (n + cc.val) : EReal)
    rw [hT, ← score_real t 1 r ⟨n + cc.val, by omega⟩ (fun d => ⟨64 + d.val, by omega⟩) (fun d => by show 64 + d.val = 1 * 64 + d.val; omega), ← sum_upper fun l : Fin 128 => ((Q (bOf t) (row t r) (Spec.vlane (hOf t) l) * (1 / 8 / Real.log 2) : ℝ) : EReal) * ((K (bOf t) ⟨n + cc.val, by omega⟩ (Spec.vlane (hOf t) l) : ℝ) : EReal)]
    refine Finset.sum_congr rfl fun l _ => ?_
    rw [Blocks.pay192_at, hk, qBlk_at H]
    by_cases h : 64 ≤ l.val
    · rw [if_pos h, if_pos h]
    · rw [if_neg h, if_neg h, zero_mul]

/-- The values' buffer, chunk by chunk. -/
theorem valsAt (H : Args m c Q K W A B C D L) (t : Fin cfg0.N) : ValsAt (vv W t) (ms0_4 t) ((hs0_4 t).unread (iblk m c 4 t)) := by
  intro n off inb ho
  subst ho
  have hn : n + 1024 ≤ 16384 := inb 1
  intro cc e
  have hk : ∀ (l : Fin 128), View.readAt (Elt Ideal) (ms0_4 t).view (Rect.unit (s := S1x16384x128) ![0, n, 0] S1x1024x128.size inb).toLoadRect ((hs0_4 t).unread (iblk m c 4 t)) (ix3 0 cc l)
      = ((W (bOf t) ⟨n + cc.val, by omega⟩ (Spec.vlane (hOf t) l) : ℝ) : EReal) := fun l => by
    rw [(hs0_4 t).readAt_unread, ← v_entry H t ⟨n + cc.val, by omega⟩ l]
    refine congrArg (iblk m c 4 t) ?_
    funext a
    refine Fin.ext ?_
    fin_cases a <;> simp [Rect.unit, LoadRect.idx, Rect.toLoadRect]
  rw [vOnes_apply, vv]
  by_cases h : e.val < 128
  · rw [dif_pos h, dif_pos h, hk, dif_pos (by omega)]
  · rw [dif_neg h, dif_neg h, EReal.coe_one]

/-- A map's quotient of sums is its softmax attention. -/
theorem quot (t : Fin cfg0.N) (p : Fin 2) {M : Vec Ideal S1024x128 .f32} {X : Vec Ideal S1024x256 .f32}
    (h : InvH ((grid0.coords t 2).val * 1024 + 1024) (low (grid0.coords t) (T Q K t p)) (vv W t) M X) (r : Fin 1024) (e : Fin 128) :
    Ideal.div (X (ix2 r ⟨e.val, by omega⟩)) (X (ix2 r ⟨128 + e.val, by omega⟩)) = ((Spec.att Q K W (bOf t) (hOf t) p (row t r) e : ℝ) : EReal) := by
  obtain ⟨M', _, hH⟩ := h r
  have hlt : (grid0.coords t 2).val < 16 := (grid0.coords t 2).isLt
  have hr : (row t r).val = (grid0.coords t 2).val * 1024 + r.val := rfl
  have hlow : ∀ (k : ℕ) (hk : k < 16384), low (grid0.coords t) (T Q K t p) r k = if k ≤ (row t r).val then ((Spec.sc Q K (bOf t) (hOf t) p (row t r) ⟨k, hk⟩ / Real.log 2 : ℝ) : EReal) else ⊥ := fun k hk => by
    rw [low, T, dif_pos hk, hr]
  have h1 := sum_low (N := 16384) (n := (grid0.coords t 2).val * 1024 + 1024) (i := (row t r).val) (by omega) (by omega) (fun j => Spec.sc Q K (bOf t) (hOf t) p (row t r) j) _ hlow
    (fun j => W (bOf t) j (Spec.vlane (hOf t) e)) (fun k => vv W t k ⟨e.val, by omega⟩) (fun k hk => by rw [vv, dif_pos e.isLt, dif_pos hk])
  have h2 := sum_low (N := 16384) (n := (grid0.coords t 2).val * 1024 + 1024) (i := (row t r).val) (by omega) (by omega) (fun j => Spec.sc Q K (bOf t) (hOf t) p (row t r) j) _ hlow
    (fun j => 1) (fun k => 1) (fun k hk => rfl)
  simp only [mul_one] at h2
  refine (hH.quot (low_ne_top _ _ r) ⟨e.val, by omega⟩ ⟨128 + e.val, by omega⟩ (fun k => by rw [vv, dif_neg (by show ¬ 128 + e.val < 128; omega)]) (k₀ := 0) (by omega)
    (by rw [hlow 0 (by omega), if_pos (Nat.zero_le _)]; exact EReal.coe_ne_bot _)).trans ?_
  rw [h1, h2]
  rfl

/-- The block of small rows that a whole load reads. -/
def lBlk (m : (ℓ : Loc nD τ sig) → Buf (Elt Ideal) ℓ) (c : Dev nD) (t : Fin cfg0.N) : Vec Ideal S8x128 .f32 :=
  View.readAt (Elt Ideal) (ms0_0 t).view (Rect.unit (s := S8x128) ![0, 0] S8x128.size inb_S8x128_S8x128_0_0).toLoadRect ((hs0_0 t).unread (iblk m c 0 t))

/-- The gains that a whole load reads. -/
def gBlk (m : (ℓ : Loc nD τ sig) → Buf (Elt Ideal) ℓ) (c : Dev nD) (t : Fin cfg0.N) : Vec Ideal S1x128 .f32 :=
  View.readAt (Elt Ideal) (ms0_1 t).view (Rect.unit (s := S1x128) ![0, 0] S1x128.size inb_S1x128_S1x128_0_0).toLoadRect ((hs0_1 t).unread (iblk m c 1 t))

/-- The small rows' load, at an index. -/
theorem lBlk_at (t : Fin cfg0.N) (x : Fin 8) (l : Fin 128) : lBlk m c t (ix2 x l) = V m c main_v27 (ix2 x l) := by
  unfold lBlk
  rw [(hs0_0 t).readAt_unread, ← Blocks.blk0 m c t x l]
  refine congrArg (iblk m c 0 t) ?_
  funext a
  refine Fin.ext ?_
  fin_cases a <;> simp [Rect.unit, LoadRect.idx, Rect.toLoadRect]

/-- The gains' load, at an index. -/
theorem gBlk_at (t : Fin cfg0.N) (l : Fin 128) : gBlk m c t (ix2 0 l) = m ((c : Thread nD τ).loc main_arg11) (ix1 l) := by
  unfold gBlk
  rw [(hs0_1 t).readAt_unread]
  refine Eq.trans (b := iblk m c 1 t (ix2 0 l)) (congrArg (iblk m c 1 t) ?_) ?_
  · funext a
    refine Fin.ext ?_
    fin_cases a <;> simp [Rect.unit, LoadRect.idx, Rect.toLoadRect]
  · rw [Blocks.blk1, Host.V_g]
    generalize m ((c : Thread nD τ).loc main_arg11) = g
    have e : ∀ g : FVec Ideal S128 .f32, shapeCast S1x128 g shapeCasts_S128_S1x128 (ix2 0 l) = g (ix1 l) := fun g => by
      pointwise []
    exact e g

/-- The sum of products of two rows padded by zeros. -/
theorem sum_pad (a b : Fin 64 → ℝ) (f g : Fin 128 → EReal) (hf : ∀ x, f x = if h : x.val < 64 then (a ⟨x.val, h⟩ : EReal) else 0) (hg : ∀ x, g x = if h : x.val < 64 then (b ⟨x.val, h⟩ : EReal) else 0) :
    (∑ x, f x * g x) = ((∑ x, a x * b x : ℝ) : EReal) := by
  have e : ∀ x : Fin 128, f x * g x = if x.val < 64 then f x * g x else 0 := fun x => by
    by_cases h : x.val < 64
    · rw [if_pos h]
    · rw [if_neg h, hf, dif_neg h, zero_mul]
  rw [Finset.sum_congr rfl fun x _ => e x, sum_lower fun x => f x * g x, coe_sum]
  refine Finset.sum_congr rfl fun d _ => ?_
  rw [hf, hg, dif_pos d.isLt, dif_pos d.isLt, EReal.coe_mul]

/-- The second map's factor from the packed rows. -/
theorem lamK_spec (H : Args m c Q K W A B C D L) (t : Fin cfg0.N) : Host.lamK (lBlk m c t) = ((Spec.lam A B C D L : ℝ) : EReal) ∧ lBlk m c t (ix2 4 0) = (L : EReal) := by
  have r := fun x => Host.lamRows_at (m ((c : Thread nD τ).loc main_arg6)) (m ((c : Thread nD τ).loc main_arg7)) (m ((c : Thread nD τ).loc main_arg8)) (m ((c : Thread nD τ).loc main_arg9)) (m ((c : Thread nD τ).loc main_arg10)) x
  have r4 : lBlk m c t (ix2 4 0) = (L : EReal) := by rw [lBlk_at, Host.V_lam, (r 0).2.2.2.2, H.hl]
  have h01 := sum_pad A B (fun x => lBlk m c t (ix2 0 x)) (fun x => lBlk m c t (ix2 1 x))
    (fun x => by rw [lBlk_at, Host.V_lam, (r x).1]; simp only [H.ha]) (fun x => by rw [lBlk_at, Host.V_lam, (r x).2.1]; simp only [H.hb])
  have h23 := sum_pad C D (fun x => lBlk m c t (ix2 2 x)) (fun x => lBlk m c t (ix2 3 x))
    (fun x => by rw [lBlk_at, Host.V_lam, (r x).2.2.1]; simp only [H.hc]) (fun x => by rw [lBlk_at, Host.V_lam, (r x).2.2.2.1]; simp only [H.hd])
  refine ⟨?_, r4⟩
  rw [Host.lamK, h01, h23, r4, Spec.lam, EReal.coe_add, EReal.coe_sub]
  rfl

/-- The block that point `t` leaves, as the layer's differential attention. -/
def want (g : Fin 128 → EReal) (Q K W : Fin 2 → Fin 16384 → Fin 512 → ℝ) (A B C D : Fin 64 → ℝ) (L : ℝ) (t : Fin cfg0.N) : Vec Ideal S1x1024x128 .bf16 := fun y =>
  Spec.out Q K W A B C D L g (bOf t) (row t (y 1)) (hOf t) (y 2)

/-- What a point's run leaves in the output's buffer. -/
theorem point_value (H : Args m c Q K W A B C D L) (t : Fin cfg0.N) (f8 : BufTy.Contents (Elt Ideal) (ms0_5 t).view.ty) (f9 : BufTy.Contents (Elt Ideal) (scM0_0).view.ty) (f10 : BufTy.Contents (Elt Ideal) (scM0_1).view.ty)
    (f11 : BufTy.Contents (Elt Ideal) (scM0_2).view.ty) (f12 : BufTy.Contents (Elt Ideal) (scM0_3).view.ty) (f13 : BufTy.Contents (Elt Ideal) (scM0_4).view.ty) :
    (ms0_5 t).view.read (Elt Ideal) ((ms0_5 t).view.writes (Elt Ideal) f8 ((runAt m c t).1 f9 f10 f11 f12 f13)) = want (fun l => m ((c : Thread nD τ).loc main_arg11) (ix1 l)) Q K W A B C D L t := by
  obtain ⟨A0, A1, ⟨⟨M0, h0⟩, M1, h1⟩, hrun⟩ := PointOut.runAt_out m c t f9 f10 f11 f12 f13 (T := T Q K t) (v := vv W t) (q0 := k0_pay191 (F := Ideal) (qBlk m c t)) (q1 := k0_pay192 (F := Ideal) (qBlk m c t)) ⟨rfl, rfl, keysAt H t, valsAt H t⟩
  rw [hrun, View.read_writes_full]
  have hd : ∀ r e, Host.diffK (lBlk m c t) A0 A1 r e = ((Spec.da Q K W A B C D L (bOf t) (hOf t) (row t r) e : ℝ) : EReal) := fun r e => by
    rw [Host.diffK, quot t 0 h0 r e, quot t 1 h1 r e, (lamK_spec H t).1, Spec.da, EReal.coe_sub, EReal.coe_mul]
  funext y
  obtain ⟨y0, r, e, rfl⟩ : ∃ (a : Fin 1) (b : Fin 1024) (d : Fin 128), y = ix3 a b d := ⟨y 0, y 1, y 2, eq_ix3 y⟩
  obtain rfl : y0 = 0 := Subsingleton.elim _ _
  refine (Host.outBlk_at (lBlk m c t) (gBlk m c t) A0 A1 r e).trans ?_
  simp only [hd]
  rw [gBlk_at, (lamK_spec H t).2]
  rfl

end Cert.PointValue

end
-- ==== Proof.Array.lean ====
/- The output array after the run, on finite queries, keys and values. -/
module

public import proofs.«01_k».proof.Proof.PointValue
public import proofs.«01_k».proof.Proof.Launched
public import Idealize.ShloMosaic.Lib.Pipeline.ValueKit

@[expose] public section

set_option maxRecDepth 16384
set_option maxHeartbeats 1000000

noncomputable section

namespace Cert.Array

open Cert.KernelIdeal Cert.KernelIdeal.Gen Cert.Body Cert.PointValue
open Idealize.ShloMosaic Idealize.ShloMosaic.TcCoe Idealize.ShloMosaic.Pipeline Idealize.SL.Sem

/-- The layer's differential attention as an array: lane `o` is lane `o % 128` of head `o / 128`. -/
def outArr (g : Fin 128 → EReal) (Q K W : Fin 2 → Fin 16384 → Fin 512 → ℝ) (A B C D : Fin 64 → ℝ) (L : ℝ) : Vec Ideal S2x16384x512 .bf16 := fun y =>
  have h : (y 2).val < 512 := (y 2).isLt
  Spec.out Q K W A B C D L g (y 0) (y 1) ⟨(y 2).val / 128, by omega⟩ ⟨(y 2).val % 128, by omega⟩

/-- The array at a head's lane. -/
theorem outArr_at (g : Fin 128 → EReal) (Q K W : Fin 2 → Fin 16384 → Fin 512 → ℝ) (A B C D : Fin 64 → ℝ) (L : ℝ) (n : Fin 2) (i : Fin 16384) (h : Fin 4) (e : Fin 128) (y : S2x16384x512.Idx)
    (h0 : (y 0).val = n.val) (h1 : (y 1).val = i.val) (h2 : (y 2).val = h.val * 128 + e.val) : outArr g Q K W A B C D L y = Spec.out Q K W A B C D L g n i h e := by
  have e0 : y 0 = n := Fin.ext h0
  have e1 : y 1 = i := Fin.ext h1
  have e2 : (⟨(y 2).val / 128, by have h : (y 2).val < 512 := (y 2).isLt; omega⟩ : Fin 4) = h := Fin.ext (by show (y 2).val / 128 = h.val; omega)
  have e3 : (⟨(y 2).val % 128, by omega⟩ : Fin 128) = e := Fin.ext (by show (y 2).val % 128 = e.val; omega)
  rw [outArr, e0, e1, e2, e3]

/-- Every index of the result is a head's lane. -/
theorem lane_of (y : S2x16384x512.Idx) : ∃ (n : Fin 2) (i : Fin 16384) (h : Fin 4) (e : Fin 128), y = ix3 n i (Spec.vlane h e) := by
  have h2 : (y 2).val < 512 := (y 2).isLt
  refine ⟨y 0, y 1, ⟨(y 2).val / 128, by omega⟩, ⟨(y 2).val % 128, by omega⟩, (eq_ix3 y).trans ?_⟩
  have e : y 2 = Spec.vlane ⟨(y 2).val / 128, by omega⟩ ⟨(y 2).val % 128, by omega⟩ := Fin.ext (by show (y 2).val = (y 2).val / 128 * 128 + (y 2).val % 128; omega)
  exact congrArg (ix3 (y 0) (y 1)) e

variable (m : (ℓ : Loc nD τ sig) → Buf (Elt Ideal) ℓ)

/-- The grid's blocks make up the array. -/
theorem arr_eq (B : Dev nD → Fin cfg0.N → Vec Ideal S1x1024x128 .bf16) (c : Dev nD) (g : Fin 128 → EReal) (Q K W : Fin 2 → Fin 16384 → Fin 512 → ℝ) (a b d f : Fin 64 → ℝ) (L : ℝ)
    (hB : ∀ t, B c t = want g Q K W a b d f L t) : (dats m B 0 c).arrAt 5 cfg0.N = outArr g Q K W a b d f L := by
  refine (dats m B 0 c).arrAt_eq_of_covers 5 (outArr g Q K W a b d f L) (by decide +kernel) fun t hf y => ?_
  blk_simp
  rw [after_5, hB]
  refine Eq.symm (outArr_at g Q K W a b d f L (bOf t) (row t (y 1)) (hOf t) (y 2) _ ?_ ?_ ?_)
  · refine (Window.rect_emb_val win0_5 t y 0 rfl).trans ?_
    rw [(Blocks.index_at t).2.2.2.2.2]
    have h : (y 0).val < 1 := (y 0).isLt
    show (grid0.coords t 0).val * 1 + (y 0).val = (grid0.coords t 0).val
    omega
  · refine (Window.rect_emb_val win0_5 t y 1 rfl).trans ?_
    rw [(Blocks.index_at t).2.2.2.2.2]
    rfl
  · refine (Window.rect_emb_val win0_5 t y 2 rfl).trans ?_
    rw [(Blocks.index_at t).2.2.2.2.2]
    rfl

/-- A run of the kernel on finite arguments leaves the layer's differential attention in its result. -/
theorem run_out (ρ : Dev nD → PrngReg) (Q K W : Dev nD → Fin 2 → Fin 16384 → Fin 512 → ℝ) (a b d f : Dev nD → Fin 64 → ℝ) (L : Dev nD → ℝ)
    (H : ∀ c, Args m c (Q c) (K c) (W c) (a c) (b c) (d c) (f c) (L c)) :
    θ_run defs (onTc (τ := τ) (main (F := Ideal))) ⟨m, fun _ => 0, ρ⟩ fun r => ∀ c : Dev nD,
      r.2.mem ((c.tc : Thread nD τ).loc main_v29) = outArr (fun l => m ((c.tc : Thread nD τ).loc main_arg11) (ix1 l)) (Q c) (K c) (W c) (a c) (b c) (d c) (f c) (L c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c).1.trans (arr_eq m _ c _ (Q c) (K c) (W c) (a c) (b c) (d c) (f c) (L c) fun t => rfl), (h c).2⟩)
    (run_value m ρ (fun c t => want (fun l => m ((c.tc : Thread nD τ).loc main_arg11) (ix1 l)) (Q c) (K c) (W c) (a c) (b c) (d c) (f c) (L c) t)
      fun c t f8 f9 f10 f11 f12 f13 => point_value (H c) t f8 f9 f10 f11 f12 f13)

end Cert.Array

end
-- ==== Proof.Finite.lean ====
/- What the precondition says of the arguments: the ones it names are real numbers. -/
module

public import proofs.«01_k».proof.Proof.PointValue
public import proofs.«01_k».proof.Proof.Gen.Pre_finite
public import proofs.«01_k».proof.Defs
public import Idealize.ShloMosaic.Lib.ReduceAll
public import Idealize.ShloMosaic.Lib.Affine

@[expose] public section

set_option maxRecDepth 16384

noncomputable section

namespace Cert.Finite

open Idealize.ShloMosaic

/-- A value whose magnitude is below the infinity is a real number. -/
theorem real_of (x : Ideal .f32) (e : FloatOps.cmpf .olt (FloatOps.hostAbsf x) (FloatOps.ofBits (F := Ideal) .f32 0x7F800000#32) = 1#1) : x = (EReal.toReal x : EReal) := by
  have htop : Ideal.ofBits .f32 0x7F800000#32 = ⊤ := by simp [Ideal.ofBits, Ideal.ieee]
  have e' : Ideal.cmp .olt (max (x : EReal) (-(x : EReal))) (Ideal.ofBits .f32 0x7F800000#32) = 1#1 := e
  rw [htop] at e'
  refine (EReal.coe_toReal (fun h => ?_) fun h => ?_).symm
  · rw [h] at e'
    simp [Ideal.cmp] at e'
  · rw [h] at e'
    simp [Ideal.cmp] at e'

/-- An array that passes the precondition's test holds real numbers. -/
theorem real_all {s u : Shape} [Subsingleton u.Idx] {axes : List (Fin s.rank)} (x : FVec Ideal s .f32) {hb : Cert.Pre_finite.S_.BroadcastsInDim s ![]} (v : u.Idx → BitVec 1) {h : s.ReducesTo axes u} {hu : 0 < u.numel} (j : u.Idx)
    (e : Host.reduce IntOp.andi (cmpf .olt (Host.absf x) (broadcastInDim s ![] hb (constant Cert.Pre_finite.S_ .f32 0x7F800000#32))) v h hu j = 1#1) (i : s.Idx) :
    x i = (EReal.toReal (x i) : EReal) :=
  real_of (x i) (Host.reduce_andi_all _ v h hu j e i)

variable (m : (ℓ : Loc Cert.KernelIdeal.nD Cert.KernelIdeal.τ Cert.KernelIdeal.sig) → Buf (Elt Ideal) ℓ)

/-- The index of a result of no axes is one. -/
instance : Subsingleton Cert.Pre_finite.S_.Idx := ⟨fun a b => funext fun x => x.elim0⟩

/-- Under the precondition the arguments that it names are real numbers. -/
theorem args (H : Cert.Pre_KernelIdeal_finite m) (c : Dev Cert.KernelIdeal.nD) :
    ∃ (Q K W : Fin 2 → Fin 16384 → Fin 512 → ℝ) (a b d f : Fin 64 → ℝ) (L : ℝ), Cert.PointValue.Args m c Q K W a b d f L := by
  obtain ⟨h, h10⟩ := IntOp.andi_eq_one.1 (congrFun (H c) ix0)
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h2⟩ := IntOp.andi_eq_one.1 h
  obtain ⟨h0, h1⟩ := IntOp.andi_eq_one.1 h
  exact ⟨_, _, _, _, _, _, _, _, ⟨fun b s o => real_all _ _ ix0 h0 (ix3 b s o), fun b s o => real_all _ _ ix0 h1 (ix3 b s o), fun b s o => real_all _ _ ix0 h2 (ix3 b s o),
    fun x => real_all _ _ ix0 h6 (ix1 x), fun x => real_all _ _ ix0 h7 (ix1 x), fun x => real_all _ _ ix0 h8 (ix1 x), fun x => real_all _ _ ix0 h9 (ix1 x), real_all _ _ ix0 h10 (ix1 0)⟩⟩

end Cert.Finite

end
-- ==== Proof.RefStages.lean ====
/- The reference's differential attention cut into its stages, each read at an index. -/
module

public import proofs.«01_k».proof.Proof.Gen.ReferenceIdeal.Run
public import Idealize.ShloMosaic.Lib.Pointwise

@[expose] public section

set_option maxRecDepth 16384
set_option maxHeartbeats 1000000

noncomputable section

namespace Cert.RefStages

open Cert.ReferenceIdeal Cert.ReferenceIdeal.Gen
open Idealize.ShloMosaic

/-- The mask: a query attends to the keys up to its own position. -/
def mask : IVec S16384x16384 1 :=
  cmpi .sge (broadcastInDim S16384x16384 ![0, 1] bcast_S16384x1_S16384x16384_0_1 (broadcastInDim S16384x1 ![0] bcast_S16384_S16384x1_0 (iotaInDim S16384 32 0)))
    (broadcastInDim S16384x16384 ![0, 1] bcast_S1x16384_S16384x16384_0_1 (broadcastInDim S1x16384 ![1] bcast_S16384_S1x16384_1 (iotaInDim S16384 32 0)))

/-- The scaled scores before the mask. -/
def raw (q k : FVec Ideal S2x16384x512 .f32) : FVec Ideal S2x4x2x16384x16384 .f32 :=
  mulf (Host.dotGeneral dot_S2x16384x4x2x64_S2x16384x4x2x64_S2x4x2x16384x16384_4_4_1_1_023_023 none (shapeCast S2x16384x4x2x64 q shapeCasts_S2x16384x512_S2x16384x4x2x64) (shapeCast S2x16384x4x2x64 k shapeCasts_S2x16384x512_S2x16384x4x2x64))
    (broadcastInDim S2x4x2x16384x16384 ![] bcast_S_S2x4x2x16384x16384 (constant S_ .f32 0x3E000000#32))

/-- The masked scores. -/
def scores (q k : FVec Ideal S2x16384x512 .f32) : FVec Ideal S2x4x2x16384x16384 .f32 :=
  select (broadcastInDim S2x4x2x16384x16384 ![3, 4] bcast_S16384x16384_S2x4x2x16384x16384_3_4 mask) (raw q k)
    (broadcastInDim S2x4x2x16384x16384 ![] bcast_S_S2x4x2x16384x16384 (id (constant (F := Ideal) S_ .f32 0xFF800000#32)))

/-- Each row's greatest score. -/
def top (s : FVec Ideal S2x4x2x16384x16384 .f32) : FVec Ideal S2x4x2x16384 .f32 :=
  maximumf (broadcastInDim S2x4x2x16384 ![] bcast_S_S2x4x2x16384 (constant (F := Ideal) S_ .f32 0xFF800000#32))
    (Host.reduce FloatOps.maximumf s (constant (F := Ideal) S_ .f32 0xFF800000#32) reducesTo_S2x4x2x16384x16384_S2x4x2x16384_d4 h_S_)

/-- The exponentials of the scores, each row's shifted by its greatest. -/
def expo (s : FVec Ideal S2x4x2x16384x16384 .f32) : FVec Ideal S2x4x2x16384x16384 .f32 :=
  Host.exp (subf s (broadcastInDim S2x4x2x16384x16384 ![0, 1, 2, 3, 4] bcast_S2x4x2x16384x1_S2x4x2x16384x16384_0_1_2_3_4 (broadcastInDim S2x4x2x16384x1 ![0, 1, 2, 3] bcast_S2x4x2x16384_S2x4x2x16384x1_0_1_2_3 (top s))))

/-- The softmax of the rows. -/
def soft (e : FVec Ideal S2x4x2x16384x16384 .f32) : FVec Ideal S2x4x2x16384x16384 .f32 :=
  Host.divf e (broadcastInDim S2x4x2x16384x16384 ![0, 1, 2, 3, 4] bcast_S2x4x2x16384x1_S2x4x2x16384x16384_0_1_2_3_4 (broadcastInDim S2x4x2x16384x1 ![0, 1, 2, 3] bcast_S2x4x2x16384_S2x4x2x16384x1_0_1_2_3
    (Host.reduceAdd e (constant (F := Ideal) S_ .f32 0x00000000#32) reducesTo_S2x4x2x16384x16384_S2x4x2x16384_d4 h_S_)))

/-- The second map's factor. -/
def lamb (a b c d : FVec Ideal S64 .f32) (l : FVec Ideal S1 .f32) : FVec Ideal S1 .f32 :=
  addf (broadcastInDim S1 ![] bcast_S_S1 (subf (Host.exp (Host.reduceAdd (mulf a b) (constant (F := Ideal) S_ .f32 0x00000000#32) reducesTo_S64_S_d0 h_S_)) (Host.exp (Host.reduceAdd (mulf c d) (constant (F := Ideal) S_ .f32 0x00000000#32) reducesTo_S64_S_d0 h_S_)))) l

/-- The difference of the two maps. -/
def diff (p : FVec Ideal S2x4x2x16384x16384 .f32) (lam : FVec Ideal S1 .f32) : FVec Ideal S2x4x16384x16384 .f32 :=
  subf (shapeCast S2x4x16384x16384 (extractStridedSlice S2x4x1x16384x16384 ![0, 0, 0, 0, 0] p slices_S2x4x2x16384x16384_S2x4x1x16384x16384_0_0_0_0_0) shapeCasts_S2x4x1x16384x16384_S2x4x16384x16384)
    (mulf (broadcastInDim S2x4x16384x16384 ![0, 1, 2, 3] bcast_S1x1x1x1_S2x4x16384x16384_0_1_2_3 (broadcastInDim S1x1x1x1 ![3] bcast_S1_S1x1x1x1_3 lam))
      (shapeCast S2x4x16384x16384 (extractStridedSlice S2x4x1x16384x16384 ![0, 0, 1, 0, 0] p slices_S2x4x2x16384x16384_S2x4x1x16384x16384_0_0_1_0_0) shapeCasts_S2x4x1x16384x16384_S2x4x16384x16384))

/-- The values weighted by the difference. -/
def attn (v : FVec Ideal S2x16384x512 .f32) (d : FVec Ideal S2x4x16384x16384 .f32) : FVec Ideal S2x16384x4x128 .f32 :=
  transpose S2x16384x4x128 [0, 3, 1, 2] (Host.dotGeneral dot_S2x16384x4x128_S2x4x16384x16384_S2x4x128x16384_1_3_3_2_02_01 none (shapeCast S2x16384x4x128 v shapeCasts_S2x16384x512_S2x16384x4x128) d) transposes_S2x4x128x16384_S2x16384x4x128_0_3_1_2

/-- The norm over the head's lanes and its gains. -/
def norm (a : FVec Ideal S2x16384x4x128 .f32) (g : FVec Ideal S128 .f32) (l : FVec Ideal S1 .f32) : FVec Ideal S2x16384x4x128 .f32 :=
  mulf (mulf (mulf a (broadcastInDim S2x16384x4x128 ![0, 1, 2, 3] bcast_S2x16384x4x1_S2x16384x4x128_0_1_2_3 (Host.rsqrt (addf (Host.divf (broadcastInDim S2x16384x4x1 ![0, 1, 2] bcast_S2x16384x4_S2x16384x4x1_0_1_2
      (Host.reduceAdd (mulf a a) (constant (F := Ideal) S_ .f32 0x00000000#32) reducesTo_S2x16384x4x128_S2x16384x4_d3 h_S_)) (broadcastInDim S2x16384x4x1 ![] bcast_S_S2x16384x4x1 (constant (F := Ideal) S_ .f32 0x43000000#32)))
      (broadcastInDim S2x16384x4x1 ![] bcast_S_S2x16384x4x1 (constant (F := Ideal) S_ .f32 0x3727C5AC#32))))))
    (broadcastInDim S2x16384x4x128 ![0, 1, 2, 3] bcast_S1x1x1x128_S2x16384x4x128_0_1_2_3 (broadcastInDim S1x1x1x128 ![3] bcast_S128_S1x1x1x128_3 g)))
    (broadcastInDim S2x16384x4x128 ![0, 1, 2, 3] bcast_S1x1x1x1_S2x16384x4x128_0_1_2_3 (broadcastInDim S1x1x1x1 ![3] bcast_S1_S1x1x1x1_3 (subf (broadcastInDim S1 ![] bcast_S_S1 (constant (F := Ideal) S_ .f32 0x3F800000#32)) l)))

/-- The reference's result from its arguments. -/
def result (q k v : FVec Ideal S2x16384x512 .f32) (a b c d : FVec Ideal S64 .f32) (l : FVec Ideal S1 .f32) (g : FVec Ideal S128 .f32) : FVec Ideal S2x16384x512 .bf16 :=
  truncf .bf16 (shapeCast S2x16384x512 (norm (attn v (diff (soft (expo (scores q k))) (lamb a b c d l))) g l) shapeCasts_S2x16384x4x128_S2x16384x512) bitsLt_bf16_f32

open Idealize.ShloMosaic.TcCoe in
/-- The reference's run ends at `result` of its arguments. -/
theorem res_eq (m : (ℓ : Loc nD τ sig) → Buf (Elt Ideal) ℓ) (c : Dev nD) :
    Value.res_main_v62 (F := Ideal) m c = result (m ((c.tc : Thread nD τ).loc main_arg0)) (m ((c.tc : Thread nD τ).loc main_arg1)) (m ((c.tc : Thread nD τ).loc main_arg2))
      (m ((c.tc : Thread nD τ).loc main_arg6)) (m ((c.tc : Thread nD τ).loc main_arg7)) (m ((c.tc : Thread nD τ).loc main_arg8)) (m ((c.tc : Thread nD τ).loc main_arg9))
      (m ((c.tc : Thread nD τ).loc main_arg10)) (m ((c.tc : Thread nD τ).loc main_arg11)) := by
  unfold Value.res_main_v62
  rfl

end Cert.RefStages

end
-- ==== Proof.RefAt.lean ====
/- The reference's stages read at an index. -/
module

public import proofs.«01_k».proof.Proof.RefStages
public import proofs.«01_k».proof.Proof.Spec

@[expose] public section

set_option maxRecDepth 16384
set_option maxHeartbeats 1000000

noncomputable section

namespace Cert.RefStages

open Cert.ReferenceIdeal Cert.ReferenceIdeal.Gen
open Idealize.ShloMosaic Cert.Spec

/-- The word of minus infinity. -/
theorem bits_bot : Ideal.ofBits .f32 0xFF800000#32 = ⊥ := by simp [Ideal.ofBits, Ideal.ieee]

/-- The word of an eighth. -/
theorem bits_eighth : Ideal.ofBits .f32 0x3E000000#32 = ((1 / 8 : ℝ) : EReal) := by
  simp [Ideal.ofBits, Ideal.ieee]
  rw [← EReal.coe_mul]
  norm_num

/-- A score before the mask: the product of the two rows over the lanes, times an eighth. -/
theorem raw_at (q k : FVec Ideal S2x16384x512 .f32) (b : Fin 2) (h : Fin 4) (p : Fin 2) (i j : Fin 16384) :
    raw q k (ix5 b h p i j) = (∑ x, q (ix3 b i (lane h p x)) * k (ix3 b j (lane h p x))) * ((1 / 8 : ℝ) : EReal) := by
  pointwise [raw]
  rw [bits_eighth]
  rfl

/-- The mask keeps a key no later than the query. -/
theorem mask_at (i j : Fin 16384) : mask (ix2 i j) = BitVec.ofBool (decide (j ≤ i)) := by
  have e : mask (ix2 i j) = IntOp.cmpi .sge (BitVec.ofNat 32 i.val) (BitVec.ofNat 32 j.val) := by
    pointwise [mask]
  have e' : IntOp.cmpi .sge (BitVec.ofNat 32 i.val) (BitVec.ofNat 32 j.val) = BitVec.ofBool (BitVec.sle (BitVec.ofNat 32 j.val) (BitVec.ofNat 32 i.val)) := rfl
  have h : ∀ x : Fin 16384, (BitVec.ofNat 32 x.val).toInt = (x.val : ℤ) := fun x => by
    rw [BitVec.toInt_eq_toNat_of_lt] <;> rw [BitVec.toNat_ofNat] <;> omega
  rw [e, e', BitVec.sle, h, h]
  congr 2
  exact propext Int.ofNat_le

/-- A select by a decided bit. -/
theorem select_bool {α : Type} (c : Bool) (u v : α) : Scalar.select (BitVec.ofBool c) u v = if c then u else v := by cases c <;> rfl

/-- A masked score. -/
theorem scores_at (q k : FVec Ideal S2x16384x512 .f32) (b : Fin 2) (h : Fin 4) (p : Fin 2) (i j : Fin 16384) :
    scores q k (ix5 b h p i j) = if j ≤ i then raw q k (ix5 b h p i j) else ⊥ := by
  have e : ∀ M : IVec S16384x16384 1, select (broadcastInDim S2x4x2x16384x16384 ![3, 4] bcast_S16384x16384_S2x4x2x16384x16384_3_4 M) (raw q k)
      (broadcastInDim S2x4x2x16384x16384 ![] bcast_S_S2x4x2x16384x16384 (constant (F := Ideal) S_ .f32 0xFF800000#32)) (ix5 b h p i j) =
      Scalar.select (M (ix2 i j)) (raw q k (ix5 b h p i j)) (Ideal.ofBits .f32 0xFF800000#32) := fun M => by
    pointwise []
  refine (e mask).trans ?_
  rw [mask_at, bits_bot, select_bool]
  generalize raw q k (ix5 b h p i j) = R
  by_cases hh : j ≤ i
  · rw [if_pos hh, decide_eq_true hh, if_pos rfl]
  · rw [if_neg hh, decide_eq_false hh, if_neg Bool.false_ne_true]

/-- A row's greatest score. -/
theorem top_at (s : FVec Ideal S2x4x2x16384x16384 .f32) (b : Fin 2) (h : Fin 4) (p : Fin 2) (i : Fin 16384) :
    top s (ix4 b h p i) = Finset.univ.fold max ⊥ fun j => s (ix5 b h p i j) := by
  have e : ∀ T : FVec Ideal S2x4x2x16384 .f32, maximumf (broadcastInDim S2x4x2x16384 ![] bcast_S_S2x4x2x16384 (constant (F := Ideal) S_ .f32 0xFF800000#32)) T (ix4 b h p i) = max (Ideal.ofBits .f32 0xFF800000#32) (T (ix4 b h p i)) := fun T => by
    pointwise []
  unfold top
  rw [e, bits_bot, max_eq_right bot_le]
  have f : Host.reduce FloatOps.maximumf s (constant (F := Ideal) S_ .f32 0xFF800000#32) reducesTo_S2x4x2x16384x16384_S2x4x2x16384_d4 h_S_ (ix4 b h p i) = Finset.univ.fold max (Ideal.ofBits .f32 0xFF800000#32) fun j => s (ix5 b h p i j) := by
    pointwise []
  rw [f, bits_bot]

/-- A shifted score's exponential. -/
theorem expo_at (s : FVec Ideal S2x4x2x16384x16384 .f32) (b : Fin 2) (h : Fin 4) (p : Fin 2) (i j : Fin 16384) :
    expo s (ix5 b h p i j) = Ideal.exp (s (ix5 b h p i j) - top s (ix4 b h p i)) := by
  pointwise [expo]

/-- The softmax's quotient. -/
theorem soft_at (s : FVec Ideal S2x4x2x16384x16384 .f32) (b : Fin 2) (h : Fin 4) (p : Fin 2) (i j : Fin 16384) :
    soft s (ix5 b h p i j) = Ideal.div (s (ix5 b h p i j)) (∑ x, s (ix5 b h p i x)) := by
  pointwise [soft]

/-- The second map's factor. -/
theorem lamb_at (a b c d : FVec Ideal S64 .f32) (l : FVec Ideal S1 .f32) :
    lamb a b c d l (ix1 0) = Ideal.exp (∑ x, a (ix1 x) * b (ix1 x)) - Ideal.exp (∑ x, c (ix1 x) * d (ix1 x)) + l (ix1 0) := by
  pointwise [lamb]

/-- The difference of the two maps. -/
theorem diff_at (s : FVec Ideal S2x4x2x16384x16384 .f32) (l : FVec Ideal S1 .f32) (b : Fin 2) (h : Fin 4) (i j : Fin 16384) :
    diff s l (ix4 b h i j) = s (ix5 b h 0 i j) - l (ix1 0) * s (ix5 b h 1 i j) := by
  pointwise [diff]

/-- The product with the values. -/
theorem attn_at (v : FVec Ideal S2x16384x512 .f32) (d : FVec Ideal S2x4x16384x16384 .f32) (b : Fin 2) (h : Fin 4) (i : Fin 16384) (e : Fin 128) :
    attn v d (ix4 b i h e) = ∑ x, v (ix3 b x (vlane h e)) * d (ix4 b h i x) := by
  pointwise [attn]
  rfl

/-- The norm over the lanes, with its gains. -/
theorem norm_at (a : FVec Ideal S2x16384x4x128 .f32) (g : FVec Ideal S128 .f32) (l : FVec Ideal S1 .f32)  (b : Fin 2) (h : Fin 4) (i : Fin 16384) (e : Fin 128) :
    norm a g l (ix4 b i h e) = a (ix4 b i h e) * Ideal.rsqrt (Ideal.div (∑ x, a (ix4 b i h x) * a (ix4 b i h x)) (Ideal.ofBits .f32 0x43000000#32) + Ideal.ofBits .f32 0x3727C5AC#32) *
      g (ix1 e) * (1 - l (ix1 0)) := by
  pointwise [norm]

/-- The reshape to the result's columns, and the last cast. -/
theorem flat_at (a : FVec Ideal S2x16384x4x128 .f32) (b : Fin 2) (i : Fin 16384) (h : Fin 4) (e : Fin 128) :
    (truncf .bf16 (shapeCast S2x16384x512 a shapeCasts_S2x16384x4x128_S2x16384x512) bitsLt_bf16_f32 : FVec Ideal S2x16384x512 .bf16) (ix3 b i (vlane h e)) = a (ix4 b i h e) := by
  pointwise []
  congr 2 <;> (apply Fin.ext; have := e.isLt; simp only [vlane]; omega)

end Cert.RefStages

end
-- ==== Proof.RefValue.lean ====
/- The reference's result on finite arguments, as the differential attention in real numbers. -/
module

public import proofs.«01_k».proof.Proof.RefAt
public import proofs.«01_k».proof.Proof.Online
public import proofs.«01_k».proof.Proof.Spec

@[expose] public section

set_option maxRecDepth 16384

noncomputable section

namespace Cert.RefValue

open Cert.ReferenceIdeal Cert.RefStages Cert.Online
open Idealize.ShloMosaic

/-- A masked row's softmax, in real numbers: the shift by the row's maximum leaves it unchanged. -/
theorem soft_real (S : Fin 16384 → ℝ) (i : Fin 16384) (f : Fin 16384 → EReal) (hf : ∀ j, f j = if j ≤ i then (S j : EReal) else ⊥) (j : Fin 16384) :
    Ideal.div (Ideal.exp (f j - Finset.univ.fold max ⊥ f)) (∑ x, Ideal.exp (f x - Finset.univ.fold max ⊥ f))
      = (((if j ≤ i then Real.exp (S j) else 0) / ∑ x, (if x ≤ i then Real.exp (S x) else 0) : ℝ) : EReal) := by
  have hi : f i = (S i : EReal) := by rw [hf, if_pos le_rfl]
  have htop : Finset.univ.fold max ⊥ f ≠ ⊤ := fold_max_ne_top f fun c => by
    rw [hf]
    split
    · exact EReal.coe_ne_top _
    · exact bot_ne_top
  have hbot : Finset.univ.fold max ⊥ f ≠ ⊥ := by
    have h : f i ≤ Finset.univ.fold max ⊥ f := (Finset.le_fold_max _).2 (Or.inr ⟨i, Finset.mem_univ _, le_rfl⟩)
    intro e
    rw [e, hi] at h
    exact EReal.coe_ne_bot _ (le_bot_iff.1 h)
  obtain ⟨μ, hμ⟩ : ∃ μ : ℝ, Finset.univ.fold max ⊥ f = (μ : EReal) := ⟨_, (EReal.coe_toReal htop hbot).symm⟩
  rw [hμ]
  have hexp : ∀ x, Ideal.exp (f x - (μ : EReal)) = (((if x ≤ i then Real.exp (S x) else 0) * Real.exp (-μ) : ℝ) : EReal) := fun x => by
    rw [hf]
    by_cases h : x ≤ i
    · rw [if_pos h, if_pos h, ← EReal.coe_sub, sub_eq_add_neg, ← Real.exp_add]
      rfl
    · rw [if_neg h, if_neg h, EReal.bot_sub, zero_mul]
      rfl
  have hpos : 0 < ∑ x : Fin 16384, (if x ≤ i then Real.exp (S x) else 0) :=
    Finset.sum_pos' (fun x _ => by split; exacts [(Real.exp_pos _).le, le_rfl]) ⟨i, Finset.mem_univ _, by rw [if_pos le_rfl]; exact Real.exp_pos _⟩
  have hμ0 : Real.exp (-μ) ≠ 0 := (Real.exp_pos _).ne'
  rw [hexp, Finset.sum_congr rfl fun x _ => hexp x, ← coe_sum, ← Finset.sum_mul, Ideal.div_coe (mul_ne_zero hpos.ne' hμ0), ← EReal.coe_mul]
  refine congrArg (fun r : ℝ => (r : EReal)) ?_
  generalize (∑ x : Fin 16384, (if x ≤ i then Real.exp (S x) else 0)) = Z at hpos ⊢
  have := hpos.ne'
  field_simp

variable {q k v : FVec Ideal S2x16384x512 .f32} {a b c d : FVec Ideal S64 .f32} {l : FVec Ideal S1 .f32} {g : FVec Ideal S128 .f32}
variable {Q K V : Fin 2 → Fin 16384 → Fin 512 → ℝ} {A B C D : Fin 64 → ℝ} {L : ℝ}

/-- A row of the reference's softmax on finite queries and keys. -/
theorem soft_spec (hq : ∀ b s o, q (ix3 b s o) = (Q b s o : EReal)) (hk : ∀ b s o, k (ix3 b s o) = (K b s o : EReal))
    (b : Fin 2) (h : Fin 4) (p : Fin 2) (i j : Fin 16384) :
    soft (expo (scores q k)) (ix5 b h p i j) = ((Spec.w Q K b h p i j / ∑ x, Spec.w Q K b h p i x : ℝ) : EReal) := by
  have hraw : ∀ j, raw q k (ix5 b h p i j) = (Spec.sc Q K b h p i j : EReal) := fun j => by
    rw [raw_at, Spec.sc, EReal.coe_mul, coe_sum]
    congr 1
    exact Finset.sum_congr rfl fun x _ => by rw [hq, hk, EReal.coe_mul]
  rw [soft_at, expo_at, top_at]
  simp only [expo_at, top_at]
  exact soft_real (fun j => Spec.sc Q K b h p i j) i (fun j => scores q k (ix5 b h p i j)) (fun j => by rw [scores_at, hraw]) j

/-- The second map's factor on finite vectors. -/
theorem lamb_spec (ha : ∀ x, a (ix1 x) = (A x : EReal)) (hb : ∀ x, b (ix1 x) = (B x : EReal)) (hc : ∀ x, c (ix1 x) = (C x : EReal)) (hd : ∀ x, d (ix1 x) = (D x : EReal))
    (hl : l (ix1 0) = (L : EReal)) : lamb a b c d l (ix1 0) = (Spec.lam A B C D L : EReal) := by
  rw [lamb_at, hl]
  simp only [ha, hb, hc, hd, ← EReal.coe_mul, ← coe_sum]
  rw [Spec.lam, EReal.coe_add, EReal.coe_sub]
  rfl

/-- The difference of the two maps on finite arguments. -/
theorem attn_spec (hq : ∀ b s o, q (ix3 b s o) = (Q b s o : EReal)) (hk : ∀ b s o, k (ix3 b s o) = (K b s o : EReal)) (hv : ∀ b s o, v (ix3 b s o) = (V b s o : EReal))
    {w : FVec Ideal S1 .f32} {W : ℝ} (hw : w (ix1 0) = (W : EReal)) (b : Fin 2) (h : Fin 4) (i : Fin 16384) (e : Fin 128) :
    attn v (diff (soft (expo (scores q k))) w) (ix4 b i h e) = ((Spec.att Q K V b h 0 i e - W * Spec.att Q K V b h 1 i e : ℝ) : EReal) := by
  rw [attn_at]
  simp only [diff_at, soft_spec hq hk, hv, hw, ← EReal.coe_mul, ← EReal.coe_sub, ← coe_sum]
  refine congrArg (fun r : ℝ => (r : EReal)) ?_
  rw [Spec.att, Spec.att, Finset.sum_div, Finset.sum_div, Finset.mul_sum, ← Finset.sum_sub_distrib]
  exact Finset.sum_congr rfl fun x _ => by ring

/-- The reference's result on finite arguments (the gains may be any). -/
theorem result_spec (hq : ∀ b s o, q (ix3 b s o) = (Q b s o : EReal)) (hk : ∀ b s o, k (ix3 b s o) = (K b s o : EReal)) (hv : ∀ b s o, v (ix3 b s o) = (V b s o : EReal))
    (ha : ∀ x, a (ix1 x) = (A x : EReal)) (hb : ∀ x, b (ix1 x) = (B x : EReal)) (hc : ∀ x, c (ix1 x) = (C x : EReal)) (hd : ∀ x, d (ix1 x) = (D x : EReal))
    (hl : l (ix1 0) = (L : EReal)) (n : Fin 2) (i : Fin 16384) (h : Fin 4) (e : Fin 128) :
    result q k v a b c d l g (ix3 n i (Spec.vlane h e)) = Spec.out Q K V A B C D L (fun e => g (ix1 e)) n i h e := by
  unfold result
  refine (flat_at _ n i h e).trans ?_
  rw [norm_at, hl]
  simp only [attn_spec hq hk hv (lamb_spec ha hb hc hd hl)]
  rfl

end Cert.RefValue

end
-- ==== Proof.Proj2.lean ====
/- The output projection: a block of the kernel at an index, and the reference at an index. -/
module

public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import Idealize.ShloMosaic.Lib.StableHlo.Run
public import Idealize.ShloMosaic.Lib.Routing.OpsSet
public import Idealize.ShloMosaic.Lib.Pipeline.ValueKit

@[expose] public section

set_option maxRecDepth 16384
set_option maxHeartbeats 2000000

noncomputable section

namespace Cert.Proj2

open Idealize.ShloMosaic Idealize.ShloMosaic.TcCoe Idealize.ShloMosaic.Pipeline

/-- A gate's activation: the gate over one plus the exponential of its negative. -/
def act (g : EReal) : EReal := Ideal.div g (1 + Ideal.exp (-g))

/-- One row's gated branch outputs times the projection's column. -/
def mix (o g : Fin 1024 → EReal) (w : Fin 1024 → Fin 1024 → EReal) (e : Fin 1024) : EReal := ∑ k, o k * act (g k) * w k e

/-- The row with its scaled residual. -/
def resid (x o g : Fin 1024 → EReal) (w : Fin 1024 → Fin 1024 → EReal) (e : Fin 1024) : EReal := Ideal.ofBits .f32 0x3FD744FD#32 * x e + mix o g w e

/-- A row's mean. -/
def mean (y : Fin 1024 → EReal) : EReal := Ideal.div (∑ k, y k) (Ideal.ofBits .f32 0x44800000#32)

/-- The layer norm of a row at a column, with the column's gain and bias. -/
def norm (y : Fin 1024 → EReal) (a b : EReal) (e : Fin 1024) : EReal :=
  (y e - mean y) * Ideal.rsqrt (mean (fun k => (y k - mean y) * (y k - mean y)) + Ideal.ofBits .f32 0x3727C5AC#32) * a + b

/-- The three branch outputs of a row side by side. -/
def cat (a : Fin 512 → EReal) (b c : Fin 256 → EReal) (k : Fin 1024) : EReal :=
  if h : k.val < 512 then a ⟨k.val, h⟩ else if h' : k.val - 512 < 256 then b ⟨k.val - 512, h'⟩ else c ⟨k.val - 768, by have := k.isLt; omega⟩

/-- The word of one. -/
theorem bits_one : Ideal.ofBits .f32 0x3F800000#32 = 1 := by
  simp [Ideal.ofBits, Ideal.ieee]
  rw [← EReal.coe_mul]
  norm_num

/-- The word of zero. -/
theorem bits_zero : Ideal.ofBits .f32 0x00000000#32 = 0 := by simp [Ideal.ofBits, Ideal.ieee]

/-- A sum over 1024 columns in the three parts. -/
theorem sum_split (f : Fin 1024 → EReal) : ∑ k, f k =
    ∑ k : Fin 512, f ⟨k.val, by omega⟩ + ∑ k : Fin 256, f ⟨512 + k.val, by omega⟩ + ∑ k : Fin 256, f ⟨768 + k.val, by omega⟩ := by
  have e1 := Fin.sum_univ_add (a := 768) (b := 256) f
  have e2 := Fin.sum_univ_add (a := 512) (b := 256) fun k => f (Fin.castAdd 256 k)
  exact e1.trans (congrArg (· + _) e2)

/-- The activation's denominator is not zero. -/
theorem den_ne (g : EReal) : 1 + Ideal.exp (-g) ≠ 0 := by
  have h : 0 ≤ Ideal.exp (-g) := by
    induction hg : -g using EReal.rec with
    | bot => exact le_rfl
    | top => exact le_top
    | coe r => exact EReal.coe_nonneg.mpr (Real.exp_nonneg r)
  exact ne_of_gt (lt_of_lt_of_le zero_lt_one (le_add_of_nonneg_right h))

/-- The gate times the logistic is the activation. -/
theorem act_eq (g : EReal) : g * Ideal.div 1 (1 + Ideal.exp (-g)) = act g := by
  rw [act, Ideal.div, Ideal.div, if_neg (den_ne g), if_neg (den_ne g), one_mul]

section Kernel

open Cert.Kernel2Ideal Cert.Kernel2Ideal.Gen

/-- The norm's stage at an index. -/
theorem pay1_at (v33 v36 : FVec Ideal S512x1024 .f32) (v54 v58 : Vec Ideal S1x1024 .f32) (r : Fin 512) (e : Fin 1024) :
    k0_pay1 v33 v36 v54 v58 (ix2 r e) = norm (fun k => v36 (ix2 r k) + v33 (ix2 r k)) (v54 (ix2 0 e)) (v58 (ix2 0 e)) e := by
  pointwise [k0_pay1]
  rfl

/-- The residual's stage at an index. -/
theorem pay3_at (v : Vec Ideal S512x1024 .f32) (r : Fin 512) (e : Fin 1024) : k0_pay3 v (ix2 r e) = Ideal.ofBits .f32 0x3FD744FD#32 * v (ix2 r e) := by
  pointwise [k0_pay3]

/-- The three products at an index. -/
theorem pay2_at (v0 : Vec Ideal S512x1024 .bf16) (v8 : Vec Ideal S512x512 .bf16) (v13 : Vec Ideal S512x1024 .bf16) (v16 : Vec Ideal S512x256 .bf16) (v21 : Vec Ideal S256x1024 .bf16)
    (v25 : Vec Ideal S512x256 .bf16) (v30 : Vec Ideal S256x1024 .bf16) (r : Fin 512) (e : Fin 1024) (w : Fin 1024 → Fin 1024 → EReal)
    (h13 : ∀ k : Fin 512, v13 (ix2 k e) = w ⟨k.val, by omega⟩ e) (h21 : ∀ k : Fin 256, v21 (ix2 k e) = w ⟨512 + k.val, by omega⟩ e) (h30 : ∀ k : Fin 256, v30 (ix2 k e) = w ⟨768 + k.val, by omega⟩ e) :
    k0_pay2 v0 v8 v13 v16 v21 v25 v30 (ix2 r e) =
      mix (cat (fun k => v8 (ix2 r k)) (fun k => v16 (ix2 r k)) fun k => v25 (ix2 r k)) (fun k => v0 (ix2 r k)) w e := by
  have e0 : k0_pay2 v0 v8 v13 v16 v21 v25 v30 (ix2 r e) =
      ∑ k : Fin 512, v8 (ix2 r k) * act (v0 (ix2 r ⟨k.val, by omega⟩)) * v13 (ix2 k e) + ∑ k : Fin 256, v16 (ix2 r k) * act (v0 (ix2 r ⟨512 + k.val, by omega⟩)) * v21 (ix2 k e)
        + ∑ k : Fin 256, v25 (ix2 r k) * act (v0 (ix2 r ⟨768 + k.val, by omega⟩)) * v30 (ix2 k e) := by
    pointwise [k0_pay2]
    simp only [bits_one, bits_zero, zero_sub]
    rfl
  rw [e0, mix, sum_split]
  congr 1
  · congr 1
    · refine Finset.sum_congr rfl fun k _ => ?_
      rw [h13, cat, dif_pos k.isLt]
    · refine Finset.sum_congr rfl fun k _ => ?_
      have h1 : ¬ 512 + k.val < 512 := by omega
      have h2 : 512 + k.val - 512 < 256 := by omega
      have h3 : (⟨512 + k.val - 512, h2⟩ : Fin 256) = k := Fin.ext (by show 512 + k.val - 512 = k.val; omega)
      rw [h21, cat, dif_neg h1, dif_pos h2, h3]
  · refine Finset.sum_congr rfl fun k _ => ?_
    have h1 : ¬ 768 + k.val < 512 := by omega
    have h2 : ¬ 768 + k.val - 512 < 256 := by omega
    have h3 : (⟨768 + k.val - 768, by omega⟩ : Fin 256) = k := Fin.ext (by show 768 + k.val - 768 = k.val; omega)
    rw [h30, cat, dif_neg h1, dif_neg h2, h3]

end Kernel

section Reference

open Cert.Reference2Ideal Cert.Reference2Ideal.Gen

/-- The reference's row before the norm, as an array. -/
def rows (x : FVec Ideal S32768x1024 .f32) (b : FVec Ideal S32768x2560 .bf16) (u : FVec Ideal S32768x512 .bf16) (v z : FVec Ideal S32768x256 .bf16) (w : FVec Ideal S1024x1024 .f32) : FVec Ideal S32768x1024 .f32 :=
  addf (mulf (broadcastInDim S32768x1024 ![] bcast_S_S32768x1024 (constant S_ .f32 0x3FD744FD#32)) x) (Host.dotGeneral dot_S32768x1024_S1024x1024_S32768x1024_1_0_0_1_n_n none (mulf (extf .f32 ((concatenate S32768x1024 1 [⟨S32768x512, u⟩, ⟨S32768x256, v⟩, ⟨S32768x256, z⟩] concatenates_S32768x512_S32768x256_S32768x256_S32768x1024_d1)) bitsLt_bf16_f32) (mulf (extf .f32 (extractStridedSlice S32768x1024 ![0, 0] b slices_S32768x2560_S32768x1024_0_0) bitsLt_bf16_f32) (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 (extractStridedSlice S32768x1024 ![0, 0] b slices_S32768x2560_S32768x1024_0_0) bitsLt_bf16_f32))))))) w)

/-- The reference's layer norm of an array's rows. -/
def normed (y : FVec Ideal S32768x1024 .f32) (a b : FVec Ideal S1024 .f32) : FVec Ideal S32768x1024 .f32 :=
  addf (mulf (mulf (subf y (broadcastInDim S32768x1024 ![0, 1] bcast_S32768x1_S32768x1024_0_1 (Host.divf (broadcastInDim S32768x1 ![0] bcast_S32768_S32768x1_0 (Host.reduceAdd y (constant S_ .f32 0x00000000#32) reducesTo_S32768x1024_S32768_d1 h_S_)) (broadcastInDim S32768x1 ![] bcast_S_S32768x1 (constant S_ .f32 0x44800000#32))))) (broadcastInDim S32768x1024 ![0, 1] bcast_S32768x1_S32768x1024_0_1 (Host.rsqrt (addf (Host.divf (broadcastInDim S32768x1 ![0] bcast_S32768_S32768x1_0 (Host.reduceAdd (mulf (subf y (broadcastInDim S32768x1024 ![0, 1] bcast_S32768x1_S32768x1024_0_1 (Host.divf (broadcastInDim S32768x1 ![0] bcast_S32768_S32768x1_0 (Host.reduceAdd y (constant S_ .f32 0x00000000#32) reducesTo_S32768x1024_S32768_d1 h_S_)) (broadcastInDim S32768x1 ![] bcast_S_S32768x1 (constant S_ .f32 0x44800000#32))))) (subf y (broadcastInDim S32768x1024 ![0, 1] bcast_S32768x1_S32768x1024_0_1 (Host.divf (broadcastInDim S32768x1 ![0] bcast_S32768_S32768x1_0 (Host.reduceAdd y (constant S_ .f32 0x00000000#32) reducesTo_S32768x1024_S32768_d1 h_S_)) (broadcastInDim S32768x1 ![] bcast_S_S32768x1 (constant S_ .f32 0x44800000#32)))))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 (broadcastInDim S1x1024 ![1] bcast_S1024_S1x1024_1 a))) (broadcastInDim S32768x1024 ![0, 1] bcast_S1x1024_S32768x1024_0_1 (broadcastInDim S1x1024 ![1] bcast_S1024_S1x1024_1 b))

/-- The reference's result is the norm of its rows. -/
theorem res_eq (m : (ℓ : Loc nD τ sig) → Buf (Elt Ideal) ℓ) (c : Dev nD) : Cert.Reference2Ideal.Value.res_out0 m c =
    normed (rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      (m ((c.tc : Thread nD τ).loc main_arg6)) (m ((c.tc : Thread nD τ).loc main_arg7)) := by
  rfl

/-- The reference's norm at an index. -/
theorem normed_at (y : FVec Ideal S32768x1024 .f32) (a b : FVec Ideal S1024 .f32) (r : Fin 32768) (e : Fin 1024) :
    normed y a b (ix2 r e) = norm (fun k => y (ix2 r k)) (a (ix1 e)) (b (ix1 e)) e := by
  pointwise [normed]
  rfl

/-- The reference's row at a column. -/
theorem rows_at (x : FVec Ideal S32768x1024 .f32) (b : FVec Ideal S32768x2560 .bf16) (u : FVec Ideal S32768x512 .bf16) (v z : FVec Ideal S32768x256 .bf16) (w : FVec Ideal S1024x1024 .f32) (r : Fin 32768) (e : Fin 1024) :
    rows x b u v z w (ix2 r e) = resid (fun k => x (ix2 r k)) (cat (fun k => u (ix2 r k)) (fun k => v (ix2 r k)) fun k => z (ix2 r k)) (fun k => b (ix2 r ⟨k.val, by omega⟩)) (fun k j => w (ix2 k j)) e := by
  pointwise [rows]
  simp only [bits_one, act_eq]
  rfl

end Reference

end Cert.Proj2

end
-- ==== Proof.Arr2.lean ====
/- The output projection's array after the run, and its equality with the reference. -/
module

public import proofs.«01_k».proof.Proof.Proj2

@[expose] public section

set_option maxRecDepth 16384
set_option maxHeartbeats 2000000

noncomputable section

namespace Cert.Arr2

open Cert.Kernel2Ideal Cert.Kernel2Ideal.Gen Cert.Proj2
open Idealize.ShloMosaic Idealize.ShloMosaic.TcCoe Idealize.ShloMosaic.Pipeline Idealize.SL.Sem

variable (m : (ℓ : Loc nD τ sig) → Buf (Elt Ideal) ℓ) (c : Dev nD)

/-- The weights as the call reads them. -/
def cast16 (w : FVec Ideal S1024x1024 .f32) : FVec Ideal S1024x1024 .bf16 := truncf .bf16 w bitsLt_bf16_f32

/-- The projection's weights at the call. -/
theorem V_w : V m c main_v0 = cast16 (m ((c : Thread nD τ).loc main_arg5)) := by
  unfold V
  simp only [hostOps0]
  after_results_simp <;> rfl

/-- The norm's gains at the call. -/
theorem V_g : V m c main_v1 = shapeCast S1x1024 (m ((c : Thread nD τ).loc main_arg6)) shapeCasts_S1024_S1x1024 := by
  unfold V
  simp only [hostOps0]
  after_results_simp <;> rfl

/-- The norm's biases at the call. -/
theorem V_b : V m c main_v2 = shapeCast S1x1024 (m ((c : Thread nD τ).loc main_arg7)) shapeCasts_S1024_S1x1024 := by
  unfold V
  simp only [hostOps0]
  after_results_simp <;> rfl

/-- The windows' block indices at point `t`. -/
theorem index_at (t : Fin cfg0.N) : win0_0.index t = ![t.val, 0] ∧ win0_1.index t = ![t.val, 0] ∧ win0_2.index t = ![t.val, 0] ∧ win0_3.index t = ![t.val, 0] ∧ win0_4.index t = ![t.val, 0]
    ∧ win0_5.index t = ![0, 0] ∧ win0_6.index t = ![2, 0] ∧ win0_7.index t = ![3, 0] ∧ win0_8.index t = ![0, 0] ∧ win0_9.index t = ![0, 0] ∧ win0_10.index t = ![t.val, 0] := by
  revert t
  decide +kernel

/-- Row `r` of point `t`'s blocks. -/
def row (t : Fin cfg0.N) (r : Fin 512) : Fin 32768 := ⟨t.val * 512 + r.val, by have h : t.val < 64 := t.isLt; omega⟩

/-- The residual's block. -/
theorem blk0 (t : Fin cfg0.N) (r : Fin 512) (k : Fin 1024) : iblk m c 0 t (ix2 r k) = m ((c : Thread nD τ).loc main_arg0) (ix2 (row t r) k) := by
  rw [← V_main_arg0 m c]
  blk_ext [iblk, index_at t, row]

/-- The gate's block. -/
theorem blk1 (t : Fin cfg0.N) (r : Fin 512) (k : Fin 1024) : X0_1 m c t (ix2 r k) = m ((c : Thread nD τ).loc main_arg1) (ix2 (row t r) ⟨k.val, by omega⟩) := by
  rw [← V_main_arg1 m c]
  unfold X0_1 Window.fill
  rw [dif_pos (moved0_1 t (ix2 r k))]
  blk_ext [iblk, index_at t, row]

/-- The first branch's block. -/
theorem blk2 (t : Fin cfg0.N) (r : Fin 512) (k : Fin 512) : iblk m c 2 t (ix2 r k) = m ((c : Thread nD τ).loc main_arg2) (ix2 (row t r) k) := by
  rw [← V_main_arg2 m c]
  blk_ext [iblk, index_at t, row]

/-- The second branch's block. -/
theorem blk3 (t : Fin cfg0.N) (r : Fin 512) (k : Fin 256) : iblk m c 3 t (ix2 r k) = m ((c : Thread nD τ).loc main_arg3) (ix2 (row t r) k) := by
  rw [← V_main_arg3 m c]
  blk_ext [iblk, index_at t, row]

/-- The third branch's block. -/
theorem blk4 (t : Fin cfg0.N) (r : Fin 512) (k : Fin 256) : iblk m c 4 t (ix2 r k) = m ((c : Thread nD τ).loc main_arg4) (ix2 (row t r) k) := by
  rw [← V_main_arg4 m c]
  blk_ext [iblk, index_at t, row]

/-- The first branch's rows of the weights. -/
theorem blk5 (t : Fin cfg0.N) (k : Fin 512) (e : Fin 1024) : iblk m c 5 t (ix2 k e) = m ((c : Thread nD τ).loc main_arg5) (ix2 ⟨k.val, by omega⟩ e) := by
  have h : iblk m c 5 t (ix2 k e) = V m c main_v0 (ix2 ⟨k.val, by omega⟩ e) := by
    blk_ext [iblk, index_at t]
  rw [h, V_w]
  rfl

/-- The second branch's rows of the weights. -/
theorem blk6 (t : Fin cfg0.N) (k : Fin 256) (e : Fin 1024) : iblk m c 6 t (ix2 k e) = m ((c : Thread nD τ).loc main_arg5) (ix2 ⟨512 + k.val, by omega⟩ e) := by
  have h : iblk m c 6 t (ix2 k e) = V m c main_v0 (ix2 ⟨512 + k.val, by omega⟩ e) := by
    blk_ext [iblk, index_at t]
  rw [h, V_w]
  rfl

/-- The third branch's rows of the weights. -/
theorem blk7 (t : Fin cfg0.N) (k : Fin 256) (e : Fin 1024) : iblk m c 7 t (ix2 k e) = m ((c : Thread nD τ).loc main_arg5) (ix2 ⟨768 + k.val, by omega⟩ e) := by
  have h : iblk m c 7 t (ix2 k e) = V m c main_v0 (ix2 ⟨768 + k.val, by omega⟩ e) := by
    blk_ext [iblk, index_at t]
  rw [h, V_w]
  rfl

/-- The gains' block. -/
theorem blk8 (t : Fin cfg0.N) (e : Fin 1024) : iblk m c 8 t (ix2 0 e) = m ((c : Thread nD τ).loc main_arg6) (ix1 e) := by
  have h : iblk m c 8 t (ix2 0 e) = V m c main_v1 (ix2 0 e) := by
    blk_ext [iblk, index_at t]
  rw [h, V_g]
  pointwise []

/-- The biases' block. -/
theorem blk9 (t : Fin cfg0.N) (e : Fin 1024) : iblk m c 9 t (ix2 0 e) = m ((c : Thread nD τ).loc main_arg7) (ix1 e) := by
  have h : iblk m c 9 t (ix2 0 e) = V m c main_v2 (ix2 0 e) := by
    blk_ext [iblk, index_at t]
  rw [h, V_b]
  pointwise []

/-- The layer's output at row `r` and column `e`, from the arguments. -/
def outAt (r : Fin 32768) (e : Fin 1024) : EReal :=
  norm (resid (fun k => m ((c : Thread nD τ).loc main_arg0) (ix2 r k))
      (cat (fun k => m ((c : Thread nD τ).loc main_arg2) (ix2 r k)) (fun k => m ((c : Thread nD τ).loc main_arg3) (ix2 r k)) fun k => m ((c : Thread nD τ).loc main_arg4) (ix2 r k))
      (fun k => m ((c : Thread nD τ).loc main_arg1) (ix2 r ⟨k.val, by omega⟩)) fun k j => m ((c : Thread nD τ).loc main_arg5) (ix2 k j))
    (m ((c : Thread nD τ).loc main_arg6) (ix1 e)) (m ((c : Thread nD τ).loc main_arg7) (ix1 e)) e

/-- What a grid point writes, at an index. -/
theorem point (t : Fin cfg0.N) (r : Fin 512) (e : Fin 1024) : outsAt0 m c t (ix2 r e) = outAt m c (row t r) e := by
  unfold outsAt0
  frame_out
  rw [pay1_at, blk8, blk9, outAt]
  congr 1
  funext j
  rw [pay3_at, pay2_at (w := fun k j => m ((c : Thread nD τ).loc main_arg5) (ix2 k j)) (h13 := fun k => blk5 m c t k j) (h21 := fun k => blk6 m c t k j) (h30 := fun k => blk7 m c t k j)]
  simp only [blk0, blk1, blk2, blk3, blk4, resid]

/-- The layer's output as an array. -/
def outArr : Vec Ideal S32768x1024 .f32 := fun y => outAt m c (y 0) (y 1)

/-- The grid's blocks make up the array. -/
theorem arr_eq : (dats m 0 c).arrAt 10 cfg0.N = outArr m c := by
  refine (dats m 0 c).arrAt_eq_of_covers 10 (outArr m c) (by decide +kernel) fun t hf y => ?_
  blk_simp
  rw [after0_10]
  have ht := (index_at t).2.2.2.2.2.2.2.2.2.2
  have e0 : ((win0_10.blk t).view.emb y) 0 = row t (y 0) := Fin.ext ((Window.rect_emb_val win0_10 t y 0 rfl).trans (by rw [ht]; rfl))
  have e1 : ((win0_10.blk t).view.emb y) 1 = y 1 := Fin.ext ((Window.rect_emb_val win0_10 t y 1 rfl).trans (by rw [ht]; show 0 * 1024 + (y 1).val = _; omega))
  rw [eq_ix2 y]
  refine (point m c t (y 0) (y 1)).trans ?_
  exact (congrArg₂ (outAt m c) e0 e1).symm

/-- A run leaves the layer's output in its result, and its arguments as they were. -/
theorem run_out (ρ : Dev nD → PrngReg) :
    θ_run defs (onTc (τ := τ) (main (F := Ideal))) ⟨m, fun _ => 0, ρ⟩ fun r => ∀ c : Dev nD,
      r.2.mem ((c.tc : Thread nD τ).loc main_v3) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (arr_eq m c), (h c).2⟩) (Cert.Kernel2Ideal.Value.run_blocks m ρ)

end Cert.Arr2

end
-- ==== Proof.Proj3.lean ====
/- The input projection: a block of the kernel at an index. -/
module

public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import Idealize.ShloMosaic.Lib.StableHlo.Run
public import Idealize.ShloMosaic.Lib.Routing.OpsSet
public import Idealize.ShloMosaic.Lib.Pipeline.ValueKit

@[expose] public section

set_option maxRecDepth 16384
set_option maxHeartbeats 4000000

noncomputable section

namespace Cert.Proj3

open Cert.Kernel3Ideal Cert.Kernel3Ideal.Gen
open Idealize.ShloMosaic Idealize.ShloMosaic.TcCoe Idealize.ShloMosaic.Pipeline

/-- A load of 512 columns at an index. -/
theorem ld_at {n : Nat} (x : Vec Ideal ⟨2, ![1024, n]⟩ .bf16) (o : Nat) (inb : ∀ a, (![0, o] : Fin 2 → Nat) a + S1024x512.size a ≤ (⟨2, ![1024, n]⟩ : Shape).size a) (k : Fin 1024) (l : Fin 512) (j : Fin n) (h : j.val = o + l.val) :
    View.ld x (Rect.unit (s := ⟨2, ![1024, n]⟩) ![0, o] S1024x512.size inb) (ix2 k l) = x (ix2 k j) := by
  refine View.ld_unit_apply_of x _ _ inb _ _ fun a => ?_
  match a with
  | ⟨0, _⟩ => show k.val = 0 + k.val; omega
  | ⟨1, _⟩ => exact h

/-- A stored block of the second product at an index. -/
theorem prod_at (x : FVec Ideal S512x1024 .f32) (w : FVec Ideal S1024x512 .bf16) (z : S512x512.Idx) :
    truncf .bf16 (matmul dot_S512x1024_S1024x512_S512x512_1_0_0_1_n_n none (truncf .bf16 (shapeCast S512x1024 x shapeCasts_S512x1024_S512x1024) bitsLt_bf16_f32)
      (shapeCast S1024x512 w shapeCasts_S1024x512_S1024x512) (constant S512x512 .f32 0x00000000#32)) bitsLt_bf16_f32 z = ∑ k : Fin 1024, x (ix2 (z 0) k) * w (ix2 k (z 1)) := by
  rw [eq_ix2 z]
  pointwise []

/-- A stored block of the rotated product at an index. -/
theorem rot_at (x : FVec Ideal S512x1024 .f32) (w v : FVec Ideal S1024x512 .bf16) (c s : FVec Ideal S512x128 .f32) (o : Nat) (hs : S512x512.Slices ![0, o] S512x128) (ho : o + 128 ≤ 512) (z : S512x128.Idx) :
    truncf .bf16 (addf (mulf (extractStridedSlice S512x128 ![0, o] (matmul dot_S512x1024_S1024x512_S512x512_1_0_0_1_n_n none (truncf .bf16 (shapeCast S512x1024 x shapeCasts_S512x1024_S512x1024) bitsLt_bf16_f32)
        (shapeCast S1024x512 w shapeCasts_S1024x512_S1024x512) (constant S512x512 .f32 0x00000000#32)) hs) (shapeCast S512x128 c shapeCasts_S512x128_S512x128))
      (mulf (extractStridedSlice S512x128 ![0, o] (matmul dot_S512x1024_S1024x512_S512x512_1_0_0_1_n_n none (truncf .bf16 (shapeCast S512x1024 x shapeCasts_S512x1024_S512x1024) bitsLt_bf16_f32)
        (shapeCast S1024x512 v shapeCasts_S1024x512_S1024x512) (constant S512x512 .f32 0x00000000#32)) hs) (shapeCast S512x128 s shapeCasts_S512x128_S512x128))) bitsLt_bf16_f32 z =
      (∑ k : Fin 1024, x (ix2 (z 0) k) * w (ix2 k ⟨o + (z 1).val, by have h : (z 1).val < 128 := (z 1).isLt; omega⟩)) * c (ix2 (z 0) (z 1)) +
        (∑ k : Fin 1024, x (ix2 (z 0) k) * v (ix2 k ⟨o + (z 1).val, by have h : (z 1).val < 128 := (z 1).isLt; omega⟩)) * s (ix2 (z 0) (z 1)) := by
  rw [eq_ix2 z]
  pointwise []

/-- A block of the second product at an index. -/
theorem outB_at (x0 : Vec Ideal S512x1024 .f32) (x1 x2 : Vec Ideal S1024x2048 .bf16) (x3 : Vec Ideal S1024x2560 .bf16) (x4 x5 : Vec Ideal S512x128 .f32) (y : S512x2560.Idx) :
    out0_7 x0 x1 x2 x3 x4 x5 y = ∑ k : Fin 1024, x0 (ix2 (y 0) k) * x3 (ix2 k (y 1)) := by
  canon_tiles z h
  all_goals (
    open_payloads
    refine (prod_at _ _ z).trans (Finset.sum_congr rfl fun k _ => ?_)
    rw [ld_at x3 _ _ k (z 1) (y 1) (by first | exact h1 | (rw [h1]; exact (Nat.zero_add _).symm)), show y 0 = z 0 from Fin.ext h0])

/-- A block of the rotated product at an index. -/
theorem outA_at (x0 : Vec Ideal S512x1024 .f32) (x1 x2 : Vec Ideal S1024x2048 .bf16) (x3 : Vec Ideal S1024x2560 .bf16) (x4 x5 : Vec Ideal S512x128 .f32) (y : S512x2048.Idx) :
    out0_6 x0 x1 x2 x3 x4 x5 y = (∑ k : Fin 1024, x0 (ix2 (y 0) k) * x1 (ix2 k (y 1))) * x4 (ix2 (y 0) ⟨(y 1).val % 128, Nat.mod_lt _ (by decide)⟩) +
      (∑ k : Fin 1024, x0 (ix2 (y 0) k) * x2 (ix2 k (y 1))) * x5 (ix2 (y 0) ⟨(y 1).val % 128, Nat.mod_lt _ (by decide)⟩) := by
  canon_tiles z h
  all_goals (
    open_payloads
    have hl : (⟨(y 1).val % 128, Nat.mod_lt _ (by decide)⟩ : Fin 128) = z 1 := Fin.ext (by show (y 1).val % 128 = (z 1).val; omega)
    rw [hl, show y 0 = z 0 from Fin.ext h0]
    refine (rot_at x0 _ _ x4 x5 _ _ (by decide) z).trans ?_
    refine congrArg₂ (· + ·) (congrArg (· * _) (Finset.sum_congr rfl fun k _ => ?_)) (congrArg (· * _) (Finset.sum_congr rfl fun k _ => ?_))
    · rw [ld_at x1 _ _ k _ (y 1) (by simp only []; omega)]
    · rw [ld_at x2 _ _ k _ (y 1) (by simp only []; omega)])

end Cert.Proj3

end
-- ==== Proof.Host3.lean ====
/- The input projection: what the call's tables and weights hold. -/
module

public import proofs.«01_k».proof.Proof.Proj3
public import proofs.«01_k».proof.Proof.Gen.Pre_finite3

@[expose] public section

set_option maxRecDepth 16384
set_option maxHeartbeats 4000000

noncomputable section

namespace Cert.Host3

open Cert.Kernel3Ideal Cert.Kernel3Ideal.Gen Cert.Proj3
open Idealize.ShloMosaic Idealize.ShloMosaic.TcCoe Idealize.ShloMosaic.Pipeline

variable (m : (ℓ : Loc nD τ sig) → Buf (Elt Ideal) ℓ) (c : Dev nD)

/-- The rotation's angles: a row's position by a column's frequency. -/
def ang : FVec Ideal S16384x32 .f32 :=
  mulf (broadcastInDim S16384x32 ![0, 1] bcast_S16384x1_S16384x32_0_1 (broadcastInDim S16384x1 ![0] bcast_S16384_S16384x1_0 (sitofp .f32 (iotaInDim S16384 32 0))))
    (broadcastInDim S16384x32 ![0, 1] bcast_S1x32_S16384x32_0_1 (broadcastInDim S1x32 ![1] bcast_S32_S1x32_1
      (Host.powf (broadcastInDim S32 ![] bcast_S_S32 (constant S_ .f32 0x461C4000#32))
        (Host.divf (Host.negf (addf (broadcastInDim S32 ![] bcast_S_S32 (constant S_ .f32 0x00000000#32))
          (mulf (broadcastInDim S32 ![] bcast_S_S32 (constant S_ .f32 0x40000000#32)) (sitofp .f32 (iotaInDim S32 32 0)))))
          (broadcastInDim S32 ![] bcast_S_S32 (constant S_ .f32 0x42800000#32))))))

/-- A table of 32 columns, four times over. -/
def table (f : FVec Ideal S16384x32 .f32) : FVec Ideal S16384x128 .f32 :=
  shapeCast S16384x128 (broadcastInDim S1x16384x4x32 ![0, 1, 2, 3] bcast_S1x16384x1x32_S1x16384x4x32_0_1_2_3 (shapeCast S1x16384x1x32 f shapeCasts_S16384x32_S1x16384x1x32)) shapeCasts_S1x16384x4x32_S16384x128

/-- The columns that the gather takes. -/
def partners : IVec S2048x1 32 :=
  broadcastInDim S2048x1 ![0] bcast_S2048_S2048x1_0 (select (constantI S2048 1 0#1) (addi (fun i => lit0 (S2048.rowMajor i)) (broadcastInDim S2048 ![] bcast_S_S2048 (constantI S_ 32 2048#32))) (fun i => lit0 (S2048.rowMajor i)))

/-- The weights with each column replaced by its partner's, signed. -/
def turned (w : FVec Ideal S1024x2048 .f32) : FVec Ideal S1024x2048 .bf16 :=
  truncf .bf16 (mulf (Host.gather gather_S1024x2048_S2048x1_S1024x2048_0_1_n_n_1_1_10241 w partners)
    (broadcastInDim S1024x2048 ![0, 1] bcast_S1x2048_S1024x2048_0_1 (broadcastInDim S1x2048 ![1] bcast_S2048_S1x2048_1 (fun i => FloatOps.ofBits .f32 (lit1 (S2048.rowMajor i)))))) bitsLt_bf16_f32

/-- The rotated columns' weights as the call reads them. -/
def castA (w : FVec Ideal S1024x2048 .f32) : FVec Ideal S1024x2048 .bf16 := truncf .bf16 w bitsLt_bf16_f32

/-- The other columns' weights as the call reads them. -/
def castB (w : FVec Ideal S1024x2560 .f32) : FVec Ideal S1024x2560 .bf16 := truncf .bf16 w bitsLt_bf16_f32

/-- The rows at the call. -/
theorem V_x : V m c main_v34 = shapeCast S32768x1024 (m ((c : Thread nD τ).loc main_arg0)) shapeCasts_S2x16384x1024_S32768x1024 := by
  unfold V
  simp only [hostOps0]
  after_results_simp <;> rfl

/-- The rotated columns' weights at the call. -/
theorem V_a : V m c main_v35 = castA (m ((c : Thread nD τ).loc main_arg1)) := by
  unfold V
  simp only [hostOps0]
  after_results_simp <;> rfl

/-- The partners' weights at the call. -/
theorem V_ar : V m c main_v33 = turned (m ((c : Thread nD τ).loc main_arg1)) := by
  unfold V
  simp only [hostOps0]
  after_results_simp <;> rfl

/-- The other columns' weights at the call. -/
theorem V_bw : V m c main_v36 = castB (m ((c : Thread nD τ).loc main_arg2)) := by
  unfold V
  simp only [hostOps0]
  after_results_simp <;> rfl

/-- The cosines at the call. -/
theorem V_cos : V m c main_v20 = table (Host.cos ang) := by
  unfold V
  simp only [hostOps0]
  after_results_simp <;> rfl

/-- The sines at the call. -/
theorem V_sin : V m c main_v24 = table (Host.sin ang) := by
  unfold V
  simp only [hostOps0]
  after_results_simp <;> rfl

end Cert.Host3

end
-- ==== Proof.Turn3.lean ====
/- The input projection: the partners' weights and the tables at an index. -/
module

public import proofs.«01_k».proof.Proof.Host3

@[expose] public section

set_option maxRecDepth 16384
set_option maxHeartbeats 4000000

noncomputable section

namespace Cert.Turn3

open Cert.Kernel3Ideal Cert.Kernel3Ideal.Gen Cert.Host3
open Idealize.ShloMosaic Idealize.ShloMosaic.TcCoe Idealize.ShloMosaic.Pipeline

/-- The column a rotated column is paired with: 32 on in the first half of a head, 32 back in the second. -/
def partner (j : Nat) : Nat := if j % 64 < 32 then j + 32 else j - 32

/-- The table of partners holds them. -/
theorem lit0_eq : ∀ j : Fin 2048, lit0 j = BitVec.ofNat 32 (partner j.val) := by decide +kernel

/-- The table of signs holds minus one in the first half of a head, and one in the second. -/
theorem lit1_eq : ∀ j : Fin 2048, lit1 j = if j.val % 64 < 32 then 0xBF800000#32 else 0x3F800000#32 := by decide +kernel

/-- A partner is a column. -/
theorem partner_lt (j : Fin 2048) : partner j.val < 2048 := by
  have h := j.isLt
  unfold partner
  split <;> omega

/-- The row-major position of a column. -/
theorem flat (j : Fin 2048) : S2048.rowMajor (ix1 j) = j := Fin.ext (rowMajor_val1 _)

/-- The word of one. -/
theorem bits_pos : Ideal.ofBits .f32 0x3F800000#32 = ((1 : ℝ) : EReal) := by
  simp [Ideal.ofBits, Ideal.ieee]
  rw [← EReal.coe_mul]
  norm_num

/-- The word of minus one. -/
theorem bits_neg : Ideal.ofBits .f32 0xBF800000#32 = ((-1 : ℝ) : EReal) := by
  simp [Ideal.ofBits, Ideal.ieee]
  rw [← EReal.coe_mul]
  norm_num

/-- The partners' index table at a column. -/
theorem partners_at (j : Fin 2048) : partners (ix2 j 0) = BitVec.ofNat 32 (partner j.val) := by
  rw [← lit0_eq]
  unfold partners
  pointwise []
  exact congrArg lit0 (flat j)

/-- The column the gather takes. -/
theorem gather_at (x : FVec Ideal S1024x2048 .f32) (idx : IVec S2048x1 32) (k : Fin 1024) (j : Fin 2048) :
    Host.gather gather_S1024x2048_S2048x1_S1024x2048_0_1_n_n_1_1_10241 x idx (ix2 k j) = x (ix2 k ⟨min (idx (ix2 j 0)).toInt.toNat 2047, by omega⟩) := by
  unfold Host.gather
  refine congrArg x ?_
  funext a
  refine Fin.ext ?_
  let d := gather_S1024x2048_S2048x1_S1024x2048_0_1_n_n_1_1_10241
  show d.start (ix2 k j) idx a + d.batchCoord (ix2 k j) a + d.offCoord (ix2 k j) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start GatherDims.offCoord
    rw [dif_neg (show (0 : Fin 2) ∉ d.startIndexMap by decide), dif_pos (show (0 : Fin 2) ∈ d.sKept by decide)]
    exact (Nat.zero_add _).trans rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix2 k j) ⟨List.idxOf (1 : Fin 2) d.startIndexMap, List.idxOf_lt_length_iff.2 (List.mem_singleton.mpr rfl)⟩ = ix2 j 0 := by
      funext b; refine Fin.ext ?_
      match b with
      | ⟨0, _⟩ => rfl
      | ⟨1, _⟩ => rfl
    rw [hsi]
    rfl

/-- A table at an index. -/
theorem table_at (f : FVec Ideal S16384x32 .f32) (s : Fin 16384) (l : Fin 128) : table f (ix2 s l) = f (ix2 s ⟨l.val % 32, Nat.mod_lt _ (by decide)⟩) := by
  unfold table
  pointwise []

/-- The partners' weights at an index. -/
theorem turned_at (w : FVec Ideal S1024x2048 .f32) (k : Fin 1024) (j : Fin 2048) :
    turned w (ix2 k j) = w (ix2 k ⟨partner j.val, partner_lt j⟩) * (if j.val % 64 < 32 then ((-1 : ℝ) : EReal) else ((1 : ℝ) : EReal)) := by
  unfold turned
  pointwise []
  have hp := partner_lt j
  have e : min (partners (ix2 j 0)).toInt.toNat 2047 = partner j.val := by
    have h : (BitVec.ofNat 32 (partner j.val)).toInt = (partner j.val : Int) := by
      rw [BitVec.toInt_eq_toNat_of_lt (by rw [BitVec.toNat_ofNat]; omega), BitVec.toNat_ofNat]
      omega
    rw [partners_at, h]
    omega
  rw [gather_at, show lit1 (S2048.rowMajor (ix1 j)) = lit1 j from congrArg lit1 (flat j), lit1_eq]
  refine congrArg₂ (· * ·) (congrArg w (congrArg (ix2 k) (Fin.ext e))) ?_
  split
  · exact bits_neg
  · exact bits_pos

end Cert.Turn3

end
-- ==== Proof.Arr3.lean ====
/- The input projection: the kernel's two arrays. -/
module

public import proofs.«01_k».proof.Proof.Turn3

@[expose] public section

set_option maxRecDepth 16384
set_option maxHeartbeats 4000000

noncomputable section

namespace Cert.Arr3

open Cert.Kernel3Ideal Cert.Kernel3Ideal.Gen Cert.Host3 Cert.Turn3 Cert.Proj3
open Idealize.ShloMosaic Idealize.ShloMosaic.TcCoe Idealize.ShloMosaic.Pipeline Idealize.SL.Sem

variable (m : (ℓ : Loc nD τ sig) → Buf (Elt Ideal) ℓ) (c : Dev nD)

/-- The windows' block indices at point `t`. -/
theorem index_at (t : Fin cfg0.N) : win0_0.index t = ![t.val, 0] ∧ win0_1.index t = ![0, 0] ∧ win0_2.index t = ![0, 0] ∧ win0_3.index t = ![0, 0] ∧ win0_4.index t = ![t.val % 32, 0]
    ∧ win0_5.index t = ![t.val % 32, 0] ∧ win0_6.index t = ![t.val, 0] ∧ win0_7.index t = ![t.val, 0] := by
  revert t
  decide +kernel

/-- Row `r` of point `t`'s blocks. -/
def row (t : Fin cfg0.N) (r : Fin 512) : Fin 32768 := ⟨t.val * 512 + r.val, by have h : t.val < 64 := t.isLt; omega⟩

/-- A row's batch. -/
def bat (r : Fin 32768) : Fin 2 := ⟨r.val / 16384, by omega⟩

/-- A row's position. -/
def pos (r : Fin 32768) : Fin 16384 := ⟨r.val % 16384, Nat.mod_lt _ (by decide)⟩

/-- A row in the rows' list. -/
theorem rows_at (x : FVec Ideal S2x16384x1024 .f32) (r : Fin 32768) (k : Fin 1024) : shapeCast S32768x1024 x shapeCasts_S2x16384x1024_S32768x1024 (ix2 r k) = x (ix3 (bat r) (pos r) k) := by
  unfold bat pos
  pointwise []

/-- The sign of a column's partner. -/
def sign (j : Nat) : EReal := if j % 64 < 32 then ((-1 : ℝ) : EReal) else ((1 : ℝ) : EReal)

/-- The weight of a column's partner, signed. -/
def other (w : FVec Ideal S1024x2048 .f32) (k : Fin 1024) (j : Fin 2048) : EReal := w (ix2 k ⟨partner j.val, partner_lt j⟩) * sign j.val

/-- The rows' block. -/
theorem blk0 (t : Fin cfg0.N) (r : Fin 512) (k : Fin 1024) : iblk m c 0 t (ix2 r k) = m ((c : Thread nD τ).loc main_arg0) (ix3 (bat (row t r)) (pos (row t r)) k) := by
  have h : iblk m c 0 t (ix2 r k) = V m c main_v34 (ix2 (row t r) k) := by
    blk_ext [iblk, index_at t, row]
  rw [h, V_x]
  exact rows_at _ _ k

/-- The rotated columns' weights' block. -/
theorem blk1 (t : Fin cfg0.N) (k : Fin 1024) (j : Fin 2048) : iblk m c 1 t (ix2 k j) = m ((c : Thread nD τ).loc main_arg1) (ix2 k j) := by
  have h : iblk m c 1 t (ix2 k j) = V m c main_v35 (ix2 k j) := by
    blk_ext [iblk, index_at t]
  rw [h, V_a]
  rfl

/-- The partners' weights' block. -/
theorem blk2 (t : Fin cfg0.N) (k : Fin 1024) (j : Fin 2048) :
    iblk m c 2 t (ix2 k j) = other (m ((c : Thread nD τ).loc main_arg1)) k j := by
  have h : iblk m c 2 t (ix2 k j) = V m c main_v33 (ix2 k j) := by
    blk_ext [iblk, index_at t]
  rw [h, V_ar]
  exact turned_at _ k j

/-- The other columns' weights' block. -/
theorem blk3 (t : Fin cfg0.N) (k : Fin 1024) (j : Fin 2560) : iblk m c 3 t (ix2 k j) = m ((c : Thread nD τ).loc main_arg2) (ix2 k j) := by
  have h : iblk m c 3 t (ix2 k j) = V m c main_v36 (ix2 k j) := by
    blk_ext [iblk, index_at t]
  rw [h, V_bw]
  rfl

/-- The position of a row of point `t`'s blocks. -/
theorem pos_row (t : Fin cfg0.N) (r : Fin 512) : (pos (row t r)).val = t.val % 32 * 512 + r.val := by
  show (t.val * 512 + r.val) % 16384 = _
  have h : t.val < 64 := t.isLt
  omega

/-- The cosines' block. -/
theorem blk4 (t : Fin cfg0.N) (r : Fin 512) (l : Fin 128) : iblk m c 4 t (ix2 r l) = Host.cos ang (ix2 (pos (row t r)) ⟨l.val % 32, Nat.mod_lt _ (by decide)⟩) := by
  have h : iblk m c 4 t (ix2 r l) = V m c main_v20 (ix2 ⟨t.val % 32 * 512 + r.val, by omega⟩ l) := by
    blk_ext [iblk, index_at t]
  rw [h, V_cos, table_at]
  exact congrArg (fun s => Host.cos ang (ix2 s _)) (Fin.ext (pos_row t r).symm)

/-- The sines' block. -/
theorem blk5 (t : Fin cfg0.N) (r : Fin 512) (l : Fin 128) : iblk m c 5 t (ix2 r l) = Host.sin ang (ix2 (pos (row t r)) ⟨l.val % 32, Nat.mod_lt _ (by decide)⟩) := by
  have h : iblk m c 5 t (ix2 r l) = V m c main_v24 (ix2 ⟨t.val % 32 * 512 + r.val, by omega⟩ l) := by
    blk_ext [iblk, index_at t]
  rw [h, V_sin, table_at]
  exact congrArg (fun s => Host.sin ang (ix2 s _)) (Fin.ext (pos_row t r).symm)

/-- A rotated column of a row. -/
def outA (x : FVec Ideal S2x16384x1024 .f32) (w : FVec Ideal S1024x2048 .f32) (r : Fin 32768) (j : Fin 2048) : EReal :=
  (∑ k : Fin 1024, x (ix3 (bat r) (pos r) k) * w (ix2 k j)) * Host.cos ang (ix2 (pos r) ⟨j.val % 32, Nat.mod_lt _ (by decide)⟩) +
    (∑ k : Fin 1024, x (ix3 (bat r) (pos r) k) * other w k j) * Host.sin ang (ix2 (pos r) ⟨j.val % 32, Nat.mod_lt _ (by decide)⟩)

/-- Another column of a row. -/
def outB (x : FVec Ideal S2x16384x1024 .f32) (w : FVec Ideal S1024x2560 .f32) (r : Fin 32768) (j : Fin 2560) : EReal :=
  ∑ k : Fin 1024, x (ix3 (bat r) (pos r) k) * w (ix2 k j)

/-- The rotated columns as an array. -/
def arrA : Vec Ideal S32768x2048 .bf16 := fun y => outA (m ((c : Thread nD τ).loc main_arg0)) (m ((c : Thread nD τ).loc main_arg1)) (y 0) (y 1)

/-- The other columns as an array. -/
def arrB : Vec Ideal S32768x2560 .bf16 := fun y => outB (m ((c : Thread nD τ).loc main_arg0)) (m ((c : Thread nD τ).loc main_arg2)) (y 0) (y 1)

/-- The rotated columns that a grid point writes. -/
theorem pointA (t : Fin cfg0.N) (r : Fin 512) (j : Fin 2048) :
    out0_6 (iblk m c 0 t) (iblk m c 1 t) (iblk m c 2 t) (iblk m c 3 t) (iblk m c 4 t) (iblk m c 5 t) (ix2 r j) = outA (m ((c : Thread nD τ).loc main_arg0)) (m ((c : Thread nD τ).loc main_arg1)) (row t r) j := by
  rw [outA_at]
  unfold outA
  have hl : (j.val % 128) % 32 = j.val % 32 := by omega
  refine congrArg₂ (· + ·) (congrArg₂ (· * ·) (Finset.sum_congr rfl fun k _ => congrArg₂ (· * ·) (blk0 m c t r k) (blk1 m c t k j)) ?_)
    (congrArg₂ (· * ·) (Finset.sum_congr rfl fun k _ => congrArg₂ (· * ·) (blk0 m c t r k) (blk2 m c t k j)) ?_)
  · exact (blk4 m c t r _).trans (congrArg (fun l => Host.cos ang (ix2 (pos (row t r)) l)) (Fin.ext hl))
  · exact (blk5 m c t r _).trans (congrArg (fun l => Host.sin ang (ix2 (pos (row t r)) l)) (Fin.ext hl))

/-- The other columns that a grid point writes. -/
theorem pointB (t : Fin cfg0.N) (r : Fin 512) (j : Fin 2560) :
    out0_7 (iblk m c 0 t) (iblk m c 1 t) (iblk m c 2 t) (iblk m c 3 t) (iblk m c 4 t) (iblk m c 5 t) (ix2 r j) = outB (m ((c : Thread nD τ).loc main_arg0)) (m ((c : Thread nD τ).loc main_arg2)) (row t r) j := by
  rw [outB_at]
  unfold outB
  exact Finset.sum_congr rfl fun k _ => congrArg₂ (· * ·) (blk0 m c t r k) (blk3 m c t k j)

/-- The grid's blocks make up the array of the rotated columns. -/
theorem arrA_eq : (dats m 0 c).arrAt 6 cfg0.N = arrA m c := by
  refine (dats m 0 c).arrAt_eq_of_covers 6 (arrA m c) (by decide +kernel) fun t hf y => ?_
  blk_simp
  rw [after0_6]
  have ht := (index_at t).2.2.2.2.2.2.1
  have e0 : ((win0_6.blk t).view.emb y) 0 = row t (y 0) := Fin.ext ((Window.rect_emb_val win0_6 t y 0 rfl).trans (by rw [ht]; rfl))
  have e1 : ((win0_6.blk t).view.emb y) 1 = y 1 := Fin.ext ((Window.rect_emb_val win0_6 t y 1 rfl).trans (by rw [ht]; show 0 * 2048 + (y 1).val = _; omega))
  rw [eq_ix2 y]
  refine (pointA m c t (y 0) (y 1)).trans ?_
  exact (congrArg₂ (outA (m ((c : Thread nD τ).loc main_arg0)) (m ((c : Thread nD τ).loc main_arg1))) e0 e1).symm

/-- The grid's blocks make up the array of the other columns. -/
theorem arrB_eq : (dats m 0 c).arrAt 7 cfg0.N = arrB m c := by
  refine (dats m 0 c).arrAt_eq_of_covers 7 (arrB m c) (by decide +kernel) fun t hf y => ?_
  blk_simp
  rw [after0_7]
  have ht := (index_at t).2.2.2.2.2.2.2
  have e0 : ((win0_7.blk t).view.emb y) 0 = row t (y 0) := Fin.ext ((Window.rect_emb_val win0_7 t y 0 rfl).trans (by rw [ht]; rfl))
  have e1 : ((win0_7.blk t).view.emb y) 1 = y 1 := Fin.ext ((Window.rect_emb_val win0_7 t y 1 rfl).trans (by rw [ht]; show 0 * 2560 + (y 1).val = _; omega))
  rw [eq_ix2 y]
  refine (pointB m c t (y 0) (y 1)).trans ?_
  exact (congrArg₂ (outB (m ((c : Thread nD τ).loc main_arg0)) (m ((c : Thread nD τ).loc main_arg2))) e0 e1).symm

/-- A run leaves the two arrays in its results, and its arguments as they were. -/
theorem run_out (ρ : Dev nD → PrngReg) :
    θ_run defs (onTc (τ := τ) (main (F := Ideal))) ⟨m, fun _ => 0, ρ⟩ fun r => ∀ c : Dev nD,
      r.2.mem ((c.tc : Thread nD τ).loc main_v37_0) = arrA m c
      ∧ r.2.mem ((c.tc : Thread nD τ).loc main_v37_1) = arrB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (arrA_eq m c), (h c).2.1.trans (arrB_eq m c), (h c).2.2⟩) (Cert.Kernel3Ideal.Value.run_blocks m ρ)

end Cert.Arr3

end
-- ==== Proof.Ref3.lean ====
/- The input projection: the reference's two arrays at an index, and their equality with the kernel's. -/
module

public import proofs.«01_k».proof.Proof.Arr3
public import proofs.«01_k».proof.Proof.Finite
public import Idealize.ShloMosaic.Lib.ReduceAll
public import Idealize.ShloMosaic.Lib.Affine

@[expose] public section

set_option maxRecDepth 16384
set_option maxHeartbeats 4000000

noncomputable section

namespace Cert.Ref3

open Cert.Reference3Ideal Cert.Reference3Ideal.Gen Cert.Arr3 Cert.Turn3
open Idealize.ShloMosaic Idealize.ShloMosaic.TcCoe Idealize.ShloMosaic.Pipeline Idealize.SL.Sem

/-- The rotated columns' products. -/
def prods (x : FVec Ideal S2x16384x1024 .f32) (w : FVec Ideal S1024x2048 .f32) : FVec Ideal S2x16384x32x64 .f32 :=
  shapeCast S2x16384x32x64 (Host.dotGeneral dot_S2x16384x1024_S1024x2048_S2x16384x2048_2_0_01_1_n_n none x w) shapeCasts_S2x16384x2048_S2x16384x32x64

/-- A table of a row's 32 columns, for every batch and head. -/
def spread (f : FVec Ideal S16384x32 .f32) : FVec Ideal S2x16384x32x32 .f32 :=
  broadcastInDim S2x16384x32x32 ![0, 1, 2, 3] bcast_S1x16384x1x32_S2x16384x32x32_0_1_2_3 (broadcastInDim S1x16384x1x32 ![1, 2, 3] bcast_S16384x1x32_S1x16384x1x32_1_2_3 (shapeCast S16384x1x32 f shapeCasts_S16384x32_S16384x1x32))

/-- A head's first half. -/
def lo (u : FVec Ideal S2x16384x32x64 .f32) : FVec Ideal S2x16384x32x32 .f32 := extractStridedSlice S2x16384x32x32 ![0, 0, 0, 0] u slices_S2x16384x32x64_S2x16384x32x32_0_0_0_0

/-- A head's second half. -/
def hi (u : FVec Ideal S2x16384x32x64 .f32) : FVec Ideal S2x16384x32x32 .f32 := extractStridedSlice S2x16384x32x32 ![0, 0, 0, 32] u slices_S2x16384x32x64_S2x16384x32x32_0_0_0_32

/-- The rotation. -/
def rot (u : FVec Ideal S2x16384x32x64 .f32) (f g : FVec Ideal S16384x32 .f32) : FVec Ideal S32768x2048 .bf16 :=
  truncf .bf16 (shapeCast S32768x2048 (concatenate S2x16384x32x64 3 [⟨S2x16384x32x32, subf (mulf (lo u) (spread f)) (mulf (hi u) (spread g))⟩, ⟨S2x16384x32x32, addf (mulf (hi u) (spread f)) (mulf (lo u) (spread g))⟩]
    concatenates_S2x16384x32x32_S2x16384x32x32_S2x16384x32x64_d3) shapeCasts_S2x16384x32x64_S32768x2048) bitsLt_bf16_f32

/-- The other columns. -/
def others (x : FVec Ideal S2x16384x1024 .f32) (w : FVec Ideal S1024x2560 .f32) : FVec Ideal S32768x2560 .bf16 :=
  truncf .bf16 (shapeCast S32768x2560 (Host.dotGeneral dot_S2x16384x1024_S1024x2560_S2x16384x2560_2_0_01_1_n_n none x w) shapeCasts_S2x16384x2560_S32768x2560) bitsLt_bf16_f32

/-- The reference's first result. -/
theorem res_eq (m : (ℓ : Loc nD τ sig) → Buf (Elt Ideal) ℓ) (c : Dev nD) :
    Cert.Reference3Ideal.Value.res_out0 m c = rot (prods (m ((c : Thread nD τ).loc main_arg0)) (m ((c : Thread nD τ).loc main_arg1))) (Host.cos Cert.Host3.ang) (Host.sin Cert.Host3.ang) := by
  unfold Cert.Reference3Ideal.Value.res_out0 Cert.Reference3Ideal.Value.res_main_v42 rot prods spread lo hi Cert.Host3.ang
  rfl

/-- A product at an index. -/
theorem prods_at (x : FVec Ideal S2x16384x1024 .f32) (w : FVec Ideal S1024x2048 .f32) (b : Fin 2) (s : Fin 16384) (h : Fin 32) (e : Fin 64) :
    prods x w (ix4 b s h e) = ∑ k : Fin 1024, x (ix3 b s k) * w (ix2 k ⟨h.val * 64 + e.val, by omega⟩) := by
  unfold prods
  pointwise []

/-- A spread table at an index. -/
theorem spread_at (f : FVec Ideal S16384x32 .f32) (b : Fin 2) (s : Fin 16384) (h : Fin 32) (e : Fin 32) : spread f (ix4 b s h e) = f (ix2 s e) := by
  unfold spread
  pointwise []

/-- The other columns at an index. -/
theorem others_at (x : FVec Ideal S2x16384x1024 .f32) (w : FVec Ideal S1024x2560 .f32) (r : Fin 32768) (j : Fin 2560) : others x w (ix2 r j) = outB x w r j := by
  unfold others outB bat pos
  pointwise []

/-- A sum of real numbers is one. -/
theorem coe_total (f : Fin 1024 → ℝ) : ((∑ k, f k : ℝ) : EReal) = ∑ k, (f k : EReal) := by
  refine Finset.induction_on (Finset.univ : Finset (Fin 1024)) ?_ fun a s h e => ?_
  · simp
  · rw [Finset.sum_insert h, Finset.sum_insert h, EReal.coe_add, e]

/-- The sum of the products with the negated weights is the negative of the products' sum, over real numbers. -/
theorem sum_neg (a b : Fin 1024 → EReal) (ha : ∀ k, a k = ((a k).toReal : EReal)) (hb : ∀ k, b k = ((b k).toReal : EReal)) :
    ∑ k, a k * (b k * ((-1 : ℝ) : EReal)) = -∑ k, a k * b k := by
  have e1 : ∑ k, a k * (b k * ((-1 : ℝ) : EReal)) = ((∑ k, (a k).toReal * ((b k).toReal * -1) : ℝ) : EReal) := by
    rw [coe_total]
    refine Finset.sum_congr rfl fun k _ => ?_
    conv_lhs => rw [ha k, hb k]
    rw [← EReal.coe_mul, ← EReal.coe_mul]
  have e2 : ∑ k, a k * b k = ((∑ k, (a k).toReal * (b k).toReal : ℝ) : EReal) := by
    rw [coe_total]
    refine Finset.sum_congr rfl fun k _ => ?_
    conv_lhs => rw [ha k, hb k]
    rw [← EReal.coe_mul]
  rw [e1, e2, ← EReal.coe_neg, ← Finset.sum_neg_distrib]
  exact congrArg _ (Finset.sum_congr rfl fun k _ => by ring)

/-- The reference's rotated columns are the kernel's, at real rows and weights. -/
theorem rot_at (x : FVec Ideal S2x16384x1024 .f32) (w : FVec Ideal S1024x2048 .f32) (hx : ∀ i, x i = ((x i).toReal : EReal)) (hw : ∀ i, w i = ((w i).toReal : EReal)) (r : Fin 32768) (j : Fin 2048) :
    rot (prods x w) (Host.cos Cert.Host3.ang) (Host.sin Cert.Host3.ang) (ix2 r j) = outA x w r j := by
  have hj := j.isLt
  unfold rot lo hi
  pointwise []
  unfold outA other sign partner bat pos
  split
  · rename_i h
    have h' : ¬ ((j.val % 64 : Nat) : Nat) ≥ 32 := by omega
    rw [prods_at, prods_at, spread_at, spread_at]
    simp only [h, if_true]
    rw [sum_neg _ _ (fun k => hx _) (fun k => hw _), EReal.neg_mul, ← sub_eq_add_neg]
    refine congrArg₂ (· - ·) (congrArg₂ (· * ·) (Finset.sum_congr rfl fun k _ => congrArg (_ * ·) (congrArg (fun l => w (ix2 k l)) (Fin.ext ?_))) (congrArg (fun l => Host.cos Cert.Host3.ang (ix2 _ l)) (Fin.ext ?_)))
      (congrArg₂ (· * ·) (Finset.sum_congr rfl fun k _ => congrArg (_ * ·) (congrArg (fun l => w (ix2 k l)) (Fin.ext ?_))) (congrArg (fun l => Host.sin Cert.Host3.ang (ix2 _ l)) (Fin.ext ?_)))
    all_goals (simp only []; omega)
  · rename_i h
    rw [prods_at, prods_at, spread_at, spread_at]
    simp only [h, if_false, EReal.coe_one, mul_one]
    refine congrArg₂ (· + ·) (congrArg₂ (· * ·) (Finset.sum_congr rfl fun k _ => congrArg (_ * ·) (congrArg (fun l => w (ix2 k l)) (Fin.ext ?_))) (congrArg (fun l => Host.cos Cert.Host3.ang (ix2 _ l)) (Fin.ext ?_)))
      (congrArg₂ (· * ·) (Finset.sum_congr rfl fun k _ => congrArg (_ * ·) (congrArg (fun l => w (ix2 k l)) (Fin.ext ?_))) (congrArg (fun l => Host.sin Cert.Host3.ang (ix2 _ l)) (Fin.ext ?_)))
    all_goals (simp only []; omega)

/-- A test of an array for finite entries, passed, says they are real numbers. -/
theorem real_all {s u : Shape} [Subsingleton u.Idx] {axes : List (Fin s.rank)} (x : FVec Ideal s .f32) {hb : Cert.Pre_finite3.S_.BroadcastsInDim s ![]} (v : u.Idx → BitVec 1) {h : s.ReducesTo axes u} {hu : 0 < u.numel} (j : u.Idx)
    (e : Host.reduce IntOp.andi (cmpf .olt (Host.absf x) (broadcastInDim s ![] hb (constant Cert.Pre_finite3.S_ .f32 0x7F800000#32))) v h hu j = 1#1) (i : s.Idx) :
    x i = ((x i).toReal : EReal) :=
  Cert.Finite.real_of (x i) (Host.reduce_andi_all _ v h hu j e i)

/-- The index of a result of no axes is one. -/
instance : Subsingleton Cert.Pre_finite3.S_.Idx := ⟨fun a b => funext fun x => x.elim0⟩

/-- Under the precondition the rows and the rotated columns' weights are real numbers. -/
theorem args (m : (ℓ : Loc Cert.Kernel3Ideal.nD Cert.Kernel3Ideal.τ Cert.Kernel3Ideal.sig) → Buf (Elt Ideal) ℓ) (H : Cert.Pre_Kernel3Ideal_finite3 m) (c : Dev Cert.Kernel3Ideal.nD) :
    (∀ i : S2x16384x1024.Idx, (m ((c.tc : Thread Cert.Kernel3Ideal.nD Cert.Kernel3Ideal.τ).loc Cert.Kernel3Ideal.main_arg0) : FVec Ideal S2x16384x1024 .f32) i
        = (((m ((c.tc : Thread Cert.Kernel3Ideal.nD Cert.Kernel3Ideal.τ).loc Cert.Kernel3Ideal.main_arg0) : FVec Ideal S2x16384x1024 .f32) i).toReal : EReal))
      ∧ ∀ i : S1024x2048.Idx, (m ((c.tc : Thread Cert.Kernel3Ideal.nD Cert.Kernel3Ideal.τ).loc Cert.Kernel3Ideal.main_arg1) : FVec Ideal S1024x2048 .f32) i
        = (((m ((c.tc : Thread Cert.Kernel3Ideal.nD Cert.Kernel3Ideal.τ).loc Cert.Kernel3Ideal.main_arg1) : FVec Ideal S1024x2048 .f32) i).toReal : EReal) := by
  obtain ⟨h0, h1⟩ := IntOp.andi_eq_one.1 (congrFun (H c) ix0)
  exact ⟨fun i => real_all _ _ ix0 h0 i, fun i => real_all _ _ ix0 h1 i⟩

end Cert.Ref3

end
-- ==== Proof.lean ====
/- The proof of the certificate's claim: the frames, the preservation of the program by its ideal reading, and the
   algebraic equality of the kernel's ideal reading with the reference's. -/
module

public import proofs.«01_k».proof.Defs
public import proofs.«01_k».proof.Proof.Frames
public import proofs.«01_k».proof.Proof.Frames4
public import proofs.«01_k».proof.Proof.Gen.ReferenceIdeal.Run
public import proofs.«01_k».proof.Proof.Gen.Pre_finite
public import proofs.«01_k».proof.Proof.Array
public import proofs.«01_k».proof.Proof.Finite
public import proofs.«01_k».proof.Proof.RefValue
public import proofs.«01_k».proof.Proof.Arr2
public import proofs.«01_k».proof.Proof.Ref3

@[expose] public section

set_option maxRecDepth 16384
set_option maxHeartbeats 1000000

noncomputable section

namespace Cert.Proof

open Idealize.ShloMosaic Idealize.SL.Sem

/-- The reference's ideal reading terminates and leaves its arguments as they were. -/
theorem reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- On finite queries, keys, values and factors the kernel's ideal reading and the reference's compute the same array. -/
theorem algebraic : Cert.algebraic_KernelIdeal_ReferenceIdeal_pre_finite := fun m g m' g' H E => by
  choose Q K W a b d f L HA using fun c => Cert.Finite.args m H c
  refine ⟨fun c => Cert.Array.outArr (fun l => m ((c.tc : Thread Cert.KernelIdeal.nD Cert.KernelIdeal.τ).loc Cert.KernelIdeal.main_arg11) (ix1 l)) (Q c) (K c) (W c) (a c) (b c) (d c) (f c) (L c),
    Cert.Array.run_out m g Q K W a b d f L HA, ?_⟩
  refine (θ_run Cert.ReferenceIdeal.defs _ _).mono (fun r h c => ⟨(h c).1.trans ?_, (h c).2⟩) (Cert.ReferenceIdeal.Value.run (F := Ideal) m' g')
  obtain ⟨e0, e1, e2, e3, e4, e5, e6, e7, e8, e9, e10, e11⟩ := E c
  rw [Cert.RefStages.res_eq m' c, e0, e1, e2, e6, e7, e8, e9, e10, e11]
  funext y
  obtain ⟨n, i, h, e, rfl⟩ := Cert.Array.lane_of y
  exact (Cert.RefValue.result_spec (HA c).hq (HA c).hk (HA c).hv (HA c).ha (HA c).hb (HA c).hc (HA c).hd (HA c).hl n i h e).trans
    (Cert.Array.outArr_at _ _ _ _ _ _ _ _ _ n i h e _ rfl rfl rfl).symm

/-- The output projection's reference terminates and leaves its arguments as they were. -/
theorem reference2 : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)

/-- The output projection's ideal reading and its reference's compute the same array. -/
theorem algebraic2 : Cert.algebraic_Kernel2Ideal_Reference2Ideal := fun m g m' g' _ E => by
  refine ⟨fun c => Cert.Arr2.outArr m c, Cert.Arr2.run_out m g, ?_⟩
  refine (θ_run Cert.Reference2Ideal.defs _ _).mono (fun r h c => ⟨(h c).1.trans ?_, (h c).2⟩) (Cert.Reference2Ideal.Value.run (F := Ideal) m' g')
  obtain ⟨e0, e1, e2, e3, e4, e5, e6, e7⟩ := E c
  refine (Cert.Proj2.res_eq m' c).trans ?_
  rw [e0, e1, e2, e3, e4, e5, e6, e7]
  funext y
  rw [eq_ix2 y]
  refine (Cert.Proj2.normed_at _ _ _ (y 0) (y 1)).trans ?_
  show _ = Cert.Arr2.outAt m c (y 0) (y 1)
  unfold Cert.Arr2.outAt
  congr 1
  funext j
  exact Cert.Proj2.rows_at _ _ _ _ _ _ (y 0) j

/-- The input projection's reference terminates and leaves its arguments as they were. -/
theorem reference3 : Cert.quiescent_Reference3Ideal := fun m g _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m g)

/-- On finite rows and rotated columns' weights the input projection's ideal reading and its reference's compute the same two arrays. -/
theorem algebraic3 : Cert.algebraic_Kernel3Ideal_Reference3Ideal_pre_finite3 := fun m g m' g' H E => by
  refine ⟨fun c => Cert.Arr3.arrA m c, fun c => Cert.Arr3.arrB m c, Cert.Arr3.run_out m g, ?_⟩
  refine (θ_run Cert.Reference3Ideal.defs _ _).mono (fun r h c => ⟨(h c).1.trans ?_, (h c).2.1.trans ?_, (h c).2.2⟩) (Cert.Reference3Ideal.Value.run (F := Ideal) m' g')
  · obtain ⟨e0, e1, e2⟩ := E c
    obtain ⟨hx, hw⟩ := Cert.Ref3.args m H c
    refine (Cert.Ref3.res_eq m' c).trans ?_
    rw [e0, e1]
    funext y
    rw [eq_ix2 y]
    exact Cert.Ref3.rot_at _ _ hx hw (y 0) (y 1)
  · obtain ⟨e0, e1, e2⟩ := E c
    rw [e0, e2]
    funext y
    rw [eq_ix2 y]
    exact Cert.Ref3.others_at _ _ (y 0) (y 1)

/-- The whole claim. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Pre_finite.Gen.facts, Cert.Pre_finite3.Gen.facts,
    Cert.Frames.kernel, Cert.Frames.ideal, fun m g _ => Cert.Frames.ideal m g trivial, reference, fun m g _ => reference m g trivial,
    fun m g _ => Cert.Kernel2.Gen.frame m g, fun m g _ => Cert.Kernel2Ideal.Gen.frame m g, reference2,
    fun m g _ => Cert.Kernel3.Gen.frame m g, fun m g _ => Cert.Kernel3Ideal.Gen.frame m g, fun m g _ => Cert.Kernel3Ideal.Gen.frame m g,
    reference3, fun m g _ => reference3 m g trivial, Cert.FoxFrames.kernel, Cert.FoxFrames.ideal, trivial, algebraic, trivial, algebraic2, trivial, algebraic3, trivial⟩

end Cert.Proof

end
